-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unmasked_finite [hPre_unmasked_finite : Cert.Pre_unmasked_finite.Facts] (m : (ℓ : Loc Cert.KernelIdeal.nD Cert.KernelIdeal.τ Cert.KernelIdeal.sig) → Buf (Elt Ideal) ℓ) : Prop :=
  ∀ c : Dev Cert.KernelIdeal.nD,
    (Cert.Pre_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unmasked_finite [hPre_unmasked_finite : Cert.Pre_unmasked_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_unmasked_finite [hKernelIdeal : Cert.KernelIdeal.Facts] [hPre_unmasked_finite : Cert.Pre_unmasked_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unmasked_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_unmasked_finite [hReferenceIdeal : Cert.ReferenceIdeal.Facts] [hPre_unmasked_finite : Cert.Pre_unmasked_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unmasked_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_unmasked_finite [hKernelIdeal : Cert.KernelIdeal.Facts] [hReferenceIdeal : Cert.ReferenceIdeal.Facts] [hPre_unmasked_finite : Cert.Pre_unmasked_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unmasked_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_unmasked_finite : Cert.Pre_unmasked_finite.Facts),
    quiescent_Kernel (hKernel := hKernel)
    ∧ quiescent_KernelIdeal (hKernelIdeal := hKernelIdeal)
    ∧ quiescent_KernelIdeal_pre_unmasked_finite (hKernelIdeal := hKernelIdeal) (hPre_unmasked_finite := hPre_unmasked_finite)
    ∧ quiescent_ReferenceIdeal (hReferenceIdeal := hReferenceIdeal)
    ∧ quiescent_ReferenceIdeal_pre_unmasked_finite (hReferenceIdeal := hReferenceIdeal) (hPre_unmasked_finite := hPre_unmasked_finite)
    ∧ preserves_Kernel_KernelIdeal
    ∧ algebraic_KernelIdeal_ReferenceIdeal_pre_unmasked_finite (hKernelIdeal := hKernelIdeal) (hReferenceIdeal := hReferenceIdeal) (hPre_unmasked_finite := hPre_unmasked_finite)
-- ==== Pre_unmasked_finite.lean ====
abbrev S1x2048x1024 : Shape := ⟨3, ![1, 2048, 1024]⟩
abbrev S1x2048 : Shape := ⟨2, ![1, 2048]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S1024 : Shape := ⟨1, ![1024]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S2x1024x4096 : S_.BroadcastsInDim S2x1024x4096 (![] : Fin 0 → Fin S2x1024x4096.rank)
  reducesTo_S2x1024x4096_S_d0_1_2 : S2x1024x4096.ReducesTo [0, 1, 2] S_
  bcast_S_S2x4096 : S_.BroadcastsInDim S2x4096 (![] : Fin 0 → Fin S2x4096.rank)
  reducesTo_S2x4096_S_d0_1 : S2x4096.ReducesTo [0, 1] S_
  bcast_S_S2x4096x1024 : S_.BroadcastsInDim S2x4096x1024 (![] : Fin 0 → Fin S2x4096x1024.rank)
  reducesTo_S2x4096x1024_S_d0_1_2 : S2x4096x1024.ReducesTo [0, 1, 2] S_

variable [Facts]

def fn_part5 {F : FTy → Type} [FloatOps F] (main_v82 : IVec S_ 1) (main_v83 : FVec F S2x1024 .f32) (main_v84 : FVec F S2x1024 .f32) : IVec S_ 1 :=
  let main_v85 : IVec S2x1024 1 := cmpf .olt main_v83 main_v84
  let main_c_33 : IVec S_ 1 := constantI S_ 1 1#1
  let main_v86 : IVec S_ 1 := (fun x v => Host.reduce IntOp.andi x v reducesTo_S2x1024_S_d0_1 h_S_) main_v85 main_c_33
  let main_v87 : IVec S_ 1 := andi main_v82 main_v86
  main_v87

def fn_part4 {F : FTy → Type} [FloatOps F] (main_arg14 : FVec F S2x4096x1024 .f32) (main_arg15 : FVec F S2x1024 .f32) (main_arg16 : FVec F S2x1024 .f32) (main_arg17 : FVec F S2x1024 .f32) (main_v67 : IVec S_ 1) : IVec S_ 1 :=
  let main_v68 : FVec F S2x4096x1024 .f32 := Host.absf main_arg14
  let main_cst_26 : FVec F S_ .f32 := constant S_ .f32 0x7F800000#32
  let main_v69 : FVec F S2x4096x1024 .f32 := broadcastInDim S2x4096x1024 ![] bcast_S_S2x4096x1024 main_cst_26
  let main_v70 : IVec S2x4096x1024 1 := cmpf .olt main_v68 main_v69
  let main_c_27 : IVec S_ 1 := constantI S_ 1 1#1
  let main_v71 : IVec S_ 1 := (fun x v => Host.reduce IntOp.andi x v reducesTo_S2x4096x1024_S_d0_1_2 h_S_) main_v70 main_c_27
  let main_v72 : IVec S_ 1 := andi main_v67 main_v71
  let main_v73 : FVec F S2x1024 .f32 := Host.absf main_arg15
  let main_cst_28 : FVec F S_ .f32 := constant S_ .f32 0x7F800000#32
  let main_v74 : FVec F S2x1024 .f32 := broadcastInDim S2x1024 ![] bcast_S_S2x1024 main_cst_28
  let main_v75 : IVec S2x1024 1 := cmpf .olt main_v73 main_v74
  let main_c_29 : IVec S_ 1 := constantI S_ 1 1#1
  let main_v76 : IVec S_ 1 := (fun x v => Host.reduce IntOp.andi x v reducesTo_S2x1024_S_d0_1 h_S_) main_v75 main_c_29
  let main_v77 : IVec S_ 1 := andi main_v72 main_v76
  let main_v78 : FVec F S2x1024 .f32 := Host.absf main_arg16
  let main_cst_30 : FVec F S_ .f32 := constant S_ .f32 0x7F800000#32
  let main_v79 : FVec F S2x1024 .f32 := broadcastInDim S2x1024 ![] bcast_S_S2x1024 main_cst_30
  let main_v80 : IVec S2x1024 1 := cmpf .olt main_v78 main_v79
  let main_c_31 : IVec S_ 1 := constantI S_ 1 1#1
  let main_v81 : IVec S_ 1 := (fun x v => Host.reduce IntOp.andi x v reducesTo_S2x1024_S_d0_1 h_S_) main_v80 main_c_31
  let main_v82 : IVec S_ 1 := andi main_v77 main_v81
  let main_v83 : FVec F S2x1024 .f32 := Host.absf main_arg17
  let main_cst_32 : FVec F S_ .f32 := constant S_ .f32 0x7F800000#32
  let main_v84 : FVec F S2x1024 .f32 := broadcastInDim S2x1024 ![] bcast_S_S2x1024 main_cst_32
  fn_part5 (F := F) main_v82 main_v83 main_v84

def fn_part3 {F : FTy → Type} [FloatOps F] (main_arg11 : FVec F S2x1024 .f32) (main_arg12 : FVec F S2x1024x4096 .f32) (main_arg13 : FVec F S2x4096 .f32) (main_arg14 : FVec F S2x4096x1024 .f32) (main_arg15 : FVec F S2x1024 .f32) (main_arg16 : FVec F S2x1024 .f32) (main_arg17 : FVec F S2x1024 .f32) (main_v47 : IVec S_ 1) (main_v50 : IVec S2x1024 1) : IVec S_ 1 :=
  let main_c_19 : IVec S_ 1 := constantI S_ 1 1#1
  let main_v51 : IVec S_ 1 := (fun x v => Host.reduce IntOp.andi x v reducesTo_S2x1024_S_d0_1 h_S_) main_v50 main_c_19
  let main_v52 : IVec S_ 1 := andi main_v47 main_v51
  let main_v53 : FVec F S2x1024 .f32 := Host.absf main_arg11
  let main_cst_20 : FVec F S_ .f32 := constant S_ .f32 0x7F800000#32
  let main_v54 : FVec F S2x1024 .f32 := broadcastInDim S2x1024 ![] bcast_S_S2x1024 main_cst_20
  let main_v55 : IVec S2x1024 1 := cmpf .olt main_v53 main_v54
  let main_c_21 : IVec S_ 1 := constantI S_ 1 1#1
  let main_v56 : IVec S_ 1 := (fun x v => Host.reduce IntOp.andi x v reducesTo_S2x1024_S_d0_1 h_S_) main_v55 main_c_21
  let main_v57 : IVec S_ 1 := andi main_v52 main_v56
  let main_v58 : FVec F S2x1024x4096 .f32 := Host.absf main_arg12
  let main_cst_22 : FVec F S_ .f32 := constant S_ .f32 0x7F800000#32
  let main_v59 : FVec F S2x1024x4096 .f32 := broadcastInDim S2x1024x4096 ![] bcast_S_S2x1024x4096 main_cst_22
  let main_v60 : IVec S2x1024x4096 1 := cmpf .olt main_v58 main_v59
  let main_c_23 : IVec S_ 1 := constantI S_ 1 1#1
  let main_v61 : IVec S_ 1 := (fun x v => Host.reduce IntOp.andi x v reducesTo_S2x1024x4096_S_d0_1_2 h_S_) main_v60 main_c_23
  let main_v62 : IVec S_ 1 := andi main_v57 main_v61
  let main_v63 : FVec F S2x4096 .f32 := Host.absf main_arg13
  let main_cst_24 : FVec F S_ .f32 := constant S_ .f32 0x7F800000#32
  let main_v64 : FVec F S2x4096 .f32 := broadcastInDim S2x4096 ![] bcast_S_S2x4096 main_cst_24
  let main_v65 : IVec S2x4096 1 := cmpf .olt main_v63 main_v64
  let main_c_25 : IVec S_ 1 := constantI S_ 1 1#1
  let main_v66 : IVec S_ 1 := (fun x v => Host.reduce IntOp.andi x v reducesTo_S2x4096_S_d0_1 h_S_) main_v65 main_c_25
  let main_v67 : IVec S_ 1 := andi main_v62 main_v66
  fn_part4 (F := F) main_arg14 main_arg15 main_arg16 main_arg17 main_v67

def fn_part2 {F : FTy → Type} [FloatOps F] (main_arg8 : FVec F S2x1024x1024 .f32) (main_arg9 : FVec F S2x1024 .f32) (main_arg10 : FVec F S2x1024 .f32) (main_arg11 : FVec F S2x1024 .f32) (main_arg12 : FVec F S2x1024x4096 .f32) (main_arg13 : FVec F S2x4096 .f32) (main_arg14 : FVec F S2x4096x1024 .f32) (main_arg15 : FVec F S2x1024 .f32) (main_arg16 : FVec F S2x1024 .f32) (main_arg17 : FVec F S2x1024 .f32) (main_v32 : IVec S_ 1) (main_v33 : FVec F S2x1024 .f32) : IVec S_ 1 :=
  let main_cst_12 : FVec F S_ .f32 := constant S_ .f32 0x7F800000#32
  let main_v34 : FVec F S2x1024 .f32 := broadcastInDim S2x1024 ![] bcast_S_S2x1024 main_cst_12
  let main_v35 : IVec S2x1024 1 := cmpf .olt main_v33 main_v34
  let main_c_13 : IVec S_ 1 := constantI S_ 1 1#1
  let main_v36 : IVec S_ 1 := (fun x v => Host.reduce IntOp.andi x v reducesTo_S2x1024_S_d0_1 h_S_) main_v35 main_c_13
  let main_v37 : IVec S_ 1 := andi main_v32 main_v36
  let main_v38 : FVec F S2x1024x1024 .f32 := Host.absf main_arg8
  let main_cst_14 : FVec F S_ .f32 := constant S_ .f32 0x7F800000#32
  let main_v39 : FVec F S2x1024x1024 .f32 := broadcastInDim S2x1024x1024 ![] bcast_S_S2x1024x1024 main_cst_14
  let main_v40 : IVec S2x1024x1024 1 := cmpf .olt main_v38 main_v39
  let main_c_15 : IVec S_ 1 := constantI S_ 1 1#1
  let main_v41 : IVec S_ 1 := (fun x v => Host.reduce IntOp.andi x v reducesTo_S2x1024x1024_S_d0_1_2 h_S_) main_v40 main_c_15
  let main_v42 : IVec S_ 1 := andi main_v37 main_v41
  let main_v43 : FVec F S2x1024 .f32 := Host.absf main_arg9
  let main_cst_16 : FVec F S_ .f32 := constant S_ .f32 0x7F800000#32
  let main_v44 : FVec F S2x1024 .f32 := broadcastInDim S2x1024 ![] bcast_S_S2x1024 main_cst_16
  let main_v45 : IVec S2x1024 1 := cmpf .olt main_v43 main_v44
  let main_c_17 : IVec S_ 1 := constantI S_ 1 1#1
  let main_v46 : IVec S_ 1 := (fun x v => Host.reduce IntOp.andi x v reducesTo_S2x1024_S_d0_1 h_S_) main_v45 main_c_17
  let main_v47 : IVec S_ 1 := andi main_v42 main_v46
  let main_v48 : FVec F S2x1024 .f32 := Host.absf main_arg10
  let main_cst_18 : FVec F S_ .f32 := constant S_ .f32 0x7F800000#32
  let main_v49 : FVec F S2x1024 .f32 := broadcastInDim S2x1024 ![] bcast_S_S2x1024 main_cst_18
  let main_v50 : IVec S2x1024 1 := cmpf .olt main_v48 main_v49
  fn_part3 (F := F) main_arg11 main_arg12 main_arg13 main_arg14 main_arg15 main_arg16 main_arg17 main_v47 main_v50

def fn_part1 {F : FTy → Type} [FloatOps F] (main_arg4 : FVec F S2x1024x1024 .f32) (main_arg5 : FVec F S2x1024 .f32) (main_arg6 : FVec F S2x1024x1024 .f32) (main_arg7 : FVec F S2x1024 .f32) (main_arg8 : FVec F S2x1024x1024 .f32) (main_arg9 : FVec F S2x1024 .f32) (main_arg10 : FVec F S2x1024 .f32) (main_arg11 : FVec F S2x1024 .f32) (main_arg12 : FVec F S2x1024x4096 .f32) (main_arg13 : FVec F S2x4096 .f32) (main_arg14 : FVec F S2x4096x1024 .f32) (main_arg15 : FVec F S2x1024 .f32) (main_arg16 : FVec F S2x1024 .f32) (main_arg17 : FVec F S2x1024 .f32) (main_v12 : IVec S_ 1) (main_v15 : IVec S2x1024 1) (main_c_5 : IVec S_ 1) : IVec S_ 1 :=
  let main_v16 : IVec S_ 1 := (fun x v => Host.reduce IntOp.andi x v reducesTo_S2x1024_S_d0_1 h_S_) main_v15 main_c_5
  let main_v17 : IVec S_ 1 := andi main_v12 main_v16
  let main_v18 : FVec F S2x1024x1024 .f32 := Host.absf main_arg4
  let main_cst_6 : FVec F S_ .f32 := constant S_ .f32 0x7F800000#32
  let main_v19 : FVec F S2x1024x1024 .f32 := broadcastInDim S2x1024x1024 ![] bcast_S_S2x1024x1024 main_cst_6
  let main_v20 : IVec S2x1024x1024 1 := cmpf .olt main_v18 main_v19
  let main_c_7 : IVec S_ 1 := constantI S_ 1 1#1
  let main_v21 : IVec S_ 1 := (fun x v => Host.reduce IntOp.andi x v reducesTo_S2x1024x1024_S_d0_1_2 h_S_) main_v20 main_c_7
  let main_v22 : IVec S_ 1 := andi main_v17 main_v21
  let main_v23 : FVec F S2x1024 .f32 := Host.absf main_arg5
  let main_cst_8 : FVec F S_ .f32 := constant S_ .f32 0x7F800000#32
  let main_v24 : FVec F S2x1024 .f32 := broadcastInDim S2x1024 ![] bcast_S_S2x1024 main_cst_8
  let main_v25 : IVec S2x1024 1 := cmpf .olt main_v23 main_v24
  let main_c_9 : IVec S_ 1 := constantI S_ 1 1#1
  let main_v26 : IVec S_ 1 := (fun x v => Host.reduce IntOp.andi x v reducesTo_S2x1024_S_d0_1 h_S_) main_v25 main_c_9
  let main_v27 : IVec S_ 1 := andi main_v22 main_v26
  let main_v28 : FVec F S2x1024x1024 .f32 := Host.absf main_arg6
  let main_cst_10 : FVec F S_ .f32 := constant S_ .f32 0x7F800000#32
  let main_v29 : FVec F S2x1024x1024 .f32 := broadcastInDim S2x1024x1024 ![] bcast_S_S2x1024x1024 main_cst_10
  let main_v30 : IVec S2x1024x1024 1 := cmpf .olt main_v28 main_v29
  let main_c_11 : IVec S_ 1 := constantI S_ 1 1#1
  let main_v31 : IVec S_ 1 := (fun x v => Host.reduce IntOp.andi x v reducesTo_S2x1024x1024_S_d0_1_2 h_S_) main_v30 main_c_11
  let main_v32 : IVec S_ 1 := andi main_v27 main_v31
  let main_v33 : FVec F S2x1024 .f32 := Host.absf main_arg7
  fn_part2 (F := F) main_arg8 main_arg9 main_arg10 main_arg11 main_arg12 main_arg13 main_arg14 main_arg15 main_arg16 main_arg17 main_v32 main_v33

def fn {F : FTy → Type} [FloatOps F] (main_arg0 : FVec F S1x2048x1024 .f32) (main_arg1 : IVec S1x2048 32) (main_arg2 : FVec F S2x1024x1024 .f32) (main_arg3 : FVec F S2x1024 .f32) (main_arg4 : FVec F S2x1024x1024 .f32) (main_arg5 : FVec F S2x1024 .f32) (main_arg6 : FVec F S2x1024x1024 .f32) (main_arg7 : FVec F S2x1024 .f32) (main_arg8 : FVec F S2x1024x1024 .f32) (main_arg9 : FVec F S2x1024 .f32) (main_arg10 : FVec F S2x1024 .f32) (main_arg11 : FVec F S2x1024 .f32) (main_arg12 : FVec F S2x1024x4096 .f32) (main_arg13 : FVec F S2x4096 .f32) (main_arg14 : FVec F S2x4096x1024 .f32) (main_arg15 : FVec F S2x1024 .f32) (main_arg16 : FVec F S2x1024 .f32) (main_arg17 : FVec F S2x1024 .f32) (main_arg18 : FVec F S1024 .f32) (main_arg19 : FVec F S1024 .f32) : IVec S_ 1 :=
  let main_c : IVec S_ 32 := constantI S_ 32 1#32
  let main_v0 : IVec S1x2048 32 := broadcastInDim S1x2048 ![] bcast_S_S1x2048 main_c
  let main_v1 : IVec S1x2048 1 := cmpi .eq main_arg1 main_v0
  let main_c_0 : IVec S_ 1 := constantI S_ 1 1#1
  let main_v2 : IVec S_ 1 := (fun x v => Host.reduce IntOp.andi x v reducesTo_S1x2048_S_d0_1 h_S_) main_v1 main_c_0
  let main_v3 : FVec F S1x2048x1024 .f32 := Host.absf main_arg0
  let main_cst : FVec F S_ .f32 := constant S_ .f32 0x7F800000#32
  let main_v4 : FVec F S1x2048x1024 .f32 := broadcastInDim S1x2048x1024 ![] bcast_S_S1x2048x1024 main_cst
  let main_v5 : IVec S1x2048x1024 1 := cmpf .olt main_v3 main_v4
  let main_c_1 : IVec S_ 1 := constantI S_ 1 1#1
  let main_v6 : IVec S_ 1 := (fun x v => Host.reduce IntOp.andi x v reducesTo_S1x2048x1024_S_d0_1_2 h_S_) main_v5 main_c_1
  let main_v7 : IVec S_ 1 := andi main_v2 main_v6
  let main_v8 : FVec F S2x1024x1024 .f32 := Host.absf main_arg2
  let main_cst_2 : FVec F S_ .f32 := constant S_ .f32 0x7F800000#32
  let main_v9 : FVec F S2x1024x1024 .f32 := broadcastInDim S2x1024x1024 ![] bcast_S_S2x1024x1024 main_cst_2
  let main_v10 : IVec S2x1024x1024 1 := cmpf .olt main_v8 main_v9
  let main_c_3 : IVec S_ 1 := constantI S_ 1 1#1
  let main_v11 : IVec S_ 1 := (fun x v => Host.reduce IntOp.andi x v reducesTo_S2x1024x1024_S_d0_1_2 h_S_) main_v10 main_c_3
  let main_v12 : IVec S_ 1 := andi main_v7 main_v11
  let main_v13 : FVec F S2x1024 .f32 := Host.absf main_arg3
  let main_cst_4 : FVec F S_ .f32 := constant S_ .f32 0x7F800000#32
  let main_v14 : FVec F S2x1024 .f32 := broadcastInDim S2x1024 ![] bcast_S_S2x1024 main_cst_4
  let main_v15 : IVec S2x1024 1 := cmpf .olt main_v13 main_v14
  let main_c_5 : IVec S_ 1 := constantI S_ 1 1#1
  fn_part1 (F := F) main_arg4 main_arg5 main_arg6 main_arg7 main_arg8 main_arg9 main_arg10 main_arg11 main_arg12 main_arg13 main_arg14 main_arg15 main_arg16 main_arg17 main_v12 main_v15 main_c_5
-- ==== Kernel.lean ====
abbrev S1x2048x1024 : Shape := ⟨3, ![1, 2048, 1024]⟩
abbrev S1x2048 : Shape := ⟨2, ![1, 2048]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S1024 : Shape := ⟨1, ![1024]⟩
abbrev S2048x1024 : Shape := ⟨2, ![2048, 1024]⟩
abbrev S1x1024x1024 : Shape := ⟨3, ![1, 1024, 1024]⟩
abbrev S1024x1024 : Shape := ⟨2, ![1024, 1024]⟩
abbrev S1x1024 : Shape := ⟨2, ![1, 1024]⟩
abbrev S16x2048x64 : Shape := ⟨3, ![16, 2048, 64]⟩
abbrev S1024x512 : Shape := ⟨2, ![1024, 512]⟩
abbrev S1x512 : Shape := ⟨2, ![1, 512]⟩
abbrev S1x2048x64 : Shape := ⟨3, ![1, 2048, 64]⟩
abbrev S16x2048x128 : Shape := ⟨3, ![16, 2048, 128]⟩
abbrev S2048x512 : Shape := ⟨2, ![2048, 512]⟩
abbrev S2048x64 : Shape := ⟨2, ![2048, 64]⟩
abbrev S2048x128 : Shape := ⟨2, ![2048, 128]⟩
abbrev S1x512x64 : Shape := ⟨3, ![1, 512, 64]⟩
abbrev S512x64 : Shape := ⟨2, ![512, 64]⟩
abbrev S1x512x128 : Shape := ⟨3, ![1, 512, 128]⟩
abbrev S512x128 : Shape := ⟨2, ![512, 128]⟩
abbrev S2048x1 : Shape := ⟨2, ![2048, 1]⟩
abbrev S16x512x64 : Shape := ⟨3, ![16, 512, 64]⟩
abbrev S512x1024 : Shape := ⟨2, ![512, 1024]⟩
abbrev S512 : Shape := ⟨1, ![512]⟩
abbrev S512x1 : Shape := ⟨2, ![512, 1]⟩
abbrev S1x1024x4096 : Shape := ⟨3, ![1, 1024, 4096]⟩
abbrev S1024x4096 : Shape := ⟨2, ![1024, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S512x4096 : Shape := ⟨2, ![512, 4096]⟩

abbrev nBuf : Space → Nat
  | .hbm => 114
  | .vmem => 78
  | .smem => 0
  | _ => 0

abbrev bufTy : (tb : Table) → Fin (tcTables nBuf tb) → BufTy
  | .hbm, ⟨0, _⟩ => ⟨S1x2048x1024, .f32⟩
  | .hbm, ⟨1, _⟩ => ⟨S1x2048, .i32⟩
  | .hbm, ⟨2, _⟩ => ⟨S2x1024x1024, .f32⟩
  | .hbm, ⟨3, _⟩ => ⟨S2x1024, .f32⟩
  | .hbm, ⟨4, _⟩ => ⟨S2x1024x1024, .f32⟩
  | .hbm, ⟨5, _⟩ => ⟨S2x1024, .f32⟩
  | .hbm, ⟨6, _⟩ => ⟨S2x1024x1024, .f32⟩
  | .hbm, ⟨7, _⟩ => ⟨S2x1024, .f32⟩
  | .hbm, ⟨8, _⟩ => ⟨S2x1024x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024x4096, .f32⟩
  | .hbm, ⟨13, _⟩ => ⟨S2x4096, .f32⟩
  | .hbm, ⟨14, _⟩ => ⟨S2x4096x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S1024, .f32⟩
  | .hbm, ⟨19, _⟩ => ⟨S1024, .f32⟩
  | .hbm, ⟨20, _⟩ => ⟨S2048x1024, .f32⟩
  | .hbm, ⟨21, _⟩ => ⟨S1x1024x1024, .f32⟩
  | .hbm, ⟨22, _⟩ => ⟨S1024x1024, .f32⟩
  | .hbm, ⟨23, _⟩ => ⟨S1x1024x1024, .f32⟩
  | .hbm, ⟨24, _⟩ => ⟨S1024x1024, .f32⟩
  | .hbm, ⟨25, _⟩ => ⟨S1x1024x1024, .f32⟩
  | .hbm, ⟨26, _⟩ => ⟨S1024x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S16x2048x64, .bf16⟩
  | .hbm, ⟨37, _⟩ => ⟨S1x1024x1024, .f32⟩
  | .hbm, ⟨38, _⟩ => ⟨S1024x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S2048x1024, .bf16⟩
  | .hbm, ⟨49, _⟩ => ⟨S1x1024x4096, .f32⟩
  | .hbm, ⟨50, _⟩ => ⟨S1024x4096, .f32⟩
  | .hbm, ⟨51, _⟩ => ⟨S1x4096, .f32⟩
  | .hbm, ⟨52, _⟩ => ⟨S4096, .f32⟩
  | .hbm, ⟨53, _⟩ => ⟨S1x4096, .f32⟩
  | .hbm, ⟨54, _⟩ => ⟨S1x4096x1024, .f32⟩
  | .hbm, ⟨55, _⟩ => ⟨S4096x1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S1x1024, .f32⟩
  | .hbm, ⟨60, _⟩ => ⟨S1024, .f32⟩
  | .hbm, ⟨61, _⟩ => ⟨S1x1024, .f32⟩
  | .hbm, ⟨62, _⟩ => ⟨S1x1024, .f32⟩
  | .hbm, ⟨63, _⟩ => ⟨S1024, .f32⟩
  | .hbm, ⟨64, _⟩ => ⟨S1x1024, .f32⟩
  | .hbm, ⟨65, _⟩ => ⟨S2048x1024, .bf16⟩
  | .hbm, ⟨66, _⟩ => ⟨S1x1024x1024, .f32⟩
  | .hbm, ⟨67, _⟩ => ⟨S1024x1024, .f32⟩
  | .hbm, ⟨68, _⟩ => ⟨S1x1024x1024, .f32⟩
  | .hbm, ⟨69, _⟩ => ⟨S1024x1024, .f32⟩
  | .hbm, ⟨70, _⟩ => ⟨S1x1024x1024, .f32⟩
  | .hbm, ⟨71, _⟩ => ⟨S1024x1024, .f32⟩
  | .hbm, ⟨72, _⟩ => ⟨S1x1024, .f32⟩
  | .hbm, ⟨73, _⟩ => ⟨S1024, .f32⟩
  | .hbm, ⟨74, _⟩ => ⟨S1x1024, .f32⟩
  | .hbm, ⟨75, _⟩ => ⟨S1x1024, .f32⟩
  | .hbm, ⟨76, _⟩ => ⟨S1024, .f32⟩
  | .hbm, ⟨77, _⟩ => ⟨S1x1024, .f32⟩
  | .hbm, ⟨78, _⟩ => ⟨S1x1024, .f32⟩
  | .hbm, ⟨79, _⟩ => ⟨S1024, .f32⟩
  | .hbm, ⟨80, _⟩ => ⟨S1x1024, .f32⟩
  | .hbm, ⟨81, _⟩ => ⟨S16x2048x64, .bf16⟩
  | .hbm, ⟨82, _⟩ => ⟨S1x1024x1024, .f32⟩
  | .hbm, ⟨83, _⟩ => ⟨S1024x1024, .f32⟩
  | .hbm, ⟨84, _⟩ => ⟨S1x1024, .f32⟩
  | .hbm, ⟨85, _⟩ => ⟨S1024, .f32⟩
  | .hbm, ⟨86, _⟩ => ⟨S1x1024, .f32⟩
  | .hbm, ⟨87, _⟩ => ⟨S1x1024, .f32⟩
  | .hbm, ⟨88, _⟩ => ⟨S1024, .f32⟩
  | .hbm, ⟨89, _⟩ => ⟨S1x1024, .f32⟩
  | .hbm, ⟨90, _⟩ => ⟨S1x1024, .f32⟩
  | .hbm, ⟨91, _⟩ => ⟨S1024, .f32⟩
  | .hbm, ⟨92, _⟩ => ⟨S1x1024, .f32⟩
  | .hbm, ⟨93, _⟩ => ⟨S2048x1024, .bf16⟩
  | .hbm, ⟨94, _⟩ => ⟨S1x1024, .f32⟩
  | .hbm, ⟨95, _⟩ => ⟨S1x1024, .f32⟩
  | .hbm, ⟨96, _⟩ => ⟨S1x1024x4096, .f32⟩
  | .hbm, ⟨97, _⟩ => ⟨S1024x4096, .f32⟩
  | .hbm, ⟨98, _⟩ => ⟨S1x4096, .f32⟩
  | .hbm, ⟨99, _⟩ => ⟨S4096, .f32⟩
  | .hbm, ⟨100, _⟩ => ⟨S1x4096, .f32⟩
  | .hbm, ⟨101, _⟩ => ⟨S1x4096x1024, .f32⟩
  | .hbm, ⟨102, _⟩ => ⟨S4096x1024, .f32⟩
  | .hbm, ⟨103, _⟩ => ⟨S1x1024, .f32⟩
  | .hbm, ⟨104, _⟩ => ⟨S1024, .f32⟩
  | .hbm, ⟨105, _⟩ => ⟨S1x1024, .f32⟩
  | .hbm, ⟨106, _⟩ => ⟨S1x1024, .f32⟩
  | .hbm, ⟨107, _⟩ => ⟨S1024, .f32⟩
  | .hbm, ⟨108, _⟩ => ⟨S1x1024, .f32⟩
  | .hbm, ⟨109, _⟩ => ⟨S1x1024, .f32⟩
  | .hbm, ⟨110, _⟩ => ⟨S1024, .f32⟩
  | .hbm, ⟨111, _⟩ => ⟨S1x1024, .f32⟩
  | .hbm, ⟨112, _⟩ => ⟨S2048x1024, .f32⟩
  | .hbm, ⟨113, _⟩ => ⟨S1x2048x1024, .f32⟩
  | .local _ .vmem, ⟨0, _⟩ => ⟨S2048x1024, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x2048x64, .bf16⟩
  | .local _ .vmem, ⟨14, _⟩ => ⟨S1x2048x64, .bf16⟩
  | .local _ .vmem, ⟨15, _⟩ => ⟨S16x2048x64, .fp8e4m3⟩
  | .local _ .vmem, ⟨16, _⟩ => ⟨S16x2048x64, .fp8e4m3⟩
  | .local _ .vmem, ⟨17, _⟩ => ⟨S16x2048x128, .fp8e4m3⟩
  | .local _ .vmem, ⟨18, _⟩ => ⟨S16x512x64, .bf16⟩
  | .local _ .vmem, ⟨19, _⟩ => ⟨S16x512x64, .bf16⟩
  | .local _ .vmem, ⟨20, _⟩ => ⟨S512x1024, .f32⟩
  | .local _ .vmem, ⟨21, _⟩ => ⟨S512x1024, .f32⟩
  | .local _ .vmem, ⟨22, _⟩ => ⟨S1024x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S1024x4096, .f32⟩
  | .local _ .vmem, ⟨31, _⟩ => ⟨S1x4096, .f32⟩
  | .local _ .vmem, ⟨32, _⟩ => ⟨S4096x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S512x1024, .bf16⟩
  | .local _ .vmem, ⟨37, _⟩ => ⟨S512x1024, .bf16⟩
  | .local _ .vmem, ⟨38, _⟩ => ⟨S2048x1024, .bf16⟩
  | .local _ .vmem, ⟨39, _⟩ => ⟨S1024x512, .f32⟩
  | .local _ .vmem, ⟨40, _⟩ => ⟨S1024x512, .f32⟩
  | .local _ .vmem, ⟨41, _⟩ => ⟨S1024x512, .f32⟩
  | .local _ .vmem, ⟨42, _⟩ => ⟨S1024x512, .f32⟩
  | .local _ .vmem, ⟨43, _⟩ => ⟨S1024x512, .f32⟩
  | .local _ .vmem, ⟨44, _⟩ => ⟨S1024x512, .f32⟩
  | .local _ .vmem, ⟨45, _⟩ => ⟨S1x512, .f32⟩
  | .local _ .vmem, ⟨46, _⟩ => ⟨S1x512, .f32⟩
  | .local _ .vmem, ⟨47, _⟩ => ⟨S1x512, .f32⟩
  | .local _ .vmem, ⟨48, _⟩ => ⟨S1x512, .f32⟩
  | .local _ .vmem, ⟨49, _⟩ => ⟨S1x512, .f32⟩
  | .local _ .vmem, ⟨50, _⟩ => ⟨S1x512, .f32⟩
  | .local _ .vmem, ⟨51, _⟩ => ⟨S1x2048x64, .bf16⟩
  | .local _ .vmem, ⟨52, _⟩ => ⟨S1x2048x64, .bf16⟩
  | .local _ .vmem, ⟨53, _⟩ => ⟨S16x2048x64, .fp8e4m3⟩
  | .local _ .vmem, ⟨54, _⟩ => ⟨S16x2048x64, .fp8e4m3⟩
  | .local _ .vmem, ⟨55, _⟩ => ⟨S16x2048x128, .fp8e4m3⟩
  | .local _ .vmem, ⟨56, _⟩ => ⟨S16x512x64, .bf16⟩
  | .local _ .vmem, ⟨57, _⟩ => ⟨S16x512x64, .bf16⟩
  | .local _ .vmem, ⟨58, _⟩ => ⟨S512x1024, .bf16⟩
  | .local _ .vmem, ⟨59, _⟩ => ⟨S512x1024, .bf16⟩
  | .local _ .vmem, ⟨60, _⟩ => ⟨S1024x1024, .f32⟩
  | .local _ .vmem, ⟨61, _⟩ => ⟨S1x1024, .f32⟩
  | .local _ .vmem, ⟨62, _⟩ => ⟨S1x1024, .f32⟩
  | .local _ .vmem, ⟨63, _⟩ => ⟨S1x1024, .f32⟩
  | .local _ .vmem, ⟨64, _⟩ => ⟨S512x1024, .bf16⟩
  | .local _ .vmem, ⟨65, _⟩ => ⟨S512x1024, .bf16⟩
  | .local _ .vmem, ⟨66, _⟩ => ⟨S512x1024, .bf16⟩
  | .local _ .vmem, ⟨67, _⟩ => ⟨S512x1024, .bf16⟩
  | .local _ .vmem, ⟨68, _⟩ => ⟨S1024x4096, .f32⟩
  | .local _ .vmem, ⟨69, _⟩ => ⟨S1x4096, .f32⟩
  | .local _ .vmem, ⟨70, _⟩ => ⟨S4096x1024, .f32⟩
  | .local _ .vmem, ⟨71, _⟩ => ⟨S1x1024, .f32⟩
  | .local _ .vmem, ⟨72, _⟩ => ⟨S1x1024, .f32⟩
  | .local _ .vmem, ⟨73, _⟩ => ⟨S1x1024, .f32⟩
  | .local _ .vmem, ⟨74, _⟩ => ⟨S1x1024, .f32⟩
  | .local _ .vmem, ⟨75, _⟩ => ⟨S1x1024, .f32⟩
  | .local _ .vmem, ⟨76, _⟩ => ⟨S512x1024, .f32⟩
  | .local _ .vmem, ⟨77, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc3_stg0_0 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg3_1 : Ref sig .tc := ⟨.vmem, 44, rfl⟩
abbrev cc3_stg4_0 : Ref sig .tc := ⟨.vmem, 45, rfl⟩
abbrev cc3_stg4_1 : Ref sig .tc := ⟨.vmem, 46, rfl⟩
abbrev cc3_stg5_0 : Ref sig .tc := ⟨.vmem, 47, rfl⟩
abbrev cc3_stg5_1 : Ref sig .tc := ⟨.vmem, 48, rfl⟩
abbrev cc3_stg6_0 : Ref sig .tc := ⟨.vmem, 49, rfl⟩
abbrev cc3_stg6_1 : Ref sig .tc := ⟨.vmem, 50, rfl⟩
abbrev cc3_stg7_0 : Ref sig .tc := ⟨.vmem, 51, rfl⟩
abbrev cc3_stg7_1 : Ref sig .tc := ⟨.vmem, 52, rfl⟩
abbrev cc3_scratch0 : Ref sig .tc := ⟨.vmem, 53, rfl⟩
abbrev cc3_scratch1 : Ref sig .tc := ⟨.vmem, 54, rfl⟩
abbrev cc3_scratch2 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg3_0 : Ref sig .tc := ⟨.vmem, 61, rfl⟩
abbrev cc4_stg4_0 : Ref sig .tc := ⟨.vmem, 62, rfl⟩
abbrev cc4_stg5_0 : Ref sig .tc := ⟨.vmem, 63, rfl⟩
abbrev cc4_stg6_0 : Ref sig .tc := ⟨.vmem, 64, rfl⟩
abbrev cc4_stg6_1 : Ref sig .tc := ⟨.vmem, 65, rfl⟩
abbrev cc5_stg0_0 : Ref sig .tc := ⟨.vmem, 66, rfl⟩
abbrev cc5_stg0_1 : Ref sig .tc := ⟨.vmem, 67, rfl⟩
abbrev cc5_stg1_0 : Ref sig .tc := ⟨.vmem, 68, rfl⟩
abbrev cc5_stg2_0 : Ref sig .tc := ⟨.vmem, 69, rfl⟩
abbrev cc5_stg3_0 : Ref sig .tc := ⟨.vmem, 70, rfl⟩
abbrev cc5_stg4_0 : Ref sig .tc := ⟨.vmem, 71, rfl⟩
abbrev cc5_stg5_0 : Ref sig .tc := ⟨.vmem, 72, rfl⟩
abbrev cc5_stg6_0 : Ref sig .tc := ⟨.vmem, 73, rfl⟩
abbrev cc5_stg7_0 : Ref sig .tc := ⟨.vmem, 74, rfl⟩
abbrev cc5_stg8_0 : Ref sig .tc := ⟨.vmem, 75, rfl⟩
abbrev cc5_stg9_0 : Ref sig .tc := ⟨.vmem, 76, rfl⟩
abbrev cc5_stg9_1 : Ref sig .tc := ⟨.vmem, 77, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem7_1 : DmaSem sig := 34
abbrev cc3_sem0_0 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc3_sem5_0 : DmaSem sig := 44
abbrev cc3_sem5_1 : DmaSem sig := 45
abbrev cc3_sem6_0 : DmaSem sig := 46
abbrev cc3_sem6_1 : DmaSem sig := 47
abbrev cc3_sem7_0 : DmaSem sig := 48
abbrev cc3_sem7_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem3_0 : DmaSem sig := 55
abbrev cc4_sem4_0 : DmaSem sig := 56
abbrev cc4_sem5_0 : DmaSem sig := 57
abbrev cc4_sem6_0 : DmaSem sig := 58
abbrev cc4_sem6_1 : DmaSem sig := 59
abbrev cc5_sem0_0 : DmaSem sig := 60
abbrev cc5_sem0_1 : DmaSem sig := 61
abbrev cc5_sem1_0 : DmaSem sig := 62
abbrev cc5_sem2_0 : DmaSem sig := 63
abbrev cc5_sem3_0 : DmaSem sig := 64
abbrev cc5_sem4_0 : DmaSem sig := 65
abbrev cc5_sem5_0 : DmaSem sig := 66
abbrev cc5_sem6_0 : DmaSem sig := 67
abbrev cc5_sem7_0 : DmaSem sig := 68
abbrev cc5_sem8_0 : DmaSem sig := 69
abbrev cc5_sem9_0 : DmaSem sig := 70
abbrev cc5_sem9_1 : DmaSem sig := 71

abbrev nD : Nat := 1
abbrev τ : Topo := Topo.v7x

variable {F : FTy → Type} [FloatOps F]

abbrev grid0 : Pipeline.Grid := ⟨1, ![17], ![false]⟩

def k0_cond3 (i : grid0.Coords) : BitVec 1 :=
  let arg0 : BitVec 32 := BitVec.ofNat 32 (i 0).val
  let c1_i32_2 : BitVec 32 := 1#32
  let v6 : BitVec 1 := Scalar.cmpi .sge arg0 c1_i32_2
  let v7 : BitVec 32 := Scalar.extui v6
  let c0_i32_3 : BitVec 32 := 0#32
  let v8 : BitVec 1 := Scalar.cmpi .ne v7 c0_i32_3
  v8

def k0_off1 (i : grid0.Coords) : Fin 3 → Nat :=
  let arg0 : BitVec 32 := BitVec.ofNat 32 (i 0).val
  let c1_i32_4 : BitVec 32 := 1#32
  let v9 : BitVec 32 := Scalar.subi arg0 c1_i32_4
  let v10 : Index := Scalar.indexCast v9
  let c0 : Index := 0#32
  let c0_5 : Index := 0#32
  ![v10.toNat, 0, 0]
def k0_off2 (i : grid0.Coords) : Fin 3 → Nat :=
  let arg0 : BitVec 32 := BitVec.ofNat 32 (i 0).val
  let c1_i32_4 : BitVec 32 := 1#32
  let v9 : BitVec 32 := Scalar.subi arg0 c1_i32_4
  let v14 : Index := Scalar.indexCast v9
  let c0_6 : Index := 0#32
  let c0_7 : Index := 0#32
  ![v14.toNat, 0, 0]
def k0_off3 (i : grid0.Coords) : Fin 3 → Nat :=
  let arg0 : BitVec 32 := BitVec.ofNat 32 (i 0).val
  let c1_i32_4 : BitVec 32 := 1#32
  let v9 : BitVec 32 := Scalar.subi arg0 c1_i32_4
  let v23 : Index := Scalar.indexCast v9
  let c0_10 : Index := 0#32
  let c0_11 : Index := 0#32
  ![v23.toNat, 0, 0]
def k0_off4 (i : grid0.Coords) : Fin 3 → Nat :=
  let arg0 : BitVec 32 := BitVec.ofNat 32 (i 0).val
  let c1_i32_4 : BitVec 32 := 1#32
  let v9 : BitVec 32 := Scalar.subi arg0 c1_i32_4
  let v28 : Index := Scalar.indexCast v9
  let c512 : Index := 512#32
  let c0_13 : Index := 0#32
  ![v28.toNat, 512, 0]
def k0_off5 (i : grid0.Coords) : Fin 3 → Nat :=
  let arg0 : BitVec 32 := BitVec.ofNat 32 (i 0).val
  let c1_i32_4 : BitVec 32 := 1#32
  let v9 : BitVec 32 := Scalar.subi arg0 c1_i32_4
  let v37 : Index := Scalar.indexCast v9
  let c512_16 : Index := 512#32
  let c0_17 : Index := 0#32
  ![v37.toNat, 512, 0]
def k0_off6 (i : grid0.Coords) : Fin 3 → Nat :=
  let arg0 : BitVec 32 := BitVec.ofNat 32 (i 0).val
  let c1_i32_4 : BitVec 32 := 1#32
  let v9 : BitVec 32 := Scalar.subi arg0 c1_i32_4
  let v42 : Index := Scalar.indexCast v9
  let c1024 : Index := 1024#32
  let c0_19 : Index := 0#32
  ![v42.toNat, 1024, 0]
def k0_off7 (i : grid0.Coords) : Fin 3 → Nat :=
  let arg0 : BitVec 32 := BitVec.ofNat 32 (i 0).val
  let c1_i32_4 : BitVec 32 := 1#32
  let v9 : BitVec 32 := Scalar.subi arg0 c1_i32_4
  let v51 : Index := Scalar.indexCast v9
  let c1024_22 : Index := 1024#32
  let c0_23 : Index := 0#32
  ![v51.toNat, 1024, 0]
def k0_off8 (i : grid0.Coords) : Fin 3 → Nat :=
  let arg0 : BitVec 32 := BitVec.ofNat 32 (i 0).val
  let c1_i32_4 : BitVec 32 := 1#32
  let v9 : BitVec 32 := Scalar.subi arg0 c1_i32_4
  let v56 : Index := Scalar.indexCast v9
  let c1536 : Index := 1536#32
  let c0_25 : Index := 0#32
  ![v56.toNat, 1536, 0]
def k0_off9 (i : grid0.Coords) : Fin 3 → Nat :=
  let arg0 : BitVec 32 := BitVec.ofNat 32 (i 0).val
  let c1_i32_4 : BitVec 32 := 1#32
  let v9 : BitVec 32 := Scalar.subi arg0 c1_i32_4
  let v65 : Index := Scalar.indexCast v9
  let c1536_28 : Index := 1536#32
  let c0_29 : Index := 0#32
  ![v65.toNat, 1536, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![17], ![false]⟩

def k3_cond3 (i : grid3.Coords) : BitVec 1 :=
  let arg0 : BitVec 32 := BitVec.ofNat 32 (i 0).val
  let c1_i32_2 : BitVec 32 := 1#32
  let v6 : BitVec 1 := Scalar.cmpi .sge arg0 c1_i32_2
  let v7 : BitVec 32 := Scalar.extui v6
  let c0_i32_3 : BitVec 32 := 0#32
  let v8 : BitVec 1 := Scalar.cmpi .ne v7 c0_i32_3
  v8

def k3_off1 (i : grid3.Coords) : Fin 3 → Nat :=
  let arg0 : BitVec 32 := BitVec.ofNat 32 (i 0).val
  let c1_i32_4 : BitVec 32 := 1#32
  let v9 : BitVec 32 := Scalar.subi arg0 c1_i32_4
  let v10 : Index := Scalar.indexCast v9
  let c0 : Index := 0#32
  let c0_5 : Index := 0#32
  ![v10.toNat, 0, 0]
def k3_off2 (i : grid3.Coords) : Fin 3 → Nat :=
  let arg0 : BitVec 32 := BitVec.ofNat 32 (i 0).val
  let c1_i32_4 : BitVec 32 := 1#32
  let v9 : BitVec 32 := Scalar.subi arg0 c1_i32_4
  let v14 : Index := Scalar.indexCast v9
  let c0_6 : Index := 0#32
  let c0_7 : Index := 0#32
  ![v14.toNat, 0, 0]
def k3_off3 (i : grid3.Coords) : Fin 3 → Nat :=
  let arg0 : BitVec 32 := BitVec.ofNat 32 (i 0).val
  let c1_i32_4 : BitVec 32 := 1#32
  let v9 : BitVec 32 := Scalar.subi arg0 c1_i32_4
  let v23 : Index := Scalar.indexCast v9
  let c0_10 : Index := 0#32
  let c0_11 : Index := 0#32
  ![v23.toNat, 0, 0]
def k3_off4 (i : grid3.Coords) : Fin 3 → Nat :=
  let arg0 : BitVec 32 := BitVec.ofNat 32 (i 0).val
  let c1_i32_4 : BitVec 32 := 1#32
  let v9 : BitVec 32 := Scalar.subi arg0 c1_i32_4
  let v28 : Index := Scalar.indexCast v9
  let c512 : Index := 512#32
  let c0_13 : Index := 0#32
  ![v28.toNat, 512, 0]
def k3_off5 (i : grid3.Coords) : Fin 3 → Nat :=
  let arg0 : BitVec 32 := BitVec.ofNat 32 (i 0).val
  let c1_i32_4 : BitVec 32 := 1#32
  let v9 : BitVec 32 := Scalar.subi arg0 c1_i32_4
  let v37 : Index := Scalar.indexCast v9
  let c512_16 : Index := 512#32
  let c0_17 : Index := 0#32
  ![v37.toNat, 512, 0]
def k3_off6 (i : grid3.Coords) : Fin 3 → Nat :=
  let arg0 : BitVec 32 := BitVec.ofNat 32 (i 0).val
  let c1_i32_4 : BitVec 32 := 1#32
  let v9 : BitVec 32 := Scalar.subi arg0 c1_i32_4
  let v42 : Index := Scalar.indexCast v9
  let c1024 : Index := 1024#32
  let c0_19 : Index := 0#32
  ![v42.toNat, 1024, 0]
def k3_off7 (i : grid3.Coords) : Fin 3 → Nat :=
  let arg0 : BitVec 32 := BitVec.ofNat 32 (i 0).val
  let c1_i32_4 : BitVec 32 := 1#32
  let v9 : BitVec 32 := Scalar.subi arg0 c1_i32_4
  let v51 : Index := Scalar.indexCast v9
  let c1024_22 : Index := 1024#32
  let c0_23 : Index := 0#32
  ![v51.toNat, 1024, 0]
def k3_off8 (i : grid3.Coords) : Fin 3 → Nat :=
  let arg0 : BitVec 32 := BitVec.ofNat 32 (i 0).val
  let c1_i32_4 : BitVec 32 := 1#32
  let v9 : BitVec 32 := Scalar.subi arg0 c1_i32_4
  let v56 : Index := Scalar.indexCast v9
  let c1536 : Index := 1536#32
  let c0_25 : Index := 0#32
  ![v56.toNat, 1536, 0]
def k3_off9 (i : grid3.Coords) : Fin 3 → Nat :=
  let arg0 : BitVec 32 := BitVec.ofNat 32 (i 0).val
  let c1_i32_4 : BitVec 32 := 1#32
  let v9 : BitVec 32 := Scalar.subi arg0 c1_i32_4
  let v65 : Index := Scalar.indexCast v9
  let c1536_28 : Index := 1536#32
  let c0_29 : Index := 0#32
  ![v65.toNat, 1536, 0]
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc3_transform_3 (i : grid3.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc3_transform_4 (i : grid3.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc3_transform_5 (i : grid3.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc3_transform_6 (i : grid3.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc3_transform_7 (i : grid3.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x2048x64 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16x512x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1024x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S512x1024 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x4096 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S4096x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x1024 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S512x1024 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]
-- ==== ReferenceIdeal.lean ====
abbrev S1x2048x1024 : Shape := ⟨3, ![1, 2048, 1024]⟩
abbrev S1x2048 : Shape := ⟨2, ![1, 2048]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096 : Shape := ⟨2, ![2, 4096]⟩
abbrev S2x4096x1024 : Shape := ⟨3, ![2, 4096, 1024]⟩
abbrev S1024 : Shape := ⟨1, ![1024]⟩
abbrev S_ : Shape := ⟨0, ![]⟩
abbrev S1 : Shape := ⟨1, ![1]⟩
abbrev S2048 : Shape := ⟨1, ![2048]⟩
abbrev S1x1 : Shape := ⟨2, ![1, 1]⟩
abbrev S1x1024x1024 : Shape := ⟨3, ![1, 1024, 1024]⟩
abbrev S1024x1024 : Shape := ⟨2, ![1024, 1024]⟩
abbrev S1x1024 : Shape := ⟨2, ![1, 1024]⟩
abbrev S1x1x1024 : Shape := ⟨3, ![1, 1, 1024]⟩
abbrev S1x2048x16x64 : Shape := ⟨4, ![1, 2048, 16, 64]⟩
abbrev S1x16x2048x2048 : Shape := ⟨4, ![1, 16, 2048, 2048]⟩
abbrev S1x1x1x2048 : Shape := ⟨4, ![1, 1, 1, 2048]⟩
abbrev S1x16x2048 : Shape := ⟨3, ![1, 16, 2048]⟩
abbrev S1x16x2048x1 : Shape := ⟨4, ![1, 16, 2048, 1]⟩
abbrev S1x16x64x2048 : Shape := ⟨4, ![1, 16, 64, 2048]⟩
abbrev S1x2048x1 : Shape := ⟨3, ![1, 2048, 1]⟩
abbrev S1x1024x4096 : Shape := ⟨3, ![1, 1024, 4096]⟩
abbrev S1024x4096 : Shape := ⟨2, ![1024, 4096]⟩
abbrev S1x2048x4096 : Shape := ⟨3, ![1, 2048, 4096]⟩
abbrev S1x4096 : Shape := ⟨2, ![1, 4096]⟩
abbrev S4096 : Shape := ⟨1, ![4096]⟩
abbrev S1x1x4096 : Shape := ⟨3, ![1, 1, 4096]⟩
abbrev S1x4096x1024 : Shape := ⟨3, ![1, 4096, 1024]⟩
abbrev S4096x1024 : Shape := ⟨2, ![4096, 1024]⟩

abbrev nBuf : Space → Nat
  | .hbm => 354
  | .vmem => 0
  | .smem => 0
  | _ => 0

abbrev hbmTy0_0 (i : Nat) : BufTy := match i % 128 with
  | 0 => ⟨S1x2048x1024, .f32⟩
  | 1 => ⟨S1x2048, .i32⟩
  | 2 => ⟨S2x1024x1024, .f32⟩
  | 3 => ⟨S2x1024, .f32⟩
  | 4 => ⟨S2x1024x1024, .f32⟩
  | 5 => ⟨S2x1024, .f32⟩
  | 6 => ⟨S2x1024x1024, .f32⟩
  | 7 => ⟨S2x1024, .f32⟩
  | 8 => ⟨S2x1024x1024, .f32⟩
  | 9 => ⟨S2x1024, .f32⟩
  | 10 => ⟨S2x1024, .f32⟩
  | 11 => ⟨S2x1024, .f32⟩
  | 12 => ⟨S2x1024x4096, .f32⟩
  | 13 => ⟨S2x4096, .f32⟩
  | 14 => ⟨S2x4096x1024, .f32⟩
  | 15 => ⟨S2x1024, .f32⟩
  | 16 => ⟨S2x1024, .f32⟩
  | 17 => ⟨S2x1024, .f32⟩
  | 18 => ⟨S1024, .f32⟩
  | 19 => ⟨S1024, .f32⟩
  | 20 => ⟨S_, .i32⟩
  | 21 => ⟨S1, .i32⟩
  | 22 => ⟨S2048, .i32⟩
  | 23 => ⟨S1x2048, .i32⟩
  | 24 => ⟨S1x1, .i32⟩
  | 25 => ⟨S1x2048, .i32⟩
  | 26 => ⟨S1x2048, .i1⟩
  | 27 => ⟨S_, .f32⟩
  | 28 => ⟨S_, .f32⟩
  | 29 => ⟨S_, .f32⟩
  | 30 => ⟨S_, .f32⟩
  | 31 => ⟨S1x1024x1024, .f32⟩
  | 32 => ⟨S1024x1024, .f32⟩
  | 33 => ⟨S1x2048x1024, .f32⟩
  | 34 => ⟨S1x1024, .f32⟩
  | 35 => ⟨S1024, .f32⟩
  | 36 => ⟨S1x1x1024, .f32⟩
  | 37 => ⟨S1x2048x1024, .f32⟩
  | 38 => ⟨S1x2048x1024, .f32⟩
  | 39 => ⟨S1x2048x16x64, .f32⟩
  | 40 => ⟨S1x1024x1024, .f32⟩
  | 41 => ⟨S1024x1024, .f32⟩
  | 42 => ⟨S1x2048x1024, .f32⟩
  | 43 => ⟨S1x1024, .f32⟩
  | 44 => ⟨S1024, .f32⟩
  | 45 => ⟨S1x1x1024, .f32⟩
  | 46 => ⟨S1x2048x1024, .f32⟩
  | 47 => ⟨S1x2048x1024, .f32⟩
  | 48 => ⟨S1x2048x16x64, .f32⟩
  | 49 => ⟨S1x1024x1024, .f32⟩
  | 50 => ⟨S1024x1024, .f32⟩
  | 51 => ⟨S1x2048x1024, .f32⟩
  | 52 => ⟨S1x1024, .f32⟩
  | 53 => ⟨S1024, .f32⟩
  | 54 => ⟨S1x1x1024, .f32⟩
  | 55 => ⟨S1x2048x1024, .f32⟩
  | 56 => ⟨S1x2048x1024, .f32⟩
  | 57 => ⟨S1x2048x16x64, .f32⟩
  | 58 => ⟨S1x16x2048x2048, .f32⟩
  | 59 => ⟨S1x16x2048x2048, .f32⟩
  | 60 => ⟨S1x16x2048x2048, .f32⟩
  | 61 => ⟨S1x1x1x2048, .i1⟩
  | 62 => ⟨S_, .f32⟩
  | 63 => ⟨S1x16x2048x2048, .i1⟩
  | 64 => ⟨S1x16x2048x2048, .f32⟩
  | 65 => ⟨S1x16x2048x2048, .f32⟩
  | 66 => ⟨S_, .f32⟩
  | 67 => ⟨S1x16x2048, .f32⟩
  | 68 => ⟨S_, .f32⟩
  | 69 => ⟨S1x16x2048, .f32⟩
  | 70 => ⟨S1x16x2048, .f32⟩
  | 71 => ⟨S1x16x2048x1, .f32⟩
  | 72 => ⟨S1x16x2048x2048, .f32⟩
  | 73 => ⟨S1x16x2048x2048, .f32⟩
  | 74 => ⟨S1x16x2048x2048, .f32⟩
  | 75 => ⟨S_, .f32⟩
  | 76 => ⟨S1x16x2048, .f32⟩
  | 77 => ⟨S1x16x2048x1, .f32⟩
  | 78 => ⟨S1x16x2048x2048, .f32⟩
  | 79 => ⟨S1x16x2048x2048, .f32⟩
  | 80 => ⟨S1x16x64x2048, .f32⟩
  | 81 => ⟨S1x2048x16x64, .f32⟩
  | 82 => ⟨S1x2048x1024, .f32⟩
  | 83 => ⟨S1x1024x1024, .f32⟩
  | 84 => ⟨S1024x1024, .f32⟩
  | 85 => ⟨S1x2048x1024, .f32⟩
  | 86 => ⟨S1x1024, .f32⟩
  | 87 => ⟨S1024, .f32⟩
  | 88 => ⟨S1x1x1024, .f32⟩
  | 89 => ⟨S1x2048x1024, .f32⟩
  | 90 => ⟨S1x2048x1024, .f32⟩
  | 91 => ⟨S1x2048x1024, .f32⟩
  | 92 => ⟨S1x1024, .f32⟩
  | 93 => ⟨S1024, .f32⟩
  | 94 => ⟨S1x1024, .f32⟩
  | 95 => ⟨S1024, .f32⟩
  | 96 => ⟨S_, .f32⟩
  | 97 => ⟨S1x2048, .f32⟩
  | 98 => ⟨S1x2048x1, .f32⟩
  | 99 => ⟨S_, .f32⟩
  | 100 => ⟨S1x2048x1, .f32⟩
  | 101 => ⟨S1x2048x1, .f32⟩
  | 102 => ⟨S1x2048x1024, .f32⟩
  | 103 => ⟨S1x2048x1024, .f32⟩
  | 104 => ⟨S1x2048x1024, .f32⟩
  | 105 => ⟨S_, .f32⟩
  | 106 => ⟨S1x2048, .f32⟩
  | 107 => ⟨S1x2048x1, .f32⟩
  | 108 => ⟨S_, .f32⟩
  | 109 => ⟨S1x2048x1, .f32⟩
  | 110 => ⟨S1x2048x1, .f32⟩
  | 111 => ⟨S1x2048x1024, .f32⟩
  | 112 => ⟨S1x2048x1024, .f32⟩
  | 113 => ⟨S_, .f32⟩
  | 114 => ⟨S1x2048x1, .f32⟩
  | 115 => ⟨S1x2048x1, .f32⟩
  | 116 => ⟨S1x2048x1, .f32⟩
  | 117 => ⟨S1x2048x1024, .f32⟩
  | 118 => ⟨S1x2048x1024, .f32⟩
  | 119 => ⟨S1x1x1024, .f32⟩
  | 120 => ⟨S1x2048x1024, .f32⟩
  | 121 => ⟨S1x2048x1024, .f32⟩
  | 122 => ⟨S1x1x1024, .f32⟩
  | 123 => ⟨S1x2048x1024, .f32⟩
  | 124 => ⟨S1x2048x1024, .f32⟩
  | 125 => ⟨S1x1024x4096, .f32⟩
  | 126 => ⟨S1024x4096, .f32⟩
  | 127 => ⟨S1x2048x4096, .f32⟩
  | _ => ⟨S1x2048x1024, .f32⟩

abbrev hbmTy0_1 (i : Nat) : BufTy := match i % 128 with
  | 0 => ⟨S1x4096, .f32⟩
  | 1 => ⟨S4096, .f32⟩
  | 2 => ⟨S1x1x4096, .f32⟩
  | 3 => ⟨S1x2048x4096, .f32⟩
  | 4 => ⟨S1x2048x4096, .f32⟩
  | 5 => ⟨S_, .f32⟩
  | 6 => ⟨S1x2048x4096, .f32⟩
  | 7 => ⟨S1x2048x4096, .f32⟩
  | 8 => ⟨S1x4096x1024, .f32⟩
  | 9 => ⟨S4096x1024, .f32⟩
  | 10 => ⟨S1x2048x1024, .f32⟩
  | 11 => ⟨S1x1024, .f32⟩
  | 12 => ⟨S1024, .f32⟩
  | 13 => ⟨S1x1x1024, .f32⟩
  | 14 => ⟨S1x2048x1024, .f32⟩
  | 15 => ⟨S1x2048x1024, .f32⟩
  | 16 => ⟨S1x2048x1024, .f32⟩
  | 17 => ⟨S1x1024, .f32⟩
  | 18 => ⟨S1024, .f32⟩
  | 19 => ⟨S1x1024, .f32⟩
  | 20 => ⟨S1024, .f32⟩
  | 21 => ⟨S_, .f32⟩
  | 22 => ⟨S1x2048, .f32⟩
  | 23 => ⟨S1x2048x1, .f32⟩
  | 24 => ⟨S_, .f32⟩
  | 25 => ⟨S1x2048x1, .f32⟩
  | 26 => ⟨S1x2048x1, .f32⟩
  | 27 => ⟨S1x2048x1024, .f32⟩
  | 28 => ⟨S1x2048x1024, .f32⟩
  | 29 => ⟨S1x2048x1024, .f32⟩
  | 30 => ⟨S_, .f32⟩
  | 31 => ⟨S1x2048, .f32⟩
  | 32 => ⟨S1x2048x1, .f32⟩
  | 33 => ⟨S_, .f32⟩
  | 34 => ⟨S1x2048x1, .f32⟩
  | 35 => ⟨S1x2048x1, .f32⟩
  | 36 => ⟨S1x2048x1024, .f32⟩
  | 37 => ⟨S1x2048x1024, .f32⟩
  | 38 => ⟨S_, .f32⟩
  | 39 => ⟨S1x2048x1, .f32⟩
  | 40 => ⟨S1x2048x1, .f32⟩
  | 41 => ⟨S1x2048x1, .f32⟩
  | 42 => ⟨S1x2048x1024, .f32⟩
  | 43 => ⟨S1x2048x1024, .f32⟩
  | 44 => ⟨S1x1x1024, .f32⟩
  | 45 => ⟨S1x2048x1024, .f32⟩
  | 46 => ⟨S1x2048x1024, .f32⟩
  | 47 => ⟨S1x1x1024, .f32⟩
  | 48 => ⟨S1x2048x1024, .f32⟩
  | 49 => ⟨S1x2048x1024, .f32⟩
  | 50 => ⟨S1x1024x1024, .f32⟩
  | 51 => ⟨S1024x1024, .f32⟩
  | 52 => ⟨S1x2048x1024, .f32⟩
  | 53 => ⟨S1x1024, .f32⟩
  | 54 => ⟨S1024, .f32⟩
  | 55 => ⟨S1x1x1024, .f32⟩
  | 56 => ⟨S1x2048x1024, .f32⟩
  | 57 => ⟨S1x2048x1024, .f32⟩
  | 58 => ⟨S1x2048x16x64, .f32⟩
  | 59 => ⟨S1x1024x1024, .f32⟩
  | 60 => ⟨S1024x1024, .f32⟩
  | 61 => ⟨S1x2048x1024, .f32⟩
  | 62 => ⟨S1x1024, .f32⟩
  | 63 => ⟨S1024, .f32⟩
  | 64 => ⟨S1x1x1024, .f32⟩
  | 65 => ⟨S1x2048x1024, .f32⟩
  | 66 => ⟨S1x2048x1024, .f32⟩
  | 67 => ⟨S1x2048x16x64, .f32⟩
  | 68 => ⟨S1x1024x1024, .f32⟩
  | 69 => ⟨S1024x1024, .f32⟩
  | 70 => ⟨S1x2048x1024, .f32⟩
  | 71 => ⟨S1x1024, .f32⟩
  | 72 => ⟨S1024, .f32⟩
  | 73 => ⟨S1x1x1024, .f32⟩
  | 74 => ⟨S1x2048x1024, .f32⟩
  | 75 => ⟨S1x2048x1024, .f32⟩
  | 76 => ⟨S1x2048x16x64, .f32⟩
  | 77 => ⟨S1x16x2048x2048, .f32⟩
  | 78 => ⟨S1x16x2048x2048, .f32⟩
  | 79 => ⟨S1x16x2048x2048, .f32⟩
  | 80 => ⟨S1x1x1x2048, .i1⟩
  | 81 => ⟨S_, .f32⟩
  | 82 => ⟨S1x16x2048x2048, .i1⟩
  | 83 => ⟨S1x16x2048x2048, .f32⟩
  | 84 => ⟨S1x16x2048x2048, .f32⟩
  | 85 => ⟨S_, .f32⟩
  | 86 => ⟨S1x16x2048, .f32⟩
  | 87 => ⟨S_, .f32⟩
  | 88 => ⟨S1x16x2048, .f32⟩
  | 89 => ⟨S1x16x2048, .f32⟩
  | 90 => ⟨S1x16x2048x1, .f32⟩
  | 91 => ⟨S1x16x2048x2048, .f32⟩
  | 92 => ⟨S1x16x2048x2048, .f32⟩
  | 93 => ⟨S1x16x2048x2048, .f32⟩
  | 94 => ⟨S_, .f32⟩
  | 95 => ⟨S1x16x2048, .f32⟩
  | 96 => ⟨S1x16x2048x1, .f32⟩
  | 97 => ⟨S1x16x2048x2048, .f32⟩
  | 98 => ⟨S1x16x2048x2048, .f32⟩
  | 99 => ⟨S1x16x64x2048, .f32⟩
  | 100 => ⟨S1x2048x16x64, .f32⟩
  | 101 => ⟨S1x2048x1024, .f32⟩
  | 102 => ⟨S1x1024x1024, .f32⟩
  | 103 => ⟨S1024x1024, .f32⟩
  | 104 => ⟨S1x2048x1024, .f32⟩
  | 105 => ⟨S1x1024, .f32⟩
  | 106 => ⟨S1024, .f32⟩
  | 107 => ⟨S1x1x1024, .f32⟩
  | 108 => ⟨S1x2048x1024, .f32⟩
  | 109 => ⟨S1x2048x1024, .f32⟩
  | 110 => ⟨S1x2048x1024, .f32⟩
  | 111 => ⟨S1x1024, .f32⟩
  | 112 => ⟨S1024, .f32⟩
  | 113 => ⟨S1x1024, .f32⟩
  | 114 => ⟨S1024, .f32⟩
  | 115 => ⟨S_, .f32⟩
  | 116 => ⟨S1x2048, .f32⟩
  | 117 => ⟨S1x2048x1, .f32⟩
  | 118 => ⟨S_, .f32⟩
  | 119 => ⟨S1x2048x1, .f32⟩
  | 120 => ⟨S1x2048x1, .f32⟩
  | 121 => ⟨S1x2048x1024, .f32⟩
  | 122 => ⟨S1x2048x1024, .f32⟩
  | 123 => ⟨S1x2048x1024, .f32⟩
  | 124 => ⟨S_, .f32⟩
  | 125 => ⟨S1x2048, .f32⟩
  | 126 => ⟨S1x2048x1, .f32⟩
  | 127 => ⟨S_, .f32⟩
  | _ => ⟨S1x2048x1024, .f32⟩

abbrev hbmTy0_2 (i : Nat) : BufTy := match i % 128 with
  | 0 => ⟨S1x2048x1, .f32⟩
  | 1 => ⟨S1x2048x1, .f32⟩
  | 2 => ⟨S1x2048x1024, .f32⟩
  | 3 => ⟨S1x2048x1024, .f32⟩
  | 4 => ⟨S_, .f32⟩
  | 5 => ⟨S1x2048x1, .f32⟩
  | 6 => ⟨S1x2048x1, .f32⟩
  | 7 => ⟨S1x2048x1, .f32⟩
  | 8 => ⟨S1x2048x1024, .f32⟩
  | 9 => ⟨S1x2048x1024, .f32⟩
  | 10 => ⟨S1x1x1024, .f32⟩
  | 11 => ⟨S1x2048x1024, .f32⟩
  | 12 => ⟨S1x2048x1024, .f32⟩
  | 13 => ⟨S1x1x1024, .f32⟩
  | 14 => ⟨S1x2048x1024, .f32⟩
  | 15 => ⟨S1x2048x1024, .f32⟩
  | 16 => ⟨S1x1024x4096, .f32⟩
  | 17 => ⟨S1024x4096, .f32⟩
  | 18 => ⟨S1x2048x4096, .f32⟩
  | 19 => ⟨S1x4096, .f32⟩
  | 20 => ⟨S4096, .f32⟩
  | 21 => ⟨S1x1x4096, .f32⟩
  | 22 => ⟨S1x2048x4096, .f32⟩
  | 23 => ⟨S1x2048x4096, .f32⟩
  | 24 => ⟨S_, .f32⟩
  | 25 => ⟨S1x2048x4096, .f32⟩
  | 26 => ⟨S1x2048x4096, .f32⟩
  | 27 => ⟨S1x4096x1024, .f32⟩
  | 28 => ⟨S4096x1024, .f32⟩
  | 29 => ⟨S1x2048x1024, .f32⟩
  | 30 => ⟨S1x1024, .f32⟩
  | 31 => ⟨S1024, .f32⟩
  | 32 => ⟨S1x1x1024, .f32⟩
  | 33 => ⟨S1x2048x1024, .f32⟩
  | 34 => ⟨S1x2048x1024, .f32⟩
  | 35 => ⟨S1x2048x1024, .f32⟩
  | 36 => ⟨S1x1024, .f32⟩
  | 37 => ⟨S1024, .f32⟩
  | 38 => ⟨S1x1024, .f32⟩
  | 39 => ⟨S1024, .f32⟩
  | 40 => ⟨S_, .f32⟩
  | 41 => ⟨S1x2048, .f32⟩
  | 42 => ⟨S1x2048x1, .f32⟩
  | 43 => ⟨S_, .f32⟩
  | 44 => ⟨S1x2048x1, .f32⟩
  | 45 => ⟨S1x2048x1, .f32⟩
  | 46 => ⟨S1x2048x1024, .f32⟩
  | 47 => ⟨S1x2048x1024, .f32⟩
  | 48 => ⟨S1x2048x1024, .f32⟩
  | 49 => ⟨S_, .f32⟩
  | 50 => ⟨S1x2048, .f32⟩
  | 51 => ⟨S1x2048x1, .f32⟩
  | 52 => ⟨S_, .f32⟩
  | 53 => ⟨S1x2048x1, .f32⟩
  | 54 => ⟨S1x2048x1, .f32⟩
  | 55 => ⟨S1x2048x1024, .f32⟩
  | 56 => ⟨S1x2048x1024, .f32⟩
  | 57 => ⟨S_, .f32⟩
  | 58 => ⟨S1x2048x1, .f32⟩
  | 59 => ⟨S1x2048x1, .f32⟩
  | 60 => ⟨S1x2048x1, .f32⟩
  | 61 => ⟨S1x2048x1024, .f32⟩
  | 62 => ⟨S1x2048x1024, .f32⟩
  | 63 => ⟨S1x1x1024, .f32⟩
  | 64 => ⟨S1x2048x1024, .f32⟩
  | 65 => ⟨S1x2048x1024, .f32⟩
  | 66 => ⟨S1x1x1024, .f32⟩
  | 67 => ⟨S1x2048x1024, .f32⟩
  | 68 => ⟨S1x2048x1024, .f32⟩
  | 69 => ⟨S_, .f32⟩
  | 70 => ⟨S1x2048, .f32⟩
  | 71 => ⟨S1x2048x1, .f32⟩
  | 72 => ⟨S_, .f32⟩
  | 73 => ⟨S1x2048x1, .f32⟩
  | 74 => ⟨S1x2048x1, .f32⟩
  | 75 => ⟨S1x2048x1024, .f32⟩
  | 76 => ⟨S1x2048x1024, .f32⟩
  | 77 => ⟨S1x2048x1024, .f32⟩
  | 78 => ⟨S_, .f32⟩
  | 79 => ⟨S1x2048, .f32⟩
  | 80 => ⟨S1x2048x1, .f32⟩
  | 81 => ⟨S_, .f32⟩
  | 82 => ⟨S1x2048x1, .f32⟩
  | 83 => ⟨S1x2048x1, .f32⟩
  | 84 => ⟨S1x2048x1024, .f32⟩
  | 85 => ⟨S1x2048x1024, .f32⟩
  | 86 => ⟨S_, .f32⟩
  | 87 => ⟨S1x2048x1, .f32⟩
  | 88 => ⟨S1x2048x1, .f32⟩
  | 89 => ⟨S1x2048x1, .f32⟩
  | 90 => ⟨S1x2048x1024, .f32⟩
  | 91 => ⟨S1x2048x1024, .f32⟩
  | 92 => ⟨S1x1x1024, .f32⟩
  | 93 => ⟨S1x2048x1024, .f32⟩
  | 94 => ⟨S1x2048x1024, .f32⟩
  | 95 => ⟨S1x1x1024, .f32⟩
  | 96 => ⟨S1x2048x1024, .f32⟩
  | 97 => ⟨S1x2048x1024, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_1 : Ref sig .tc := ⟨.hbm, 62, rfl⟩
abbrev main_call0_v0 : Ref sig .tc := ⟨.hbm, 63, rfl⟩
abbrev main_call0_v1 : Ref sig .tc := ⟨.hbm, 64, rfl⟩
abbrev main_v39 : Ref sig .tc := ⟨.hbm, 65, rfl⟩
abbrev main_cst_2 : Ref sig .tc := ⟨.hbm, 66, rfl⟩
abbrev main_v40 : Ref sig .tc := ⟨.hbm, 67, rfl⟩
abbrev main_cst_3 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_5 : Ref sig .tc := ⟨.hbm, 96, rfl⟩
abbrev main_v67 : Ref sig .tc := ⟨.hbm, 97, rfl⟩
abbrev main_v68 : Ref sig .tc := ⟨.hbm, 98, rfl⟩
abbrev main_cst_6 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_7 : Ref sig .tc := ⟨.hbm, 105, rfl⟩
abbrev main_v74 : Ref sig .tc := ⟨.hbm, 106, rfl⟩
abbrev main_v75 : Ref sig .tc := ⟨.hbm, 107, rfl⟩
abbrev main_cst_8 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_9 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_call1_cst : Ref sig .tc := ⟨.hbm, 133, rfl⟩
abbrev main_call1_v0 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_10 : Ref sig .tc := ⟨.hbm, 149, rfl⟩
abbrev main_v113 : Ref sig .tc := ⟨.hbm, 150, rfl⟩
abbrev main_v114 : Ref sig .tc := ⟨.hbm, 151, rfl⟩
abbrev main_cst_11 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_12 : Ref sig .tc := ⟨.hbm, 158, rfl⟩
abbrev main_v120 : Ref sig .tc := ⟨.hbm, 159, rfl⟩
abbrev main_v121 : Ref sig .tc := ⟨.hbm, 160, rfl⟩
abbrev main_cst_13 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_14 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_cst_15 : Ref sig .tc := ⟨.hbm, 209, rfl⟩
abbrev main_call2_v0 : Ref sig .tc := ⟨.hbm, 210, rfl⟩
abbrev main_call2_v1 : Ref sig .tc := ⟨.hbm, 211, rfl⟩
abbrev main_v168 : Ref sig .tc := ⟨.hbm, 212, rfl⟩
abbrev main_cst_16 : Ref sig .tc := ⟨.hbm, 213, rfl⟩
abbrev main_v169 : Ref sig .tc := ⟨.hbm, 214, rfl⟩
abbrev main_cst_17 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_cst_18 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_cst_19 : Ref sig .tc := ⟨.hbm, 243, rfl⟩
abbrev main_v196 : Ref sig .tc := ⟨.hbm, 244, rfl⟩
abbrev main_v197 : Ref sig .tc := ⟨.hbm, 245, rfl⟩
abbrev main_cst_20 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_cst_21 : Ref sig .tc := ⟨.hbm, 252, rfl⟩
abbrev main_v203 : Ref sig .tc := ⟨.hbm, 253, rfl⟩
abbrev main_v204 : Ref sig .tc := ⟨.hbm, 254, rfl⟩
abbrev main_cst_22 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_cst_23 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_call3_cst : Ref sig .tc := ⟨.hbm, 280, rfl⟩
abbrev main_call3_v0 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_cst_24 : Ref sig .tc := ⟨.hbm, 296, rfl⟩
abbrev main_v242 : Ref sig .tc := ⟨.hbm, 297, rfl⟩
abbrev main_v243 : Ref sig .tc := ⟨.hbm, 298, rfl⟩
abbrev main_cst_25 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_cst_26 : Ref sig .tc := ⟨.hbm, 305, rfl⟩
abbrev main_v249 : Ref sig .tc := ⟨.hbm, 306, rfl⟩
abbrev main_v250 : Ref sig .tc := ⟨.hbm, 307, rfl⟩
abbrev main_cst_27 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_cst_28 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_cst_29 : Ref sig .tc := ⟨.hbm, 325, rfl⟩
abbrev main_v266 : Ref sig .tc := ⟨.hbm, 326, rfl⟩
abbrev main_v267 : Ref sig .tc := ⟨.hbm, 327, rfl⟩
abbrev main_cst_30 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_cst_31 : Ref sig .tc := ⟨.hbm, 334, rfl⟩
abbrev main_v273 : Ref sig .tc := ⟨.hbm, 335, rfl⟩
abbrev main_v274 : Ref sig .tc := ⟨.hbm, 336, rfl⟩
abbrev main_cst_32 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_cst_33 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩

abbrev nD : Nat := 1
abbrev τ : Topo := Topo.v7x

variable {F : FTy → Type} [FloatOps F]
-- ==== Proof.Region.lean ====
/-
  One kernel region of @main as a segment between two states of the unscoped buffers: entered with every unscoped buffer held at
  `W c`, left with its one output array at what the pipeline's proof data leave there and every other buffer as it was.
-/
module

public import proofs.«01_k».proof.Proof.Gen.KernelIdeal.Regions
public import Idealize.ShloMosaic.Lib.Pipeline.RegionArrays

@[expose] public section

set_option maxRecDepth 1280

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

abbrev 𝒱₀ : Variants := Variants.none

/-- No core owes another anything: one level for every semaphore of the TensorCores. -/
abbrev L₀ : GSem nD τ sig → Finset Unit := fun g => if g.1.2 = .tc then {()} else ∅
abbrev lv₀ : GSem nD τ sig → Unit → ℕ := fun _ _ => 0

/-- What rides beside the buffers: the generator register, and that nothing is owed. -/
abbrev side (c : Dev nD) : sProp 𝕄 := iprop((∃ r, prngReg c r) ∗ ∃ W, owes (c : Thread nD τ) (0 : CellTallies nD τ sig Unit) W)

variable (pdats : (p : Fin 6) → (c : Dev nD) → Dat τ (Elt F) Unit ℕ (UR sig nD τ) ℕ (cfgs p) c)

theorem cut (p : Fin 6) : Pipeline.LevelCut (pcfgs (F := F)) adm () L₀ lv₀ p (fun _ => 0) (fun _ => 0) where
  hι c w s := by simp [L₀]
  hιb c w s := le_refl 0
  hD c g i h := absurd h (by simp)

set_option backward.isDefEq.respectTransparency.types false in
/-- Region `p`'s exit valuation: the entry's, with output window `o`'s array at what the proof data leave. -/
def exitV (p : Fin 6) (o : Fin (cfgs p).W) (W : Dev nD → Valuation τ sig (Elt F)) (c : Dev nD) : Valuation τ sig (Elt F) :=
  Function.update (W c) (Proc.devRef .tc (Pipeline.arrRef (cfgs p).spec o)) ((pdats p c).arrAt o (cfgs p).N)

/-- What is to be known of region `p` and its proof data entered at `W`. -/
structure Facts (p : Fin 6) (o : Fin (cfgs p).W) (W : Dev nD → Valuation τ sig (Elt F)) : Prop where
  kit : Pipeline.LaunchFacts (nD := nD) (τ := τ) cfgs p
  body : ∀ c, BodyObligation (pdats p c) (defs₀ (F := F)) 𝒱₀ () Set.univ
  owed : ∀ c t, (pdats p c).owed t = 0
  recorded : ∀ c, (pdats p c).recorded 0 = Set.univ
  share : ∀ c w, (pdats p c).q w = fullShare
  enter : ∀ c, iprop(Pipeline.scopedRest (cfgs p).spec c ∗ ∃ r, prngReg c r) ⊢ (pdats p c).Φ 0
  leave : ∀ c, (pdats p c).Φ (Fin.last (cfgs p).N) ⊢ iprop(Pipeline.scopedRest (cfgs p).spec c ∗ ∃ r, prngReg c r)
  arrays : ∀ c w, (pdats p c).A w = W c (Proc.devRef .tc (Pipeline.arrRef (cfgs p).spec w))
  inputs : ∀ w, w ≠ o → ((cfgs p).win w).isOut = false
  unscoped : ∀ w, (Pipeline.arrRef (cfgs p).spec w).isScoped = false

section

variable {pdats} {p : Fin 6} {o : Fin (cfgs p).W} {W : Dev nD → Valuation τ sig (Elt F)} (h : Facts pdats p o W)

include h

theorem Facts.arr_ne (w : Fin (cfgs p).W) (hw : w ≠ o) :
    (Proc.devRef .tc (Pipeline.arrRef (cfgs p).spec w) : DevRef τ sig) ≠ Proc.devRef .tc (Pipeline.arrRef (cfgs p).spec o) :=
  StableHlo.devRef_ne_of_ne fun e => hw (h.kit.win.arr_inj e)

set_option backward.isDefEq.respectTransparency.types false in
/-- The arrays are left at the exit valuation. -/
theorem Facts.leaves (c : Dev nD) (w : Fin (cfgs p).W) :
    (pdats p c).arrAt w (cfgs p).N = exitV pdats p o W c (Proc.devRef .tc (Pipeline.arrRef (cfgs p).spec w)) := by
  by_cases hw : w = o
  · subst hw; unfold exitV; rw [Function.update_self]
  · exact ((pdats p c).arrAt_in w (h.inputs w hw) _).trans ((h.arrays c w).trans (Function.update_of_ne (h.arr_ne w hw) ..).symm)

/-- Every buffer but the region's arrays keeps its contents. -/
theorem Facts.others (c : Dev nD) : ∀ b ∈ (Pipeline.ucRefs τ sig) \ Pipeline.arrRefs (τ := τ) (cfgs p).spec, exitV pdats p o W c b = W c b := fun b hb => by
  have hn : b ≠ Proc.devRef .tc (Pipeline.arrRef (cfgs p).spec o) := by
    rintro rfl
    exact (Finset.mem_sdiff.mp hb).2 (Finset.mem_map_of_mem _ (Finset.mem_image_of_mem _ (Finset.mem_univ o)))
  unfold exitV; rw [Function.update_of_ne hn]

set_option backward.isDefEq.respectTransparency.types false in
/-- The region's record. -/
def Facts.seg : RegionSeg (pcfgs (F := F)) adm pdats () defs₀ 𝒱₀ L₀ lv₀ p :=
  Pipeline.RegionSeg.ofHeld (pcfgs (F := F)) adm pdats () defs₀ 𝒱₀ L₀ lv₀ p (fun _ => 0)
    (fun c => iprop(∃ r, prngReg c r)) (fun c => iprop(∃ r, prngReg c r)) h.kit.toP rfl
    (fun c => (h.body c).loose) h.owed h.recorded (fun c => (pdats p c).share_full (h.share c)) h.enter h.leave
    (fun _ => 0) (cut p)
    (fun c => StableHlo.held (c : Thread nD τ) ((Pipeline.ucRefs τ sig) \ Pipeline.arrRefs (τ := τ) (cfgs p).spec) (W c))
    W (exitV pdats p o W) h.arrays h.leaves

set_option backward.isDefEq.respectTransparency.types false in
/-- Entered from all the unscoped buffers held at `W`. -/
theorem Facts.pre (c : Dev nD) :
    iprop(StableHlo.held (c : Thread nD τ) (Pipeline.ucRefs τ sig) (W c) ∗ side c) ⊢ h.seg.pre c := by
  show _ ⊢ iprop(StableHlo.held (c : Thread nD τ) (Pipeline.arrRefs (τ := τ) (cfgs p).spec) (W c) ∗ (∃ r, prngReg c r)
    ∗ (StableHlo.held (c : Thread nD τ) ((Pipeline.ucRefs τ sig) \ Pipeline.arrRefs (τ := τ) (cfgs p).spec) (W c)) ∗ ∃ W, owes (c : Thread nD τ) 0 W)
  rw [StableHlo.held_sub_split (c : Thread nD τ) (Pipeline.arrRefs_sub_ucRefs (cfgs p).spec h.unscoped) (W c)]
  iintro ⟨⟨Ha, Hr⟩, Hp, HO⟩
  isplitl [Ha]; · iexact Ha
  isplitl [Hp]; · iexact Hp
  isplitl [Hr]; · iexact Hr
  iexact HO

set_option backward.isDefEq.respectTransparency.types false in
/-- Left with all of them held at the exit valuation. -/
theorem Facts.post (c : Dev nD) :
    h.seg.post c ⊢ iprop(StableHlo.held (c : Thread nD τ) (Pipeline.ucRefs τ sig) (exitV pdats p o W c) ∗ side c) := by
  show iprop(StableHlo.held (c : Thread nD τ) (Pipeline.arrRefs (τ := τ) (cfgs p).spec) (exitV pdats p o W c) ∗ (∃ r, prngReg c r)
    ∗ (StableHlo.held (c : Thread nD τ) ((Pipeline.ucRefs τ sig) \ Pipeline.arrRefs (τ := τ) (cfgs p).spec) (W c)) ∗ ∃ W, owes (c : Thread nD τ) 0 W) ⊢ _
  rw [StableHlo.held_sub_split (c : Thread nD τ) (Pipeline.arrRefs_sub_ucRefs (cfgs p).spec h.unscoped) (exitV pdats p o W c),
    StableHlo.held_congr (c : Thread nD τ) (S := (Pipeline.ucRefs τ sig) \ Pipeline.arrRefs (τ := τ) (cfgs p).spec)
      (V := exitV pdats p o W c) (V' := W c) (h.others c)]
  iintro ⟨Ha, Hp, Hr, HO⟩
  isplitl [Ha Hr]; · isplitl [Ha] <;> iassumption
  isplitl [Hp]; · iexact Hp
  iexact HO

end

end Cert.KernelIdeal.Run
-- ==== Proof.AttRun0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Att0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! ## The body's branch conditions over the points -/

/-- The condition of the body's first conditional, of the grid coordinates. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)
/-- The condition of the body's second conditional. -/
abbrev cond1 (i : grid0.Coords) : Prop := (Scalar.cmpi .ne (Scalar.extui (Scalar.cmpi .eq (BitVec.ofNat 32 (i 0).val) 1#32)) 0#32) = 1#1
/-- It holds at the second point only. -/
theorem hcond1 : ∀ t : Fin cfg0.N, cond1 (grid0.coords t) ↔ t.val = 1 :=
  (by decide +kernel : ∀ t : Fin grid0.N, cond1 (grid0.coords t) ↔ t.val = 1)
/-- The condition of the body's third conditional. -/
abbrev cond2 (i : grid0.Coords) : Prop := k0_cond3 i = 1#1
/-- It holds from the second point on. -/
theorem hcond2 : ∀ t : Fin cfg0.N, cond2 (grid0.coords t) ↔ 1 ≤ t.val :=
  (by decide +kernel : ∀ t : Fin grid0.N, cond2 (grid0.coords t) ↔ 1 ≤ t.val)

/-! ## The body on any whole memrefs -/

/-- The offsets of load 1 of the attended head, in closed form. -/
instance closed1 (i : grid0.Coords) : ClosedOff (k0_off1 i) := ⟨![(BitVec.ofNat 32 (i 0).val - 1#32).toNat, 0, 0], rfl⟩
/-- The offsets of load 2 of the attended head, in closed form. -/
instance closed2 (i : grid0.Coords) : ClosedOff (k0_off2 i) := ⟨![(BitVec.ofNat 32 (i 0).val - 1#32).toNat, 0, 0], rfl⟩
/-- The offsets of load 3 of the attended head, in closed form. -/
instance closed3 (i : grid0.Coords) : ClosedOff (k0_off3 i) := ⟨![(BitVec.ofNat 32 (i 0).val - 1#32).toNat, 0, 0], rfl⟩
/-- The offsets of load 4 of the attended head, in closed form. -/
instance closed4 (i : grid0.Coords) : ClosedOff (k0_off4 i) := ⟨![(BitVec.ofNat 32 (i 0).val - 1#32).toNat, 512, 0], rfl⟩
/-- The offsets of load 5 of the attended head, in closed form. -/
instance closed5 (i : grid0.Coords) : ClosedOff (k0_off5 i) := ⟨![(BitVec.ofNat 32 (i 0).val - 1#32).toNat, 512, 0], rfl⟩
/-- The offsets of load 6 of the attended head, in closed form. -/
instance closed6 (i : grid0.Coords) : ClosedOff (k0_off6 i) := ⟨![(BitVec.ofNat 32 (i 0).val - 1#32).toNat, 1024, 0], rfl⟩
/-- The offsets of load 7 of the attended head, in closed form. -/
instance closed7 (i : grid0.Coords) : ClosedOff (k0_off7 i) := ⟨![(BitVec.ofNat 32 (i 0).val - 1#32).toNat, 1024, 0], rfl⟩
/-- The offsets of load 8 of the attended head, in closed form. -/
instance closed8 (i : grid0.Coords) : ClosedOff (k0_off8 i) := ⟨![(BitVec.ofNat 32 (i 0).val - 1#32).toNat, 1536, 0], rfl⟩
/-- The offsets of load 9 of the attended head, in closed form. -/
instance closed9 (i : grid0.Coords) : ClosedOff (k0_off9 i) := ⟨![(BitVec.ofNat 32 (i 0).val - 1#32).toNat, 1536, 0], rfl⟩

set_option maxHeartbeats 4000000 in
/-- The body at the first point: the first half of the projections is stored, the output is untouched. The pieces each buffer is left with are found by the run. -/
def runA (𝒱₀ : Variants) (c : Dev nD) (i : grid0.Coords) (arg1 : Memref sig .tc .vmem S2048x1024 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048x64 .bf16) (harg8 : arg8.IsWhole) (arg9 : Memref sig .tc .vmem S16x2048x64 .fp8e4m3) (harg9 : arg9.IsWhole) (arg10 : Memref sig .tc .vmem S16x2048x64 .fp8e4m3) (harg10 : arg10.IsWhole) (arg11 : Memref sig .tc .vmem S16x2048x128 .fp8e4m3) (harg11 : arg11.IsWhole) (hc0 : cond0 i) (hc1 : ¬cond1 i) (hc2 : ¬cond2 i)
    (x0 : Vec F S2048x1024 .f32) (x1 : Vec F S1024x512 .f32) (x2 : Vec F S1024x512 .f32) (x3 : Vec F S1024x512 .f32) (x4 : Vec F S1x512 .f32) (x5 : Vec F S1x512 .f32) (x6 : Vec F S1x512 .f32) (d8 : Vec F S1x2048x64 .bf16) (f9 : Buf (Elt F) (arg9.view.loc (c : Thread nD τ))) (f10 : Buf (Elt F) (arg10.view.loc (c : Thread nD τ))) (f11 : Buf (Elt F) (arg11.view.loc (c : Thread nD τ))) :
    { L : List (View.Piece (Elt F) S16x2048x64 .fp8e4m3) × List (View.Piece (Elt F) S16x2048x64 .fp8e4m3) × List (View.Piece (Elt F) S16x2048x128 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d8 ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d8 ∗ (arg9.view.loc (c : Thread nD τ) ↦[arg9.view.set]{fullShare} arg9.view.writes (Elt F) f9 L.1) ∗ (arg10.view.loc (c : Thread nD τ) ↦[arg10.view.set]{fullShare} arg10.view.writes (Elt F) f10 L.2.1) ∗ (arg11.view.loc (c : Thread nD τ) ↦[arg11.view.set]{fullShare} arg11.view.writes (Elt F) f11 L.2.2)) -∗ K ⟨⟩))
          ⊢ wp frame (wpE (defs₀ (F := F)) 𝒱₀ c none) E (cc0__qkv_attn_body i arg1 harg1 arg2 harg2 arg3 harg3 arg4 harg4 arg5 harg5 arg6 harg6 arg7 harg7 arg8 harg8 arg9 harg9 arg10 harg10 arg11 harg11) K } := by
  refine ⟨⟨?_, ?_, ?_⟩, fun E K => ?run⟩
  case run =>
    simp only [cc0__qkv_attn_body_eq_skeleton]; unfold cc0__qkv_attn_body_skel
    simp only [k0_part1_eq_skeleton, k0_part2_eq_skeleton, k0_part3_eq_skeleton, k0_part4_eq_skeleton, k0_part5_eq_skeleton]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, H9, H10, H11, Hk⟩
    obtain rfl := harg1.eq_unread hg0; obtain rfl := harg2.eq_unread hg1; obtain rfl := harg3.eq_unread hg2; obtain rfl := harg4.eq_unread hg3; obtain rfl := harg5.eq_unread hg4; obtain rfl := harg6.eq_unread hg5; obtain rfl := harg7.eq_unread hg6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact hg7
      iexact H7
    isplitl [H9]; · iexact H9
    isplitl [H10]; · iexact H10
    iexact H11

set_option maxHeartbeats 4000000 in
/-- The body at the second point: the second half of the projections is stored, then head 0 is attended. The pieces each buffer is left with are found by the run. -/
def runB (𝒱₀ : Variants) (c : Dev nD) (i : grid0.Coords) (arg1 : Memref sig .tc .vmem S2048x1024 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048x64 .bf16) (harg8 : arg8.IsWhole) (arg9 : Memref sig .tc .vmem S16x2048x64 .fp8e4m3) (harg9 : arg9.IsWhole) (arg10 : Memref sig .tc .vmem S16x2048x64 .fp8e4m3) (harg10 : arg10.IsWhole) (arg11 : Memref sig .tc .vmem S16x2048x128 .fp8e4m3) (harg11 : arg11.IsWhole) (hc0 : ¬cond0 i) (hc1 : cond1 i) (hc2 : cond2 i)
    (x0 : Vec F S2048x1024 .f32) (x1 : Vec F S1024x512 .f32) (x2 : Vec F S1024x512 .f32) (x3 : Vec F S1024x512 .f32) (x4 : Vec F S1x512 .f32) (x5 : Vec F S1x512 .f32) (x6 : Vec F S1x512 .f32) (f9 : Buf (Elt F) (arg9.view.loc (c : Thread nD τ))) (f10 : Buf (Elt F) (arg10.view.loc (c : Thread nD τ))) (f11 : Buf (Elt F) (arg11.view.loc (c : Thread nD τ))) :
    { L : List (View.Piece (Elt F) S1x2048x64 .bf16) × List (View.Piece (Elt F) S16x2048x64 .fp8e4m3) × List (View.Piece (Elt F) S16x2048x64 .fp8e4m3) × List (View.Piece (Elt F) S16x2048x128 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f8, (arg8.view.loc (c : Thread nD τ) ↦[arg8.view.set]{fullShare} arg8.view.writes (Elt F) f8 L.1)) ∗ (arg9.view.loc (c : Thread nD τ) ↦[arg9.view.set]{fullShare} arg9.view.writes (Elt F) f9 L.2.1) ∗ (arg10.view.loc (c : Thread nD τ) ↦[arg10.view.set]{fullShare} arg10.view.writes (Elt F) f10 L.2.2.1) ∗ (arg11.view.loc (c : Thread nD τ) ↦[arg11.view.set]{fullShare} arg11.view.writes (Elt F) f11 L.2.2.2)) -∗ K ⟨⟩))
          ⊢ wp frame (wpE (defs₀ (F := F)) 𝒱₀ c none) E (cc0__qkv_attn_body i arg1 harg1 arg2 harg2 arg3 harg3 arg4 harg4 arg5 harg5 arg6 harg6 arg7 harg7 arg8 harg8 arg9 harg9 arg10 harg10 arg11 harg11) K } := by
  refine ⟨⟨?_, ?_, ?_, ?_⟩, fun E K => ?run⟩
  case run =>
    simp only [cc0__qkv_attn_body_eq_skeleton]; unfold cc0__qkv_attn_body_skel
    simp only [k0_part6_eq_skeleton, k0_part7_eq_skeleton, k0_part8_eq_skeleton, k0_part9_eq_skeleton, k0_part10_eq_skeleton, k0_part11_eq_skeleton]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%d7, %g7, -, H7⟩, H9, H10, H11, Hk⟩
    obtain rfl := harg1.eq_unread hg0; obtain rfl := harg2.eq_unread hg1; obtain rfl := harg3.eq_unread hg2; obtain rfl := harg4.eq_unread hg3; obtain rfl := harg5.eq_unread hg4; obtain rfl := harg6.eq_unread hg5; obtain rfl := harg7.eq_unread hg6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H9]; · iexact H9
    isplitl [H10]; · iexact H10
    iexact H11

set_option maxHeartbeats 4000000 in
/-- The body at any later point: a head is attended, the scratch only read. The pieces each buffer is left with are found by the run. -/
def runC (𝒱₀ : Variants) (c : Dev nD) (i : grid0.Coords) (arg1 : Memref sig .tc .vmem S2048x1024 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048x64 .bf16) (harg8 : arg8.IsWhole) (arg9 : Memref sig .tc .vmem S16x2048x64 .fp8e4m3) (harg9 : arg9.IsWhole) (arg10 : Memref sig .tc .vmem S16x2048x64 .fp8e4m3) (harg10 : arg10.IsWhole) (arg11 : Memref sig .tc .vmem S16x2048x128 .fp8e4m3) (harg11 : arg11.IsWhole) (hc0 : ¬cond0 i) (hc1 : ¬cond1 i) (hc2 : cond2 i)
    (x0 : Vec F S2048x1024 .f32) (x1 : Vec F S1024x512 .f32) (x2 : Vec F S1024x512 .f32) (x3 : Vec F S1024x512 .f32) (x4 : Vec F S1x512 .f32) (x5 : Vec F S1x512 .f32) (x6 : Vec F S1x512 .f32) (f9 : Buf (Elt F) (arg9.view.loc (c : Thread nD τ))) (f10 : Buf (Elt F) (arg10.view.loc (c : Thread nD τ))) (f11 : Buf (Elt F) (arg11.view.loc (c : Thread nD τ))) :
    { L : List (View.Piece (Elt F) S1x2048x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f8, (arg8.view.loc (c : Thread nD τ) ↦[arg8.view.set]{fullShare} arg8.view.writes (Elt F) f8 L)) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) -∗ K ⟨⟩))
          ⊢ wp frame (wpE (defs₀ (F := F)) 𝒱₀ c none) E (cc0__qkv_attn_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__qkv_attn_body_eq_skeleton]; unfold cc0__qkv_attn_body_skel
    simp only [k0_part11_eq_skeleton]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%d7, %g7, -, H7⟩, H9, H10, H11, Hk⟩
    obtain rfl := harg1.eq_unread hg0; obtain rfl := harg2.eq_unread hg1; obtain rfl := harg3.eq_unread hg2; obtain rfl := harg4.eq_unread hg3; obtain rfl := harg5.eq_unread hg4; obtain rfl := harg6.eq_unread hg5; obtain rfl := harg7.eq_unread hg6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H9]; · iexact H9
    isplitl [H10]; · iexact H10
    iexact H11

end Cert.KernelIdeal.Att0
-- ==== Proof.Lanes.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Kit
public import Idealize.ShloMosaic.Lib.VecWindow
public import Idealize.ShloMosaic.Lib.ValueIdx
public import Idealize.ShloMosaic.Lib.Pipeline.Value

@[expose] public section

set_option maxRecDepth 16384

noncomputable section

namespace Cert.KernelIdeal.Lanes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx

/-! ## What the scratch holds once projected -/

/-- A projection's halves laid out by head: head `h`'s 64 columns are columns `64 (h mod 8) …` of half `h / 8`. -/
def lanes (y0 y1 : FVec F S2048x512 .f32) : Vec F S16x2048x64 .fp8e4m3 := fun i =>
  if h : (i 0).val < 8 then truncf .fp8e4m3 y0 bitsLt_fp8e4m3_f32 (ix2 (n0 := 2048) (n1 := 512) (i 1) ⟨64 * (i 0).val + (i 2).val, by have h2 : (i 2).val < 64 := (i 2).isLt; omega⟩)
  else truncf .fp8e4m3 y1 bitsLt_fp8e4m3_f32 (ix2 (n0 := 2048) (n1 := 512) (i 1) ⟨64 * ((i 0).val - 8) + (i 2).val, by have h2 : (i 2).val < 64 := (i 2).isLt; have h0 : (i 0).val < 16 := (i 0).isLt; omega⟩)

/-- The same followed by 64 columns of ones. -/
def lanesOne (y0 y1 : FVec F S2048x512 .f32) : Vec F S16x2048x128 .fp8e4m3 := fun i =>
  if h : (i 2).val < 64 then lanes y0 y1 (ix3 (n0 := 16) (n1 := 2048) (n2 := 64) (i 0) (i 1) ⟨(i 2).val, h⟩) else Scalar.ofBits .fp8e4m3 0x38#8

/-- A head's stored piece is the layout under its rectangle. -/
theorem piece_lo (y0 y1 : FVec F S2048x512 .f32) (g o : ℕ) (hg : g < 8) (ho : o = 64 * g) (hs : S2048x512.Slices ![0, o] S2048x64)
    (inb : ∀ a, (![g, 0, 0] : Fin 3 → ℕ) a + S1x2048x64.size a ≤ S16x2048x64.size a) (j : (Rect.unit (s := S16x2048x64) ![g, 0, 0] S1x2048x64.size inb).shape.Idx) :
    shapeCast S1x2048x64 (truncf .fp8e4m3 (extractStridedSlice S2048x64 ![0, o] y0 hs) bitsLt_fp8e4m3_f32) shapeCasts_S2048x64_S1x2048x64 j
      = lanes y0 y1 ((Rect.unit (s := S16x2048x64) ![g, 0, 0] S1x2048x64.size inb).emb j) := by
  have h0 : (j 0).val = 0 := by have := (j 0).isLt; simp at this; omega
  have e0 : (((Rect.unit (s := S16x2048x64) ![g, 0, 0] S1x2048x64.size inb).emb j) 0).val = g := by
    show g + 1 * (j 0).val = g; omega
  have e2 : (((Rect.unit (s := S16x2048x64) ![g, 0, 0] S1x2048x64.size inb).emb j) 2).val = (j 2).val := by
    show 0 + 1 * (j 2).val = _; omega
  have h2 : (j 2).val < 64 := (j 2).isLt
  refine (shapeCast_addUnit_apply ![2048, 64] _ _ j).trans ?_
  unfold lanes; rw [dif_pos (by show _ < _; rw [e0]; exact hg)]
  refine congrArg (truncf .fp8e4m3 y0 bitsLt_fp8e4m3_f32) (funext fun a => Fin.ext ?_)
  match a with
  | ⟨0, _⟩ => show 0 + (j 1).val = 0 + 1 * (j 1).val; omega
  | ⟨1, _⟩ =>
    show o + (j 2).val = 64 * (g + 1 * (j 0).val) + (0 + 1 * (j 2).val)
    rw [ho, h0]; omega

/-- A head's stored piece is the layout under its rectangle. -/
theorem piece_hi (y0 y1 : FVec F S2048x512 .f32) (g o : ℕ) (hg : 8 ≤ g) (ho : o = 64 * (g - 8)) (hs : S2048x512.Slices ![0, o] S2048x64)
    (inb : ∀ a, (![g, 0, 0] : Fin 3 → ℕ) a + S1x2048x64.size a ≤ S16x2048x64.size a) (j : (Rect.unit (s := S16x2048x64) ![g, 0, 0] S1x2048x64.size inb).shape.Idx) :
    shapeCast S1x2048x64 (truncf .fp8e4m3 (extractStridedSlice S2048x64 ![0, o] y1 hs) bitsLt_fp8e4m3_f32) shapeCasts_S2048x64_S1x2048x64 j
      = lanes y0 y1 ((Rect.unit (s := S16x2048x64) ![g, 0, 0] S1x2048x64.size inb).emb j) := by
  have h0 : (j 0).val = 0 := by have := (j 0).isLt; simp at this; omega
  have e0 : (((Rect.unit (s := S16x2048x64) ![g, 0, 0] S1x2048x64.size inb).emb j) 0).val = g := by
    show g + 1 * (j 0).val = g; omega
  have e2 : (((Rect.unit (s := S16x2048x64) ![g, 0, 0] S1x2048x64.size inb).emb j) 2).val = (j 2).val := by
    show 0 + 1 * (j 2).val = _; omega
  have h2 : (j 2).val < 64 := (j 2).isLt
  refine (shapeCast_addUnit_apply ![2048, 64] _ _ j).trans ?_
  unfold lanes; rw [dif_neg (by show ¬ _ < _ ; rw [e0]; omega)]
  refine congrArg (truncf .fp8e4m3 y1 bitsLt_fp8e4m3_f32) (funext fun a => Fin.ext ?_)
  match a with
  | ⟨0, _⟩ => show 0 + (j 1).val = 0 + 1 * (j 1).val; omega
  | ⟨1, _⟩ =>
    show o + (j 2).val = 64 * ((g + 1 * (j 0).val) - 8) + (0 + 1 * (j 2).val)
    rw [ho, h0]; omega

/-- A head's stored piece is the layout under its rectangle. -/
theorem piece_lo1 (y0 y1 : FVec F S2048x512 .f32) (g o : ℕ) (hg : g < 8) (ho : o = 64 * g) (hs : S2048x512.Slices ![0, o] S2048x64)
    (inb : ∀ a, (![g, 0, 0] : Fin 3 → ℕ) a + S1x2048x64.size a ≤ S16x2048x128.size a) (j : (Rect.unit (s := S16x2048x128) ![g, 0, 0] S1x2048x64.size inb).shape.Idx) :
    shapeCast S1x2048x64 (truncf .fp8e4m3 (extractStridedSlice S2048x64 ![0, o] y0 hs) bitsLt_fp8e4m3_f32) shapeCasts_S2048x64_S1x2048x64 j
      = lanesOne y0 y1 ((Rect.unit (s := S16x2048x128) ![g, 0, 0] S1x2048x64.size inb).emb j) := by
  have h0 : (j 0).val = 0 := by have := (j 0).isLt; simp at this; omega
  have e0 : (((Rect.unit (s := S16x2048x128) ![g, 0, 0] S1x2048x64.size inb).emb j) 0).val = g := by
    show g + 1 * (j 0).val = g; omega
  have e2 : (((Rect.unit (s := S16x2048x128) ![g, 0, 0] S1x2048x64.size inb).emb j) 2).val = (j 2).val := by
    show 0 + 1 * (j 2).val = _; omega
  have h2 : (j 2).val < 64 := (j 2).isLt
  refine (shapeCast_addUnit_apply ![2048, 64] _ _ j).trans ?_
  unfold lanesOne; rw [dif_pos (by rw [e2]; exact h2)]
  unfold lanes; rw [dif_pos (by show _ < _; rw [e0]; exact hg)]
  refine congrArg (truncf .fp8e4m3 y0 bitsLt_fp8e4m3_f32) (funext fun a => Fin.ext ?_)
  match a with
  | ⟨0, _⟩ => show 0 + (j 1).val = 0 + 1 * (j 1).val; omega
  | ⟨1, _⟩ =>
    show o + (j 2).val = 64 * (g + 1 * (j 0).val) + (0 + 1 * (j 2).val)
    rw [ho, h0]; omega

/-- A head's stored piece is the layout under its rectangle. -/
theorem piece_hi1 (y0 y1 : FVec F S2048x512 .f32) (g o : ℕ) (hg : 8 ≤ g) (ho : o = 64 * (g - 8)) (hs : S2048x512.Slices ![0, o] S2048x64)
    (inb : ∀ a, (![g, 0, 0] : Fin 3 → ℕ) a + S1x2048x64.size a ≤ S16x2048x128.size a) (j : (Rect.unit (s := S16x2048x128) ![g, 0, 0] S1x2048x64.size inb).shape.Idx) :
    shapeCast S1x2048x64 (truncf .fp8e4m3 (extractStridedSlice S2048x64 ![0, o] y1 hs) bitsLt_fp8e4m3_f32) shapeCasts_S2048x64_S1x2048x64 j
      = lanesOne y0 y1 ((Rect.unit (s := S16x2048x128) ![g, 0, 0] S1x2048x64.size inb).emb j) := by
  have h0 : (j 0).val = 0 := by have := (j 0).isLt; simp at this; omega
  have e0 : (((Rect.unit (s := S16x2048x128) ![g, 0, 0] S1x2048x64.size inb).emb j) 0).val = g := by
    show g + 1 * (j 0).val = g; omega
  have e2 : (((Rect.unit (s := S16x2048x128) ![g, 0, 0] S1x2048x64.size inb).emb j) 2).val = (j 2).val := by
    show 0 + 1 * (j 2).val = _; omega
  have h2 : (j 2).val < 64 := (j 2).isLt
  refine (shapeCast_addUnit_apply ![2048, 64] _ _ j).trans ?_
  unfold lanesOne; rw [dif_pos (by rw [e2]; exact h2)]
  unfold lanes; rw [dif_neg (by show ¬ _ < _ ; rw [e0]; omega)]
  refine congrArg (truncf .fp8e4m3 y1 bitsLt_fp8e4m3_f32) (funext fun a => Fin.ext ?_)
  match a with
  | ⟨0, _⟩ => show 0 + (j 1).val = 0 + 1 * (j 1).val; omega
  | ⟨1, _⟩ =>
    show o + (j 2).val = 64 * ((g + 1 * (j 0).val) - 8) + (0 + 1 * (j 2).val)
    rw [ho, h0]; omega

/-- A head's stored ones are the layout's upper columns. -/
theorem piece_one (y0 y1 : FVec F S2048x512 .f32) (g : ℕ)
    (inb : ∀ a, (![g, 0, 64] : Fin 3 → ℕ) a + S1x2048x64.size a ≤ S16x2048x128.size a) (j : (Rect.unit (s := S16x2048x128) ![g, 0, 64] S1x2048x64.size inb).shape.Idx) :
    shapeCast S1x2048x64 (broadcast S2048x64 (Scalar.ofBits .fp8e4m3 0x38#8 : F .fp8e4m3)) shapeCasts_S2048x64_S1x2048x64 j
      = lanesOne y0 y1 ((Rect.unit (s := S16x2048x128) ![g, 0, 64] S1x2048x64.size inb).emb j) := by
  have e2 : (((Rect.unit (s := S16x2048x128) ![g, 0, 64] S1x2048x64.size inb).emb j) 2).val = 64 + (j 2).val := by
    show 64 + 1 * (j 2).val = _; omega
  unfold lanesOne; rw [dif_neg (by rw [e2]; omega)]
  rfl

/-- A load of a whole input reads it. -/
theorem rd {s : Shape} {e : EltTy} {m : Memref sig .tc .vmem s e} (h : m.IsWhole) (x : Vec F s e) {off : Fin s.rank → ℕ} (inb : ∀ a, off a + s.size a ≤ s.size a) :
    m.view.readAt (Elt F) (Rect.unit off s.size inb).toLoadRect (h.unread x) = x :=
  (View.readAt_full m.view _ inb).trans (h.read_unread x)

/-- A place of head `g` is under the head's rectangle. -/
theorem mem_head {g : ℕ} {inb : ∀ a, (![g, 0, 0] : Fin 3 → ℕ) a + S1x2048x64.size a ≤ S16x2048x64.size a} {y : S16x2048x64.Idx} (h : (y 0).val = g) :
    y ∈ (Rect.unit (s := S16x2048x64) ![g, 0, 0] S1x2048x64.size inb).set := by
  refine Rect.mem_set_unit.2 fun a => ?_
  have h1 : (y 1).val < 2048 := (y 1).isLt
  have h2 : (y 2).val < 64 := (y 2).isLt
  match a with
  | ⟨0, _⟩ => show g ≤ (y 0).val ∧ (y 0).val < g + 1; omega
  | ⟨1, _⟩ => show 0 ≤ (y 1).val ∧ (y 1).val < 0 + 2048; omega
  | ⟨2, _⟩ => show 0 ≤ (y 2).val ∧ (y 2).val < 0 + 64; omega

/-- The same with the ones behind: each half of the columns under its own rectangle. -/
theorem mem_head1 {g d : ℕ} {inb : ∀ a, (![g, 0, d] : Fin 3 → ℕ) a + S1x2048x64.size a ≤ S16x2048x128.size a} {y : S16x2048x128.Idx} (h : (y 0).val = g)
    (hd : d ≤ (y 2).val ∧ (y 2).val < d + 64) :
    y ∈ (Rect.unit (s := S16x2048x128) ![g, 0, d] S1x2048x64.size inb).set := by
  refine Rect.mem_set_unit.2 fun a => ?_
  have h1 : (y 1).val < 2048 := (y 1).isLt
  match a with
  | ⟨0, _⟩ => show g ≤ (y 0).val ∧ (y 0).val < g + 1; omega
  | ⟨1, _⟩ => show 0 ≤ (y 1).val ∧ (y 1).val < 0 + 2048; omega
  | ⟨2, _⟩ => show d ≤ (y 2).val ∧ (y 2).val < d + 64; omega

/-- One more piece in front: a property of all pieces, piece by piece. -/
theorem all_cons {s : Shape} {e : EltTy} {G : s.Idx → Elt F e} {p : View.Piece (Elt F) s e} {L : List (View.Piece (Elt F) s e)}
    (h : ∀ j, p.2 j = G (p.1.emb j)) (hL : ∀ q ∈ L, ∀ j, q.2 j = G (q.1.emb j)) : ∀ q ∈ p :: L, ∀ j, q.2 j = G (q.1.emb j) :=
  List.forall_mem_cons.2 ⟨h, hL⟩

/-- A piece in front covers. -/
theorem cov_here {s : Shape} {e : EltTy} {y : s.Idx} {p : View.Piece (Elt F) s e} {L : List (View.Piece (Elt F) s e)} (h : y ∈ p.1.set) : ∃ q ∈ p :: L, y ∈ q.1.set :=
  ⟨p, List.mem_cons_self, h⟩

/-- A later piece covers. -/
theorem cov_next {s : Shape} {e : EltTy} {y : s.Idx} {p : View.Piece (Elt F) s e} {L : List (View.Piece (Elt F) s e)} (h : ∃ q ∈ L, y ∈ q.1.set) : ∃ q ∈ p :: L, y ∈ q.1.set :=
  h.imp fun _ h => ⟨List.mem_cons_of_mem _ h.1, h.2⟩

end Cert.KernelIdeal.Lanes
-- ==== Proof.AttVal0.lean ====
module

public import proofs.«01_k».proof.Proof.AttRun0
public import proofs.«01_k».proof.Proof.Lanes
public import Idealize.ShloMosaic.Lib.VecWindow
public import Idealize.ShloMosaic.Lib.ValueIdx
public import Idealize.ShloMosaic.Lib.Pipeline.Value

@[expose] public section

set_option maxRecDepth 16384

noncomputable section

namespace Cert.KernelIdeal.Att0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

open Idealize.ShloMosaic.ValueIdx Cert.KernelIdeal.Lanes

/-! ## The attended head, of the scratch's contents -/

/-- The block the body stores at a point that attends, of what the three scratch buffers hold. -/
def outV (i : grid0.Coords) (h3 : cond2 i) (q9 q10 : Vec F S16x2048x64 .fp8e4m3) (q11 : Vec F S16x2048x128 .fp8e4m3) : FVec F S1x2048x64 .bf16 :=
  let v11 : Vec F S1x2048x64 .fp8e4m3 := fun x => q9 ((Rect.unit (s := S16x2048x64) (k0_off1 i) S1x2048x64.size (k0_off1_inb i h3)).toLoadRect.idx x)
  let v15 : Vec F S1x512x64 .fp8e4m3 := fun x => q10 ((Rect.unit (s := S16x2048x64) (k0_off2 i) S1x512x64.size (k0_off2_inb i h3)).toLoadRect.idx x)
  let v24 : Vec F S1x512x128 .fp8e4m3 := fun x => q11 ((Rect.unit (s := S16x2048x128) (k0_off3 i) S1x512x128.size (k0_off3_inb i h3)).toLoadRect.idx x)
  let v29 : Vec F S1x512x64 .fp8e4m3 := fun x => q10 ((Rect.unit (s := S16x2048x64) (k0_off4 i) S1x512x64.size (k0_off4_inb i h3)).toLoadRect.idx x)
  let v38 : Vec F S1x512x128 .fp8e4m3 := fun x => q11 ((Rect.unit (s := S16x2048x128) (k0_off5 i) S1x512x128.size (k0_off5_inb i h3)).toLoadRect.idx x)
  let v43 : Vec F S1x512x64 .fp8e4m3 := fun x => q10 ((Rect.unit (s := S16x2048x64) (k0_off6 i) S1x512x64.size (k0_off6_inb i h3)).toLoadRect.idx x)
  let v52 : Vec F S1x512x128 .fp8e4m3 := fun x => q11 ((Rect.unit (s := S16x2048x128) (k0_off7 i) S1x512x128.size (k0_off7_inb i h3)).toLoadRect.idx x)
  let v57 : Vec F S1x512x64 .fp8e4m3 := fun x => q10 ((Rect.unit (s := S16x2048x64) (k0_off8 i) S1x512x64.size (k0_off8_inb i h3)).toLoadRect.idx x)
  let v66 : Vec F S1x512x128 .fp8e4m3 := fun x => q11 ((Rect.unit (s := S16x2048x128) (k0_off9 i) S1x512x128.size (k0_off9_inb i h3)).toLoadRect.idx x)
  k0_pay11 (k0_pay82 v11) (k0_pay83 v11 v15 v24 v29 v38) (k0_pay84 v11 v43) (Scalar.ofBits .bf16 0x3900#16) v52 v57 v66

section Runs
variable (𝒱₀ : Variants) (c : Dev nD) (i : grid0.Coords) (arg1 : Memref sig .tc .vmem S2048x1024 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048x64 .bf16) (harg8 : arg8.IsWhole) (arg9 : Memref sig .tc .vmem S16x2048x64 .fp8e4m3) (harg9 : arg9.IsWhole) (arg10 : Memref sig .tc .vmem S16x2048x64 .fp8e4m3) (harg10 : arg10.IsWhole) (arg11 : Memref sig .tc .vmem S16x2048x128 .fp8e4m3) (harg11 : arg11.IsWhole) (x0 : Vec F S2048x1024 .f32) (x1 : Vec F S1024x512 .f32) (x2 : Vec F S1024x512 .f32) (x3 : Vec F S1024x512 .f32) (x4 : Vec F S1x512 .f32) (x5 : Vec F S1x512 .f32) (x6 : Vec F S1x512 .f32) (f9 : Buf (Elt F) (arg9.view.loc (c : Thread nD τ))) (f10 : Buf (Elt F) (arg10.view.loc (c : Thread nD τ))) (f11 : Buf (Elt F) (arg11.view.loc (c : Thread nD τ)))

set_option maxHeartbeats 1000000 in
/-- What the run stores in scratch 0 is the layout of the projected half. -/
theorem agreeA9 (hc0 : cond0 i) (hc1 : ¬cond1 i) (hc2 : ¬cond2 i) (d8 : Vec F S1x2048x64 .bf16) (y1 : FVec F S2048x512 .f32) : ∀ p ∈ (runA (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 d8 f9 f10 f11).1.1, ∀ j, p.2 j = lanes (k0_pay13 x0 x1 x4) y1 (p.1.emb j) := by
  have e : k0_pay13 x0 x1 x4 = k0_pay13 (arg1.view.readAt (Elt F) (Rect.unit (s := S2048x1024) ![0, 0] S2048x1024.size inb_S2048x1024_S2048x1024_0_0).toLoadRect (harg1.unread x0))
      (arg2.view.readAt (Elt F) (Rect.unit (s := S1024x512) ![0, 0] S1024x512.size inb_S1024x512_S1024x512_0_0).toLoadRect (harg2.unread x1))
      (arg5.view.readAt (Elt F) (Rect.unit (s := S1x512) ![0, 0] S1x512.size inb_S1x512_S1x512_0_0).toLoadRect (harg5.unread x4)) := by
    rw [rd harg1, rd harg2, rd harg5]
  rw [e]
  iterate 8 (refine all_cons (fun j => piece_lo _ _ _ _ (by decide) rfl (by decide) (by decide) j) ?_)
  exact fun _ h => absurd h List.not_mem_nil

/-- The run's stores in scratch 0 cover their half of the heads. -/
theorem coverA9 (hc0 : cond0 i) (hc1 : ¬cond1 i) (hc2 : ¬cond2 i) (d8 : Vec F S1x2048x64 .bf16) (y : S16x2048x64.Idx) (hy : (y 0).val < 8) : ∃ p ∈ (runA (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 d8 f9 f10 f11).1.1, y ∈ p.1.set := by
  have h16 : (y 0).val < 16 := (y 0).isLt
  by_cases h7 : (y 0).val = 7
  · exact cov_here (mem_head (inb := by decide) h7)
  refine cov_next ?_
  by_cases h6 : (y 0).val = 6
  · exact cov_here (mem_head (inb := by decide) h6)
  refine cov_next ?_
  by_cases h5 : (y 0).val = 5
  · exact cov_here (mem_head (inb := by decide) h5)
  refine cov_next ?_
  by_cases h4 : (y 0).val = 4
  · exact cov_here (mem_head (inb := by decide) h4)
  refine cov_next ?_
  by_cases h3 : (y 0).val = 3
  · exact cov_here (mem_head (inb := by decide) h3)
  refine cov_next ?_
  by_cases h2 : (y 0).val = 2
  · exact cov_here (mem_head (inb := by decide) h2)
  refine cov_next ?_
  by_cases h1 : (y 0).val = 1
  · exact cov_here (mem_head (inb := by decide) h1)
  refine cov_next ?_
  exact cov_here (mem_head (inb := by decide) (by omega))

set_option maxHeartbeats 1000000 in
/-- What the run stores in scratch 1 is the layout of the projected half. -/
theorem agreeA10 (hc0 : cond0 i) (hc1 : ¬cond1 i) (hc2 : ¬cond2 i) (d8 : Vec F S1x2048x64 .bf16) (y1 : FVec F S2048x512 .f32) : ∀ p ∈ (runA (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 d8 f9 f10 f11).1.2.1, ∀ j, p.2 j = lanes (k0_pay13 x0 x2 x5) y1 (p.1.emb j) := by
  have e : k0_pay13 x0 x2 x5 = k0_pay13 (arg1.view.readAt (Elt F) (Rect.unit (s := S2048x1024) ![0, 0] S2048x1024.size inb_S2048x1024_S2048x1024_0_0).toLoadRect (harg1.unread x0))
      (arg3.view.readAt (Elt F) (Rect.unit (s := S1024x512) ![0, 0] S1024x512.size inb_S1024x512_S1024x512_0_0).toLoadRect (harg3.unread x2))
      (arg6.view.readAt (Elt F) (Rect.unit (s := S1x512) ![0, 0] S1x512.size inb_S1x512_S1x512_0_0).toLoadRect (harg6.unread x5)) := by
    rw [rd harg1, rd harg3, rd harg6]
  rw [e]
  iterate 8 (refine all_cons (fun j => piece_lo _ _ _ _ (by decide) rfl (by decide) (by decide) j) ?_)
  exact fun _ h => absurd h List.not_mem_nil

/-- The run's stores in scratch 1 cover their half of the heads. -/
theorem coverA10 (hc0 : cond0 i) (hc1 : ¬cond1 i) (hc2 : ¬cond2 i) (d8 : Vec F S1x2048x64 .bf16) (y : S16x2048x64.Idx) (hy : (y 0).val < 8) : ∃ p ∈ (runA (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 d8 f9 f10 f11).1.2.1, y ∈ p.1.set := by
  have h16 : (y 0).val < 16 := (y 0).isLt
  by_cases h7 : (y 0).val = 7
  · exact cov_here (mem_head (inb := by decide) h7)
  refine cov_next ?_
  by_cases h6 : (y 0).val = 6
  · exact cov_here (mem_head (inb := by decide) h6)
  refine cov_next ?_
  by_cases h5 : (y 0).val = 5
  · exact cov_here (mem_head (inb := by decide) h5)
  refine cov_next ?_
  by_cases h4 : (y 0).val = 4
  · exact cov_here (mem_head (inb := by decide) h4)
  refine cov_next ?_
  by_cases h3 : (y 0).val = 3
  · exact cov_here (mem_head (inb := by decide) h3)
  refine cov_next ?_
  by_cases h2 : (y 0).val = 2
  · exact cov_here (mem_head (inb := by decide) h2)
  refine cov_next ?_
  by_cases h1 : (y 0).val = 1
  · exact cov_here (mem_head (inb := by decide) h1)
  refine cov_next ?_
  exact cov_here (mem_head (inb := by decide) (by omega))

set_option maxHeartbeats 1000000 in
/-- What the run stores in scratch 2 is the layout of the projected half. -/
theorem agreeA11 (hc0 : cond0 i) (hc1 : ¬cond1 i) (hc2 : ¬cond2 i) (d8 : Vec F S1x2048x64 .bf16) (y1 : FVec F S2048x512 .f32) : ∀ p ∈ (runA (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 d8 f9 f10 f11).1.2.2, ∀ j, p.2 j = lanesOne (k0_pay13 x0 x3 x6) y1 (p.1.emb j) := by
  have e : k0_pay13 x0 x3 x6 = k0_pay13 (arg1.view.readAt (Elt F) (Rect.unit (s := S2048x1024) ![0, 0] S2048x1024.size inb_S2048x1024_S2048x1024_0_0).toLoadRect (harg1.unread x0))
      (arg4.view.readAt (Elt F) (Rect.unit (s := S1024x512) ![0, 0] S1024x512.size inb_S1024x512_S1024x512_0_0).toLoadRect (harg4.unread x3))
      (arg7.view.readAt (Elt F) (Rect.unit (s := S1x512) ![0, 0] S1x512.size inb_S1x512_S1x512_0_0).toLoadRect (harg7.unread x6)) := by
    rw [rd harg1, rd harg4, rd harg7]
  rw [e]
  iterate 8 (refine all_cons (fun j => piece_one _ _ _ (by decide) j) ?_; refine all_cons (fun j => piece_lo1 _ _ _ _ (by decide) rfl (by decide) (by decide) j) ?_)
  exact fun _ h => absurd h List.not_mem_nil

/-- The run's stores in scratch 2 cover their half of the heads. -/
theorem coverA11 (hc0 : cond0 i) (hc1 : ¬cond1 i) (hc2 : ¬cond2 i) (d8 : Vec F S1x2048x64 .bf16) (y : S16x2048x128.Idx) (hy : (y 0).val < 8) : ∃ p ∈ (runA (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 d8 f9 f10 f11).1.2.2, y ∈ p.1.set := by
  have h16 : (y 0).val < 16 := (y 0).isLt
  have h128 : (y 2).val < 128 := (y 2).isLt
  by_cases h7 : (y 0).val = 7 ∧ 64 ≤ (y 2).val
  · exact cov_here (mem_head1 (inb := by decide) h7.1 ⟨h7.2, by omega⟩)
  refine cov_next ?_
  by_cases g7 : (y 0).val = 7
  · exact cov_here (mem_head1 (inb := by decide) g7 ⟨by omega, by omega⟩)
  refine cov_next ?_
  by_cases h6 : (y 0).val = 6 ∧ 64 ≤ (y 2).val
  · exact cov_here (mem_head1 (inb := by decide) h6.1 ⟨h6.2, by omega⟩)
  refine cov_next ?_
  by_cases g6 : (y 0).val = 6
  · exact cov_here (mem_head1 (inb := by decide) g6 ⟨by omega, by omega⟩)
  refine cov_next ?_
  by_cases h5 : (y 0).val = 5 ∧ 64 ≤ (y 2).val
  · exact cov_here (mem_head1 (inb := by decide) h5.1 ⟨h5.2, by omega⟩)
  refine cov_next ?_
  by_cases g5 : (y 0).val = 5
  · exact cov_here (mem_head1 (inb := by decide) g5 ⟨by omega, by omega⟩)
  refine cov_next ?_
  by_cases h4 : (y 0).val = 4 ∧ 64 ≤ (y 2).val
  · exact cov_here (mem_head1 (inb := by decide) h4.1 ⟨h4.2, by omega⟩)
  refine cov_next ?_
  by_cases g4 : (y 0).val = 4
  · exact cov_here (mem_head1 (inb := by decide) g4 ⟨by omega, by omega⟩)
  refine cov_next ?_
  by_cases h3 : (y 0).val = 3 ∧ 64 ≤ (y 2).val
  · exact cov_here (mem_head1 (inb := by decide) h3.1 ⟨h3.2, by omega⟩)
  refine cov_next ?_
  by_cases g3 : (y 0).val = 3
  · exact cov_here (mem_head1 (inb := by decide) g3 ⟨by omega, by omega⟩)
  refine cov_next ?_
  by_cases h2 : (y 0).val = 2 ∧ 64 ≤ (y 2).val
  · exact cov_here (mem_head1 (inb := by decide) h2.1 ⟨h2.2, by omega⟩)
  refine cov_next ?_
  by_cases g2 : (y 0).val = 2
  · exact cov_here (mem_head1 (inb := by decide) g2 ⟨by omega, by omega⟩)
  refine cov_next ?_
  by_cases h1 : (y 0).val = 1 ∧ 64 ≤ (y 2).val
  · exact cov_here (mem_head1 (inb := by decide) h1.1 ⟨h1.2, by omega⟩)
  refine cov_next ?_
  by_cases g1 : (y 0).val = 1
  · exact cov_here (mem_head1 (inb := by decide) g1 ⟨by omega, by omega⟩)
  refine cov_next ?_
  by_cases h0 : (y 0).val = 0 ∧ 64 ≤ (y 2).val
  · exact cov_here (mem_head1 (inb := by decide) h0.1 ⟨h0.2, by omega⟩)
  refine cov_next ?_
  exact cov_here (mem_head1 (inb := by decide) (by omega) ⟨by omega, by omega⟩)

set_option maxHeartbeats 1000000 in
/-- What the run stores in scratch 0 is the layout of the projected half. -/
theorem agreeB9 (hc0 : ¬cond0 i) (hc1 : cond1 i) (hc2 : cond2 i) (y0 : FVec F S2048x512 .f32) : ∀ p ∈ (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.1, ∀ j, p.2 j = lanes y0 (k0_pay13 x0 x1 x4) (p.1.emb j) := by
  have e : k0_pay13 x0 x1 x4 = k0_pay13 (arg1.view.readAt (Elt F) (Rect.unit (s := S2048x1024) ![0, 0] S2048x1024.size inb_S2048x1024_S2048x1024_0_0).toLoadRect (harg1.unread x0))
      (arg2.view.readAt (Elt F) (Rect.unit (s := S1024x512) ![0, 0] S1024x512.size inb_S1024x512_S1024x512_0_0).toLoadRect (harg2.unread x1))
      (arg5.view.readAt (Elt F) (Rect.unit (s := S1x512) ![0, 0] S1x512.size inb_S1x512_S1x512_0_0).toLoadRect (harg5.unread x4)) := by
    rw [rd harg1, rd harg2, rd harg5]
  rw [e]
  iterate 8 (refine all_cons (fun j => piece_hi _ _ _ _ (by decide) rfl (by decide) (by decide) j) ?_)
  exact fun _ h => absurd h List.not_mem_nil

/-- The run's stores in scratch 0 cover their half of the heads. -/
theorem coverB9 (hc0 : ¬cond0 i) (hc1 : cond1 i) (hc2 : cond2 i) (y : S16x2048x64.Idx) (hy : 8 ≤ (y 0).val) : ∃ p ∈ (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.1, y ∈ p.1.set := by
  have h16 : (y 0).val < 16 := (y 0).isLt
  by_cases h15 : (y 0).val = 15
  · exact cov_here (mem_head (inb := by decide) h15)
  refine cov_next ?_
  by_cases h14 : (y 0).val = 14
  · exact cov_here (mem_head (inb := by decide) h14)
  refine cov_next ?_
  by_cases h13 : (y 0).val = 13
  · exact cov_here (mem_head (inb := by decide) h13)
  refine cov_next ?_
  by_cases h12 : (y 0).val = 12
  · exact cov_here (mem_head (inb := by decide) h12)
  refine cov_next ?_
  by_cases h11 : (y 0).val = 11
  · exact cov_here (mem_head (inb := by decide) h11)
  refine cov_next ?_
  by_cases h10 : (y 0).val = 10
  · exact cov_here (mem_head (inb := by decide) h10)
  refine cov_next ?_
  by_cases h9 : (y 0).val = 9
  · exact cov_here (mem_head (inb := by decide) h9)
  refine cov_next ?_
  exact cov_here (mem_head (inb := by decide) (by omega))

set_option maxHeartbeats 1000000 in
/-- What the run stores in scratch 1 is the layout of the projected half. -/
theorem agreeB10 (hc0 : ¬cond0 i) (hc1 : cond1 i) (hc2 : cond2 i) (y0 : FVec F S2048x512 .f32) : ∀ p ∈ (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.2.1, ∀ j, p.2 j = lanes y0 (k0_pay13 x0 x2 x5) (p.1.emb j) := by
  have e : k0_pay13 x0 x2 x5 = k0_pay13 (arg1.view.readAt (Elt F) (Rect.unit (s := S2048x1024) ![0, 0] S2048x1024.size inb_S2048x1024_S2048x1024_0_0).toLoadRect (harg1.unread x0))
      (arg3.view.readAt (Elt F) (Rect.unit (s := S1024x512) ![0, 0] S1024x512.size inb_S1024x512_S1024x512_0_0).toLoadRect (harg3.unread x2))
      (arg6.view.readAt (Elt F) (Rect.unit (s := S1x512) ![0, 0] S1x512.size inb_S1x512_S1x512_0_0).toLoadRect (harg6.unread x5)) := by
    rw [rd harg1, rd harg3, rd harg6]
  rw [e]
  iterate 8 (refine all_cons (fun j => piece_hi _ _ _ _ (by decide) rfl (by decide) (by decide) j) ?_)
  exact fun _ h => absurd h List.not_mem_nil

/-- The run's stores in scratch 1 cover their half of the heads. -/
theorem coverB10 (hc0 : ¬cond0 i) (hc1 : cond1 i) (hc2 : cond2 i) (y : S16x2048x64.Idx) (hy : 8 ≤ (y 0).val) : ∃ p ∈ (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.2.1, y ∈ p.1.set := by
  have h16 : (y 0).val < 16 := (y 0).isLt
  by_cases h15 : (y 0).val = 15
  · exact cov_here (mem_head (inb := by decide) h15)
  refine cov_next ?_
  by_cases h14 : (y 0).val = 14
  · exact cov_here (mem_head (inb := by decide) h14)
  refine cov_next ?_
  by_cases h13 : (y 0).val = 13
  · exact cov_here (mem_head (inb := by decide) h13)
  refine cov_next ?_
  by_cases h12 : (y 0).val = 12
  · exact cov_here (mem_head (inb := by decide) h12)
  refine cov_next ?_
  by_cases h11 : (y 0).val = 11
  · exact cov_here (mem_head (inb := by decide) h11)
  refine cov_next ?_
  by_cases h10 : (y 0).val = 10
  · exact cov_here (mem_head (inb := by decide) h10)
  refine cov_next ?_
  by_cases h9 : (y 0).val = 9
  · exact cov_here (mem_head (inb := by decide) h9)
  refine cov_next ?_
  exact cov_here (mem_head (inb := by decide) (by omega))

set_option maxHeartbeats 1000000 in
/-- What the run stores in scratch 2 is the layout of the projected half. -/
theorem agreeB11 (hc0 : ¬cond0 i) (hc1 : cond1 i) (hc2 : cond2 i) (y0 : FVec F S2048x512 .f32) : ∀ p ∈ (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.2.2, ∀ j, p.2 j = lanesOne y0 (k0_pay13 x0 x3 x6) (p.1.emb j) := by
  have e : k0_pay13 x0 x3 x6 = k0_pay13 (arg1.view.readAt (Elt F) (Rect.unit (s := S2048x1024) ![0, 0] S2048x1024.size inb_S2048x1024_S2048x1024_0_0).toLoadRect (harg1.unread x0))
      (arg4.view.readAt (Elt F) (Rect.unit (s := S1024x512) ![0, 0] S1024x512.size inb_S1024x512_S1024x512_0_0).toLoadRect (harg4.unread x3))
      (arg7.view.readAt (Elt F) (Rect.unit (s := S1x512) ![0, 0] S1x512.size inb_S1x512_S1x512_0_0).toLoadRect (harg7.unread x6)) := by
    rw [rd harg1, rd harg4, rd harg7]
  rw [e]
  iterate 8 (refine all_cons (fun j => piece_one _ _ _ (by decide) j) ?_; refine all_cons (fun j => piece_hi1 _ _ _ _ (by decide) rfl (by decide) (by decide) j) ?_)
  exact fun _ h => absurd h List.not_mem_nil

/-- The run's stores in scratch 2 cover their half of the heads. -/
theorem coverB11 (hc0 : ¬cond0 i) (hc1 : cond1 i) (hc2 : cond2 i) (y : S16x2048x128.Idx) (hy : 8 ≤ (y 0).val) : ∃ p ∈ (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.2.2, y ∈ p.1.set := by
  have h16 : (y 0).val < 16 := (y 0).isLt
  have h128 : (y 2).val < 128 := (y 2).isLt
  by_cases h15 : (y 0).val = 15 ∧ 64 ≤ (y 2).val
  · exact cov_here (mem_head1 (inb := by decide) h15.1 ⟨h15.2, by omega⟩)
  refine cov_next ?_
  by_cases g15 : (y 0).val = 15
  · exact cov_here (mem_head1 (inb := by decide) g15 ⟨by omega, by omega⟩)
  refine cov_next ?_
  by_cases h14 : (y 0).val = 14 ∧ 64 ≤ (y 2).val
  · exact cov_here (mem_head1 (inb := by decide) h14.1 ⟨h14.2, by omega⟩)
  refine cov_next ?_
  by_cases g14 : (y 0).val = 14
  · exact cov_here (mem_head1 (inb := by decide) g14 ⟨by omega, by omega⟩)
  refine cov_next ?_
  by_cases h13 : (y 0).val = 13 ∧ 64 ≤ (y 2).val
  · exact cov_here (mem_head1 (inb := by decide) h13.1 ⟨h13.2, by omega⟩)
  refine cov_next ?_
  by_cases g13 : (y 0).val = 13
  · exact cov_here (mem_head1 (inb := by decide) g13 ⟨by omega, by omega⟩)
  refine cov_next ?_
  by_cases h12 : (y 0).val = 12 ∧ 64 ≤ (y 2).val
  · exact cov_here (mem_head1 (inb := by decide) h12.1 ⟨h12.2, by omega⟩)
  refine cov_next ?_
  by_cases g12 : (y 0).val = 12
  · exact cov_here (mem_head1 (inb := by decide) g12 ⟨by omega, by omega⟩)
  refine cov_next ?_
  by_cases h11 : (y 0).val = 11 ∧ 64 ≤ (y 2).val
  · exact cov_here (mem_head1 (inb := by decide) h11.1 ⟨h11.2, by omega⟩)
  refine cov_next ?_
  by_cases g11 : (y 0).val = 11
  · exact cov_here (mem_head1 (inb := by decide) g11 ⟨by omega, by omega⟩)
  refine cov_next ?_
  by_cases h10 : (y 0).val = 10 ∧ 64 ≤ (y 2).val
  · exact cov_here (mem_head1 (inb := by decide) h10.1 ⟨h10.2, by omega⟩)
  refine cov_next ?_
  by_cases g10 : (y 0).val = 10
  · exact cov_here (mem_head1 (inb := by decide) g10 ⟨by omega, by omega⟩)
  refine cov_next ?_
  by_cases h9 : (y 0).val = 9 ∧ 64 ≤ (y 2).val
  · exact cov_here (mem_head1 (inb := by decide) h9.1 ⟨h9.2, by omega⟩)
  refine cov_next ?_
  by_cases g9 : (y 0).val = 9
  · exact cov_here (mem_head1 (inb := by decide) g9 ⟨by omega, by omega⟩)
  refine cov_next ?_
  by_cases h8 : (y 0).val = 8 ∧ 64 ≤ (y 2).val
  · exact cov_here (mem_head1 (inb := by decide) h8.1 ⟨h8.2, by omega⟩)
  refine cov_next ?_
  exact cov_here (mem_head1 (inb := by decide) (by omega) ⟨by omega, by omega⟩)

/-- What the run stores in the output. -/
theorem outB (hc0 : ¬cond0 i) (hc1 : cond1 i) (hc2 : cond2 i) : (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.1 = [⟨Rect.unit (s := S1x2048x64) ![0, 0, 0] S1x2048x64.size inb_S1x2048x64_S1x2048x64_0_0_0, outV i hc2 (arg9.view.read (Elt F) (arg9.view.writes (Elt F) f9 (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.1)) (arg10.view.read (Elt F) (arg10.view.writes (Elt F) f10 (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.2.1)) (arg11.view.read (Elt F) (arg11.view.writes (Elt F) f11 (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.2.2))⟩] := rfl

/-- What the run stores in the output. -/
theorem outC (hc0 : ¬cond0 i) (hc1 : ¬cond1 i) (hc2 : cond2 i) : (runC (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1 = [⟨Rect.unit (s := S1x2048x64) ![0, 0, 0] S1x2048x64.size inb_S1x2048x64_S1x2048x64_0_0_0, outV i hc2 (arg9.view.read (Elt F) f9) (arg10.view.read (Elt F) f10) (arg11.view.read (Elt F) f11)⟩] := rfl

end Runs

end Cert.KernelIdeal.Att0
-- ==== Proof.Att0.lean ====
module

public import proofs.«01_k».proof.Proof.AttVal0

@[expose] public section

set_option maxRecDepth 16384

noncomputable section

namespace Cert.KernelIdeal.Att0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

open Cert.KernelIdeal.Lanes

variable (𝒱₀ : Variants) (V : (c : Dev nD) → (b : Ref sig .tc) → Buf (Elt F) ((c : Thread nD τ).loc b)) (D : Dev nD → CellTallies nD τ sig Ix)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first two points. -/
abbrev t0 : Fin cfg0.N := ⟨0, by rw [show cfg0.N = 17 from N_0]; decide⟩
abbrev t1 : Fin cfg0.N := ⟨1, by rw [show cfg0.N = 17 from N_0]; decide⟩

/-- A projection's half at point `t`: windows `w` and `b` its weight and bias. -/
def half1 (c : Dev nD) (t : Fin cfg0.N) : FVec F S2048x512 .f32 := k0_pay13 (iblk V c 0 t) (iblk V c 1 t) (iblk V c 4 t)
def half2 (c : Dev nD) (t : Fin cfg0.N) : FVec F S2048x512 .f32 := k0_pay13 (iblk V c 0 t) (iblk V c 2 t) (iblk V c 5 t)
def half3 (c : Dev nD) (t : Fin cfg0.N) : FVec F S2048x512 .f32 := k0_pay13 (iblk V c 0 t) (iblk V c 3 t) (iblk V c 6 t)

/-- What the three scratch buffers hold once both halves are stored. -/
def Q9 (c : Dev nD) : Vec F S16x2048x64 .fp8e4m3 := lanes (half1 V c t0) (half1 V c t1)
def Q10 (c : Dev nD) : Vec F S16x2048x64 .fp8e4m3 := lanes (half2 V c t0) (half2 V c t1)
def Q11 (c : Dev nD) : Vec F S16x2048x128 .fp8e4m3 := lanesOne (half3 V c t0) (half3 V c t1)

/-- One staging buffer of the output, for the value it has where nothing is stored. -/
abbrev VO : View sig .tc .vmem S1x2048x64 .bf16 := (Memref.whole cc0_stg7_0 : Memref sig .tc .vmem S1x2048x64 .bf16).view

/-- What the output's buffer holds after point `t`: the attended head, from the second point on. -/
def outAt (c : Dev nD) (t : Fin cfg0.N) : Vec F S1x2048x64 .bf16 :=
  if h : cond2 (grid0.coords t) then outV (grid0.coords t) h (Q9 V c) (Q10 V c) (Q11 V c) else VO.read (Elt F) VO.junk

/-- Input window 0's current buffer holds its block at every point. -/
theorem before_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point. -/
theorem before_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point. -/
theorem before_2_of {c : Dev nD} (dat : Dat τ (Elt F) Ix ℕ U Lvl cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point. -/
theorem before_3_of {c : Dev nD} (dat : Dat τ (Elt F) Ix ℕ U Lvl cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point. -/
theorem before_4_of {c : Dev nD} (dat : Dat τ (Elt F) Ix ℕ U Lvl cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point. -/
theorem before_5_of {c : Dev nD} (dat : Dat τ (Elt F) Ix ℕ U Lvl cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point. -/
theorem before_6_of {c : Dev nD} (dat : Dat τ (Elt F) Ix ℕ U Lvl cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x2048x64 .bf16 := win0_7.stage (cfg0.slots t 7)
abbrev hs7 (t : Fin cfg0.N) : (ms7 t).IsWhole := hstage0_7 ((cfg0.slots t 7).cast nbuf0_7)
abbrev sc0 : Memref sig .tc .vmem S16x2048x64 .fp8e4m3 := Memref.whole cc0_scratch0
abbrev sc1 : Memref sig .tc .vmem S16x2048x64 .fp8e4m3 := Memref.whole cc0_scratch1
abbrev sc2 : Memref sig .tc .vmem S16x2048x128 .fp8e4m3 := Memref.whole cc0_scratch2

/-! ## The invariant: what the scratch holds before each point -/

/-- Before the second point the lower heads are stored; from the third point on all of them. -/
def Held (c : Dev nD) (n : ℕ) (f9 : Buf (Elt F) (sc0.view.loc (c : Thread nD τ))) (f10 : Buf (Elt F) (sc1.view.loc (c : Thread nD τ))) (f11 : Buf (Elt F) (sc2.view.loc (c : Thread nD τ))) : Prop :=
  (n = 1 → (∀ y, (y 0).val < 8 → sc0.view.read (Elt F) f9 y = Q9 V c y) ∧ (∀ y, (y 0).val < 8 → sc1.view.read (Elt F) f10 y = Q10 V c y)
      ∧ ∀ y, (y 0).val < 8 → sc2.view.read (Elt F) f11 y = Q11 V c y)
    ∧ (2 ≤ n → sc0.view.read (Elt F) f9 = Q9 V c ∧ sc1.view.read (Elt F) f10 = Q10 V c ∧ sc2.view.read (Elt F) f11 = Q11 V c)

/-- The rest of the scoped buffers and the generator register, not looked at. -/
def rest (c : Dev nD) : sProp 𝕄 :=
  iprop(Pipeline.scopedRestBut (Ix := Ix) (Name := ℕ) (U := U) (Lvl := Lvl) (Val := Elt F) spec0 c [cc0_scratch0, cc0_scratch1, cc0_scratch2] ∗ ∃ r, prngReg c r)

/-- The invariant before point `n`. -/
def ΦK (c : Dev nD) (n : ℕ) : sProp 𝕄 :=
  iprop(∃ f9 f10 f11, ⌜Held V c n f9 f10 f11⌝ ∗ (sc0.view.loc (c : Thread nD τ) ↦[sc0.view.set]{fullShare} f9) ∗ (sc1.view.loc (c : Thread nD τ) ↦[sc1.view.set]{fullShare} f10) ∗ (sc2.view.loc (c : Thread nD τ) ↦[sc2.view.set]{fullShare} f11) ∗ rest (F := F) (Ix := Ix) (U := U) (Lvl := Lvl) c)

/-- At entry: anything is held before the first point. -/
theorem ΦK_in (c : Dev nD) :
    iprop(Pipeline.scopedRest (Ix := Ix) (Name := ℕ) (U := U) (Lvl := Lvl) (Val := Elt F) spec0 c ∗ ∃ r, prngReg c r) ⊢ ΦK (U := U) (Lvl := Lvl) (Ix := Ix) V c 0 := by
  rw [scopedRest0_split]
  unfold ΦK rest
  simp only [Memref.view_whole, View.set_whole]
  iintro ⟨⟨⟨⟨%f9, H9⟩, ⟨%f10, H10⟩, ⟨%f11, H11⟩⟩, Hr⟩, Hg⟩
  iexists f9; iexists f10; iexists f11
  isplitr; · ipureintro; exact ⟨fun h => absurd h (by decide), fun h => absurd h (by decide)⟩
  isplitl [H9]; · iexact H9
  isplitl [H10]; · iexact H10
  isplitl [H11]; · iexact H11
  isplitl [Hr]; · iexact Hr
  iexact Hg

/-- At exit what the scratch holds is forgotten. -/
theorem ΦK_out (c : Dev nD) (n : ℕ) :
    ΦK (U := U) (Lvl := Lvl) (Ix := Ix) V c n ⊢ iprop(Pipeline.scopedRest (Ix := Ix) (Name := ℕ) (U := U) (Lvl := Lvl) (Val := Elt F) spec0 c ∗ ∃ r, prngReg c r) := by
  rw [scopedRest0_split]
  unfold ΦK rest
  simp only [Memref.view_whole, View.set_whole]
  iintro ⟨%f9, %f10, %f11, -, H9, H10, H11, Hr, Hg⟩
  isplitl [H9 H10 H11 Hr]
  · isplitl [H9 H10 H11]
    · isplitl [H9]; · iexists f9; iexact H9
      isplitl [H10]; · iexists f10; iexact H10
      iexists f11; iexact H11
    iexact Hr
  iexact Hg

/-! ## The pipeline's proof data -/

/-- The proof data on core `c`: the arrays as the region finds them; after point `t` each input's buffer at its block and the
output's at the attended head; the core owing `D c` throughout; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outAt V c t
  Φ t := ΦK (F := F) (Ix := Ix) (U := U) (Lvl := Lvl) V c t.val
  q _ := fullShare
  owed _ := D c

variable (ι : Ix)

local notation "𝕕" => dat (Ix := Ix) (U := U) (Lvl := Lvl) V D

/-- The proof data's arrays are the region-entry contents. -/
theorem A_eq (c : Dev nD) (w : Fin cfg0.W) : (𝕕 c).A w = V c (Pipeline.arrRef spec0 w) := by dsimp only [dat]

theorem after_0 (c : Dev nD) (t : Fin cfg0.N) : (𝕕 c).after 0 t = iblk V c 0 t := by dsimp only [dat]
theorem after_1 (c : Dev nD) (t : Fin cfg0.N) : (𝕕 c).after 1 t = iblk V c 1 t := by dsimp only [dat]
theorem after_2 (c : Dev nD) (t : Fin cfg0.N) : (𝕕 c).after 2 t = iblk V c 2 t := by dsimp only [dat]
theorem after_3 (c : Dev nD) (t : Fin cfg0.N) : (𝕕 c).after 3 t = iblk V c 3 t := by dsimp only [dat]
theorem after_4 (c : Dev nD) (t : Fin cfg0.N) : (𝕕 c).after 4 t = iblk V c 4 t := by dsimp only [dat]
theorem after_5 (c : Dev nD) (t : Fin cfg0.N) : (𝕕 c).after 5 t = iblk V c 5 t := by dsimp only [dat]
theorem after_6 (c : Dev nD) (t : Fin cfg0.N) : (𝕕 c).after 6 t = iblk V c 6 t := by dsimp only [dat]
theorem after_7 (c : Dev nD) (t : Fin cfg0.N) : (𝕕 c).after 7 t = outAt V c t := by dsimp only [dat]
theorem before_0 (c : Dev nD) (t : Fin cfg0.N) (d) : (𝕕 c).before 0 t d = iblk V c 0 t :=
  before_0_of V (𝕕 c) (A_eq V D c 0) (after_0 V D c) t d
theorem before_1 (c : Dev nD) (t : Fin cfg0.N) (d) : (𝕕 c).before 1 t d = iblk V c 1 t :=
  before_1_of V (𝕕 c) (A_eq V D c 1) (after_1 V D c) t d
theorem before_2 (c : Dev nD) (t : Fin cfg0.N) (d) : (𝕕 c).before 2 t d = iblk V c 2 t :=
  before_2_of V (𝕕 c) (A_eq V D c 2) (after_2 V D c) t d
theorem before_3 (c : Dev nD) (t : Fin cfg0.N) (d) : (𝕕 c).before 3 t d = iblk V c 3 t :=
  before_3_of V (𝕕 c) (A_eq V D c 3) (after_3 V D c) t d
theorem before_4 (c : Dev nD) (t : Fin cfg0.N) (d) : (𝕕 c).before 4 t d = iblk V c 4 t :=
  before_4_of V (𝕕 c) (A_eq V D c 4) (after_4 V D c) t d
theorem before_5 (c : Dev nD) (t : Fin cfg0.N) (d) : (𝕕 c).before 5 t d = iblk V c 5 t :=
  before_5_of V (𝕕 c) (A_eq V D c 5) (after_5 V D c) t d
theorem before_6 (c : Dev nD) (t : Fin cfg0.N) (d) : (𝕕 c).before 6 t d = iblk V c 6 t :=
  before_6_of V (𝕕 c) (A_eq V D c 6) (after_6 V D c) t d

/-- The output is idle at the first point only, and not flushed there. -/
theorem idle_7 (t : Fin cfg0.N) (h : t.val = 0) : cfg0.idle 7 (cfg0.grid.coords t) = true := by
  obtain rfl : t = t0 := Fin.ext h
  decide +kernel
theorem live_7 : ∀ (t : Fin cfg0.N), 1 ≤ t.val → cfg0.idle 7 (cfg0.grid.coords t) = false :=
  (by decide +kernel : ∀ t : Fin grid0.N, 1 ≤ t.val → cfg0.idle 7 (grid0.coords t) = false)
theorem flush_7 (t : Fin cfg0.N) (h : t.val = 0) : (cfg0.win 7).flush t = false := by
  obtain rfl : t = t0 := Fin.ext h
  decide +kernel

/-! ## The body obligation -/

/-- What the body is called with at point `t`, the windows one by one, -/
def bodyPre (c : Dev nD) (t : Fin cfg0.N) : sProp 𝕄 :=
  iprop((𝕕 c).Φ t.castSucc ∗ (𝕕 c).owesAt ι t.castSucc
    ∗ (∃ d, owns (c : Thread nD τ) (ms0 t) fullShare ((𝕕 c).before 0 t d))
    ∗ (∃ d, owns (c : Thread nD τ) (ms1 t) fullShare ((𝕕 c).before 1 t d))
    ∗ (∃ d, owns (c : Thread nD τ) (ms2 t) fullShare ((𝕕 c).before 2 t d))
    ∗ (∃ d, owns (c : Thread nD τ) (ms3 t) fullShare ((𝕕 c).before 3 t d))
    ∗ (∃ d, owns (c : Thread nD τ) (ms4 t) fullShare ((𝕕 c).before 4 t d))
    ∗ (∃ d, owns (c : Thread nD τ) (ms5 t) fullShare ((𝕕 c).before 5 t d))
    ∗ (∃ d, owns (c : Thread nD τ) (ms6 t) fullShare ((𝕕 c).before 6 t d))
    ∗ (∃ d, owns (c : Thread nD τ) (ms7 t) fullShare ((𝕕 c).before 7 t d)))

/-- and what it returns. -/
def bodyPost (c : Dev nD) (t : Fin cfg0.N) : sProp 𝕄 :=
  iprop((𝕕 c).Φ t.succ ∗ (𝕕 c).owesAt ι t.succ
    ∗ owns (c : Thread nD τ) (ms0 t) fullShare ((𝕕 c).after 0 t)
    ∗ owns (c : Thread nD τ) (ms1 t) fullShare ((𝕕 c).after 1 t)
    ∗ owns (c : Thread nD τ) (ms2 t) fullShare ((𝕕 c).after 2 t)
    ∗ owns (c : Thread nD τ) (ms3 t) fullShare ((𝕕 c).after 3 t)
    ∗ owns (c : Thread nD τ) (ms4 t) fullShare ((𝕕 c).after 4 t)
    ∗ owns (c : Thread nD τ) (ms5 t) fullShare ((𝕕 c).after 5 t)
    ∗ owns (c : Thread nD τ) (ms6 t) fullShare ((𝕕 c).after 6 t)
    ∗ (𝕕 c).leavesExact 7 t)

/-- The block stored whole is what the output's buffer then holds. -/
theorem read_whole8 (m : Memref sig .tc .vmem S1x2048x64 .bf16) (f : m.view.ty.Contents (Elt F)) (w : Vec F S1x2048x64 .bf16) :
    m.view.read (Elt F) (m.view.writes (Elt F) f [⟨Rect.unit (s := S1x2048x64) ![0, 0, 0] S1x2048x64.size inb_S1x2048x64_S1x2048x64_0_0_0, w⟩]) = w := by
  funext y
  have h := View.read_writes_cons_emb (Val := Elt F) m.view f (Rect.unit (s := S1x2048x64) ![0, 0, 0] S1x2048x64.size inb_S1x2048x64_S1x2048x64_0_0_0) w [] y
  rwa [Rect.emb_unit_full] at h

/-- After the first half's stores the lower heads are there. -/
theorem held_1 (c : Dev nD) (t : Fin cfg0.N) (h0 : t.val = 0) {f9 f10 f11} {L9 L10 L11}
    (a9 : ∀ p ∈ L9, ∀ j, p.2 j = lanes (half1 V c t) (half1 V c t1) (p.1.emb j)) (c9 : ∀ y : S16x2048x64.Idx, (y 0).val < 8 → ∃ p ∈ L9, y ∈ p.1.set)
    (a10 : ∀ p ∈ L10, ∀ j, p.2 j = lanes (half2 V c t) (half2 V c t1) (p.1.emb j)) (c10 : ∀ y : S16x2048x64.Idx, (y 0).val < 8 → ∃ p ∈ L10, y ∈ p.1.set)
    (a11 : ∀ p ∈ L11, ∀ j, p.2 j = lanesOne (half3 V c t) (half3 V c t1) (p.1.emb j)) (c11 : ∀ y : S16x2048x128.Idx, (y 0).val < 8 → ∃ p ∈ L11, y ∈ p.1.set) :
    Held V c (t.val + 1) (sc0.view.writes (Elt F) f9 L9) (sc1.view.writes (Elt F) f10 L10) (sc2.view.writes (Elt F) f11 L11) := by
  obtain rfl : t = t0 := Fin.ext h0
  refine ⟨fun _ => ⟨fun y hy => ?_, fun y hy => ?_, fun y hy => ?_⟩, fun h => absurd h (by decide)⟩
  · exact View.read_writes_apply_of_pieces _ _ _ _ a9 y (c9 y hy)
  · exact View.read_writes_apply_of_pieces _ _ _ _ a10 y (c10 y hy)
  · exact View.read_writes_apply_of_pieces _ _ _ _ a11 y (c11 y hy)

/-- Stores of the upper heads over contents with the lower heads in place leave all of them. -/
theorem read_both {s : Shape} {e : EltTy} (m : Memref sig .tc .vmem s e) (f : m.view.ty.Contents (Elt F)) (L : List (View.Piece (Elt F) s e)) (G : Vec F s e) (p : s.Idx → Prop)
    (hG : ∀ q ∈ L, ∀ j, q.2 j = G (q.1.emb j)) (hc : ∀ y, ¬ p y → ∃ q ∈ L, y ∈ q.1.set) (hf : ∀ y, p y → m.view.read (Elt F) f y = G y) :
    m.view.read (Elt F) (m.view.writes (Elt F) f L) = G := by
  funext y
  by_cases hy : ∃ q ∈ L, y ∈ q.1.set
  · exact View.read_writes_apply_of_pieces _ _ _ _ hG y hy
  · rw [View.read_writes_apply_of_forall_not_mem _ _ _ _ (fun q hq hm => hy ⟨q, hq, hm⟩)]
    exact hf y (by by_contra h; exact hy (hc y h))

/-- After the second half's stores all heads are there. -/
theorem read_2 (c : Dev nD) (t : Fin cfg0.N) (h1 : t.val = 1) {f9 f10 f11} {L9 L10 L11} (hH : Held V c t.val f9 f10 f11)
    (a9 : ∀ p ∈ L9, ∀ j, p.2 j = lanes (half1 V c t0) (half1 V c t) (p.1.emb j)) (c9 : ∀ y : S16x2048x64.Idx, 8 ≤ (y 0).val → ∃ p ∈ L9, y ∈ p.1.set)
    (a10 : ∀ p ∈ L10, ∀ j, p.2 j = lanes (half2 V c t0) (half2 V c t) (p.1.emb j)) (c10 : ∀ y : S16x2048x64.Idx, 8 ≤ (y 0).val → ∃ p ∈ L10, y ∈ p.1.set)
    (a11 : ∀ p ∈ L11, ∀ j, p.2 j = lanesOne (half3 V c t0) (half3 V c t) (p.1.emb j)) (c11 : ∀ y : S16x2048x128.Idx, 8 ≤ (y 0).val → ∃ p ∈ L11, y ∈ p.1.set) :
    sc0.view.read (Elt F) (sc0.view.writes (Elt F) f9 L9) = Q9 V c ∧ sc1.view.read (Elt F) (sc1.view.writes (Elt F) f10 L10) = Q10 V c
      ∧ sc2.view.read (Elt F) (sc2.view.writes (Elt F) f11 L11) = Q11 V c := by
  obtain ⟨H9, H10, H11⟩ := hH.1 h1
  obtain rfl : t = t1 := Fin.ext h1
  exact ⟨read_both sc0 f9 L9 _ (fun y => (y 0).val < 8) a9 (fun y hy => c9 y (by omega)) H9,
    read_both sc1 f10 L10 _ (fun y => (y 0).val < 8) a10 (fun y hy => c10 y (by omega)) H10,
    read_both sc2 f11 L11 _ (fun y => (y 0).val < 8) a11 (fun y hy => c11 y (by omega)) H11⟩

set_option maxHeartbeats 2400000 in
/-- The body at any point: at the first the lower heads are stored and the output left alone; at the second the upper heads are
stored and head 0 is attended; at a later one a head is attended. -/
theorem sound_body (c : Dev nD) (t : Fin cfg0.N) :
    bodyPre (U := U) (Lvl := Lvl) V D ι c t ⊢ wp frame (wpE (defs₀ (F := F)) 𝒱₀ c none) Set.univ (bodyAt0 t) (fun _ => bodyPost (U := U) (Lvl := Lvl) V D ι c t) := by
  unfold bodyPre bodyPost bodyAt0
  simp only [before_0, before_1, before_2, before_3, before_4, before_5, before_6]
  rw [show (𝕕 c).owesAt ι t.succ = (𝕕 c).owesAt ι t.castSucc from rfl,
    show (𝕕 c).Φ t.castSucc = ΦK V c t.val from rfl, show (𝕕 c).Φ t.succ = ΦK V c (t.val + 1) from rfl,
    after_0, after_1, after_2, after_3, after_4, after_5, after_6]
  unfold ΦK
  by_cases h0 : t.val = 0
  · have hc0 := (hcond0 t).2 h0
    have hc1 : ¬ cond1 (grid0.coords t) := fun h => by have := (hcond1 t).1 h; omega
    have hc2 : ¬ cond2 (grid0.coords t) := fun h => by have := (hcond2 t).1 h; omega
    rw [(𝕕 c).leavesExact_idle 7 t (idle_7 t h0) (flush_7 t h0)]
    iintro ⟨⟨%f9, %f10, %f11, -, S9, S10, S11, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA (Ix := Ix) (U := U) (Lvl := Lvl) 𝒱₀ c (grid0.coords t) _ _ _ _ _ _ _ _ _ _ _ _ _ _ _ _ _ _ _ _ _ _  hc0 hc1 hc2 (iblk V c 0 t) (iblk V c 1 t) (iblk V c 2 t) (iblk V c 3 t) (iblk V c 4 t) (iblk V c 5 t) (iblk V c 6 t) ((𝕕 c).before 7 t d7) f9 f10 f11).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S9]; · iexact S9
    isplitl [S10]; · iexact S10
    isplitl [S11]; · iexact S11
    iintro ⟨H0, H1, H2, H3, H4, H5, H6, H7, S9, S10, S11⟩
    isplitl [S9 S10 S11 HR]
    · iexists _; iexists _; iexists _
      isplitr
      swap
      · isplitl [S9]; · iexact S9
        isplitl [S10]; · iexact S10
        isplitl [S11]; · iexact S11
        iexact HR
      ipureintro
      exact held_1 V c t h0 (agreeA9 𝒱₀ c (grid0.coords t) _ _ _ _ _ _ _ _ _ _ _ _ _ _ _ _ _ _ _ _ _ _ _ _ _ _ _ _ _ _ _ _  hc0 hc1 hc2 _ _) (coverA9 𝒱₀ c (grid0.coords t) _ _ _ _ _ _ _ _ _ _ _ _ _ _ _ _ _ _ _ _ _ _ _ _ _ _ _ _ _ _ _ _  hc0 hc1 hc2 _) (agreeA10 𝒱₀ c (grid0.coords t) _ _ _ _ _ _ _ _ _ _ _ _ _ _ _ _ _ _ _ _ _ _ _ _ _ _ _ _ _ _ _ _  hc0 hc1 hc2 _ _) (coverA10 𝒱₀ c (grid0.coords t) _ _ _ _ _ _ _ _ _ _ _ _ _ _ _ _ _ _ _ _ _ _ _ _ _ _ _ _ _ _ _ _  hc0 hc1 hc2 _) (agreeA11 𝒱₀ c (grid0.coords t) _ _ _ _ _ _ _ _ _ _ _ _ _ _ _ _ _ _ _ _ _ _ _ _ _ _ _ _ _ _ _ _  hc0 hc1 hc2 _ _) (coverA11 𝒱₀ c (grid0.coords t) _ _ _ _ _ _ _ _ _ _ _ _ _ _ _ _ _ _ _ _ _ _ _ _ _ _ _ _ _ _ _ _  hc0 hc1 hc2 _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  have hc2 := (hcond2 t).2 (by omega)
  have hc0 : ¬ cond0 (grid0.coords t) := fun h => h0 ((hcond0 t).1 h)
  rw [show (𝕕 c).leavesExact 7 t = owns (c : Thread nD τ) (ms7 t) fullShare ((𝕕 c).after 7 t) from by unfold Dat.leavesExact; rw [live_7 t (by omega)], after_7]
  unfold outAt; rw [dif_pos hc2]
  by_cases h1 : t.val = 1
  · have hc1 := (hcond1 t).2 h1
    iintro ⟨⟨%f9, %f10, %f11, %hH, S9, S10, S11, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hr := read_2 V c t h1 hH
      (agreeB9 (Ix := Ix) (U := U) (Lvl := Lvl) 𝒱₀ c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) (iblk V c 0 t) (iblk V c 1 t) (iblk V c 2 t) (iblk V c 3 t) (iblk V c 4 t) (iblk V c 5 t) (iblk V c 6 t) f9 f10 f11 hc0 hc1 hc2 _)
      (coverB9 𝒱₀ c (grid0.coords t) _ _ _ _ _ _ _ _ _ _ _ _ _ _ _ _ _ _ _ _ _ _ _ _ _ _ _ _ _ _ _ _  hc0 hc1 hc2)
      (agreeB10 (Ix := Ix) (U := U) (Lvl := Lvl) 𝒱₀ c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) (iblk V c 0 t) (iblk V c 1 t) (iblk V c 2 t) (iblk V c 3 t) (iblk V c 4 t) (iblk V c 5 t) (iblk V c 6 t) f9 f10 f11 hc0 hc1 hc2 _)
      (coverB10 𝒱₀ c (grid0.coords t) _ _ _ _ _ _ _ _ _ _ _ _ _ _ _ _ _ _ _ _ _ _ _ _ _ _ _ _ _ _ _ _  hc0 hc1 hc2)
      (agreeB11 (Ix := Ix) (U := U) (Lvl := Lvl) 𝒱₀ c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) (iblk V c 0 t) (iblk V c 1 t) (iblk V c 2 t) (iblk V c 3 t) (iblk V c 4 t) (iblk V c 5 t) (iblk V c 6 t) f9 f10 f11 hc0 hc1 hc2 _)
      (coverB11 𝒱₀ c (grid0.coords t) _ _ _ _ _ _ _ _ _ _ _ _ _ _ _ _ _ _ _ _ _ _ _ _ _ _ _ _ _ _ _ _  hc0 hc1 hc2)
    iapply ((runB (Ix := Ix) (U := U) (Lvl := Lvl) 𝒱₀ c (grid0.coords t) _ _ _ _ _ _ _ _ _ _ _ _ _ _ _ _ _ _ _ _ _ _  hc0 hc1 hc2 (iblk V c 0 t) (iblk V c 1 t) (iblk V c 2 t) (iblk V c 3 t) (iblk V c 4 t) (iblk V c 5 t) (iblk V c 6 t) f9 f10 f11).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S9]; · iexact S9
    isplitl [S10]; · iexact S10
    isplitl [S11]; · iexact S11
    iintro ⟨H0, H1, H2, H3, H4, H5, H6, ⟨%g7, H7⟩, S9, S10, S11⟩
    isplitl [S9 S10 S11 HR]
    · iexists _; iexists _; iexists _
      isplitr
      swap
      · isplitl [S9]; · iexact S9
        isplitl [S10]; · iexact S10
        isplitl [S11]; · iexact S11
        iexact HR
      ipureintro
      exact ⟨fun h => absurd h (by omega), fun _ => hr⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro
    rw [outB, read_whole8]
    exact congr (congr (congrArg (outV (grid0.coords t) hc2) hr.1) hr.2.1) hr.2.2
  have hc1 : ¬ cond1 (grid0.coords t) := fun h => h1 ((hcond1 t).1 h)
  iintro ⟨⟨%f9, %f10, %f11, %hH, S9, S10, S11, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hr := hH.2 (by omega)
  iapply ((runC (Ix := Ix) (U := U) (Lvl := Lvl) 𝒱₀ c (grid0.coords t) _ _ _ _ _ _ _ _ _ _ _ _ _ _ _ _ _ _ _ _ _ _  hc0 hc1 hc2 (iblk V c 0 t) (iblk V c 1 t) (iblk V c 2 t) (iblk V c 3 t) (iblk V c 4 t) (iblk V c 5 t) (iblk V c 6 t) f9 f10 f11).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S9]; · iexact S9
  isplitl [S10]; · iexact S10
  isplitl [S11]; · iexact S11
  iintro ⟨H0, H1, H2, H3, H4, H5, H6, ⟨%g7, H7⟩, S9, S10, S11⟩
  isplitl [S9 S10 S11 HR]
  · iexists _; iexists _; iexists _
    isplitr
    swap
    · isplitl [S9]; · iexact S9
      isplitl [S10]; · iexact S10
      isplitl [S11]; · iexact S11
      iexact HR
    ipureintro
    exact ⟨fun h => absurd h (by omega), fun _ => hr⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  rw [outC, read_whole8]
  exact congr (congr (congrArg (outV (grid0.coords t) hc2) hr.1) hr.2.1) hr.2.2

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (𝕕 c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

end Cert.KernelIdeal.Att0
-- ==== Proof.AttRun3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Att3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! ## The body's branch conditions over the points -/

/-- The condition of the body's first conditional, of the grid coordinates. -/
abbrev cond0 (i : grid3.Coords) : Prop := (Scalar.cmpi .ne (Scalar.extui (Scalar.cmpi .eq (BitVec.ofNat 32 (i 0).val) 0#32)) 0#32) = 1#1
/-- It holds at the first point only. -/
theorem hcond0 : ∀ t : Fin cfg3.N, cond0 (grid3.coords t) ↔ t.val = 0 :=
  (by decide +kernel : ∀ t : Fin grid3.N, cond0 (grid3.coords t) ↔ t.val = 0)
/-- The condition of the body's second conditional. -/
abbrev cond1 (i : grid3.Coords) : Prop := (Scalar.cmpi .ne (Scalar.extui (Scalar.cmpi .eq (BitVec.ofNat 32 (i 0).val) 1#32)) 0#32) = 1#1
/-- It holds at the second point only. -/
theorem hcond1 : ∀ t : Fin cfg3.N, cond1 (grid3.coords t) ↔ t.val = 1 :=
  (by decide +kernel : ∀ t : Fin grid3.N, cond1 (grid3.coords t) ↔ t.val = 1)
/-- The condition of the body's third conditional. -/
abbrev cond2 (i : grid3.Coords) : Prop := k3_cond3 i = 1#1
/-- It holds from the second point on. -/
theorem hcond2 : ∀ t : Fin cfg3.N, cond2 (grid3.coords t) ↔ 1 ≤ t.val :=
  (by decide +kernel : ∀ t : Fin grid3.N, cond2 (grid3.coords t) ↔ 1 ≤ t.val)

/-! ## The body on any whole memrefs -/

/-- The offsets of load 1 of the attended head, in closed form. -/
instance closed1 (i : grid3.Coords) : ClosedOff (k3_off1 i) := ⟨![(BitVec.ofNat 32 (i 0).val - 1#32).toNat, 0, 0], rfl⟩
/-- The offsets of load 2 of the attended head, in closed form. -/
instance closed2 (i : grid3.Coords) : ClosedOff (k3_off2 i) := ⟨![(BitVec.ofNat 32 (i 0).val - 1#32).toNat, 0, 0], rfl⟩
/-- The offsets of load 3 of the attended head, in closed form. -/
instance closed3 (i : grid3.Coords) : ClosedOff (k3_off3 i) := ⟨![(BitVec.ofNat 32 (i 0).val - 1#32).toNat, 0, 0], rfl⟩
/-- The offsets of load 4 of the attended head, in closed form. -/
instance closed4 (i : grid3.Coords) : ClosedOff (k3_off4 i) := ⟨![(BitVec.ofNat 32 (i 0).val - 1#32).toNat, 512, 0], rfl⟩
/-- The offsets of load 5 of the attended head, in closed form. -/
instance closed5 (i : grid3.Coords) : ClosedOff (k3_off5 i) := ⟨![(BitVec.ofNat 32 (i 0).val - 1#32).toNat, 512, 0], rfl⟩
/-- The offsets of load 6 of the attended head, in closed form. -/
instance closed6 (i : grid3.Coords) : ClosedOff (k3_off6 i) := ⟨![(BitVec.ofNat 32 (i 0).val - 1#32).toNat, 1024, 0], rfl⟩
/-- The offsets of load 7 of the attended head, in closed form. -/
instance closed7 (i : grid3.Coords) : ClosedOff (k3_off7 i) := ⟨![(BitVec.ofNat 32 (i 0).val - 1#32).toNat, 1024, 0], rfl⟩
/-- The offsets of load 8 of the attended head, in closed form. -/
instance closed8 (i : grid3.Coords) : ClosedOff (k3_off8 i) := ⟨![(BitVec.ofNat 32 (i 0).val - 1#32).toNat, 1536, 0], rfl⟩
/-- The offsets of load 9 of the attended head, in closed form. -/
instance closed9 (i : grid3.Coords) : ClosedOff (k3_off9 i) := ⟨![(BitVec.ofNat 32 (i 0).val - 1#32).toNat, 1536, 0], rfl⟩

set_option maxHeartbeats 4000000 in
/-- The body at the first point: the first half of the projections is stored, the output is untouched. The pieces each buffer is left with are found by the run. -/
def runA (𝒱₀ : Variants) (c : Dev nD) (i : grid3.Coords) (arg1 : Memref sig .tc .vmem S2048x1024 .bf16) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048x64 .bf16) (harg8 : arg8.IsWhole) (arg9 : Memref sig .tc .vmem S16x2048x64 .fp8e4m3) (harg9 : arg9.IsWhole) (arg10 : Memref sig .tc .vmem S16x2048x64 .fp8e4m3) (harg10 : arg10.IsWhole) (arg11 : Memref sig .tc .vmem S16x2048x128 .fp8e4m3) (harg11 : arg11.IsWhole) (hc0 : cond0 i) (hc1 : ¬cond1 i) (hc2 : ¬cond2 i)
    (x0 : Vec F S2048x1024 .bf16) (x1 : Vec F S1024x512 .f32) (x2 : Vec F S1024x512 .f32) (x3 : Vec F S1024x512 .f32) (x4 : Vec F S1x512 .f32) (x5 : Vec F S1x512 .f32) (x6 : Vec F S1x512 .f32) (d8 : Vec F S1x2048x64 .bf16) (f9 : Buf (Elt F) (arg9.view.loc (c : Thread nD τ))) (f10 : Buf (Elt F) (arg10.view.loc (c : Thread nD τ))) (f11 : Buf (Elt F) (arg11.view.loc (c : Thread nD τ))) :
    { L : List (View.Piece (Elt F) S16x2048x64 .fp8e4m3) × List (View.Piece (Elt F) S16x2048x64 .fp8e4m3) × List (View.Piece (Elt F) S16x2048x128 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d8 ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare d8 ∗ (arg9.view.loc (c : Thread nD τ) ↦[arg9.view.set]{fullShare} arg9.view.writes (Elt F) f9 L.1) ∗ (arg10.view.loc (c : Thread nD τ) ↦[arg10.view.set]{fullShare} arg10.view.writes (Elt F) f10 L.2.1) ∗ (arg11.view.loc (c : Thread nD τ) ↦[arg11.view.set]{fullShare} arg11.view.writes (Elt F) f11 L.2.2)) -∗ K ⟨⟩))
          ⊢ wp frame (wpE (defs₀ (F := F)) 𝒱₀ c none) E (cc3__qkv_attn_body i arg1 harg1 arg2 harg2 arg3 harg3 arg4 harg4 arg5 harg5 arg6 harg6 arg7 harg7 arg8 harg8 arg9 harg9 arg10 harg10 arg11 harg11) K } := by
  refine ⟨⟨?_, ?_, ?_⟩, fun E K => ?run⟩
  case run =>
    simp only [cc3__qkv_attn_body_eq_skeleton]; unfold cc3__qkv_attn_body_skel
    simp only [k3_part1_eq_skeleton, k3_part2_eq_skeleton, k3_part3_eq_skeleton, k3_part4_eq_skeleton, k3_part5_eq_skeleton]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, H9, H10, H11, Hk⟩
    obtain rfl := harg1.eq_unread hg0; obtain rfl := harg2.eq_unread hg1; obtain rfl := harg3.eq_unread hg2; obtain rfl := harg4.eq_unread hg3; obtain rfl := harg5.eq_unread hg4; obtain rfl := harg6.eq_unread hg5; obtain rfl := harg7.eq_unread hg6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact hg7
      iexact H7
    isplitl [H9]; · iexact H9
    isplitl [H10]; · iexact H10
    iexact H11

set_option maxHeartbeats 4000000 in
/-- The body at the second point: the second half of the projections is stored, then head 0 is attended. The pieces each buffer is left with are found by the run. -/
def runB (𝒱₀ : Variants) (c : Dev nD) (i : grid3.Coords) (arg1 : Memref sig .tc .vmem S2048x1024 .bf16) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048x64 .bf16) (harg8 : arg8.IsWhole) (arg9 : Memref sig .tc .vmem S16x2048x64 .fp8e4m3) (harg9 : arg9.IsWhole) (arg10 : Memref sig .tc .vmem S16x2048x64 .fp8e4m3) (harg10 : arg10.IsWhole) (arg11 : Memref sig .tc .vmem S16x2048x128 .fp8e4m3) (harg11 : arg11.IsWhole) (hc0 : ¬cond0 i) (hc1 : cond1 i) (hc2 : cond2 i)
    (x0 : Vec F S2048x1024 .bf16) (x1 : Vec F S1024x512 .f32) (x2 : Vec F S1024x512 .f32) (x3 : Vec F S1024x512 .f32) (x4 : Vec F S1x512 .f32) (x5 : Vec F S1x512 .f32) (x6 : Vec F S1x512 .f32) (f9 : Buf (Elt F) (arg9.view.loc (c : Thread nD τ))) (f10 : Buf (Elt F) (arg10.view.loc (c : Thread nD τ))) (f11 : Buf (Elt F) (arg11.view.loc (c : Thread nD τ))) :
    { L : List (View.Piece (Elt F) S1x2048x64 .bf16) × List (View.Piece (Elt F) S16x2048x64 .fp8e4m3) × List (View.Piece (Elt F) S16x2048x64 .fp8e4m3) × List (View.Piece (Elt F) S16x2048x128 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f8, (arg8.view.loc (c : Thread nD τ) ↦[arg8.view.set]{fullShare} arg8.view.writes (Elt F) f8 L.1)) ∗ (arg9.view.loc (c : Thread nD τ) ↦[arg9.view.set]{fullShare} arg9.view.writes (Elt F) f9 L.2.1) ∗ (arg10.view.loc (c : Thread nD τ) ↦[arg10.view.set]{fullShare} arg10.view.writes (Elt F) f10 L.2.2.1) ∗ (arg11.view.loc (c : Thread nD τ) ↦[arg11.view.set]{fullShare} arg11.view.writes (Elt F) f11 L.2.2.2)) -∗ K ⟨⟩))
          ⊢ wp frame (wpE (defs₀ (F := F)) 𝒱₀ c none) E (cc3__qkv_attn_body i arg1 harg1 arg2 harg2 arg3 harg3 arg4 harg4 arg5 harg5 arg6 harg6 arg7 harg7 arg8 harg8 arg9 harg9 arg10 harg10 arg11 harg11) K } := by
  refine ⟨⟨?_, ?_, ?_, ?_⟩, fun E K => ?run⟩
  case run =>
    simp only [cc3__qkv_attn_body_eq_skeleton]; unfold cc3__qkv_attn_body_skel
    simp only [k3_part6_eq_skeleton, k3_part7_eq_skeleton, k3_part8_eq_skeleton, k3_part9_eq_skeleton, k3_part10_eq_skeleton, k3_part11_eq_skeleton]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%d7, %g7, -, H7⟩, H9, H10, H11, Hk⟩
    obtain rfl := harg1.eq_unread hg0; obtain rfl := harg2.eq_unread hg1; obtain rfl := harg3.eq_unread hg2; obtain rfl := harg4.eq_unread hg3; obtain rfl := harg5.eq_unread hg4; obtain rfl := harg6.eq_unread hg5; obtain rfl := harg7.eq_unread hg6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H9]; · iexact H9
    isplitl [H10]; · iexact H10
    iexact H11

set_option maxHeartbeats 4000000 in
/-- The body at any later point: a head is attended, the scratch only read. The pieces each buffer is left with are found by the run. -/
def runC (𝒱₀ : Variants) (c : Dev nD) (i : grid3.Coords) (arg1 : Memref sig .tc .vmem S2048x1024 .bf16) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048x64 .bf16) (harg8 : arg8.IsWhole) (arg9 : Memref sig .tc .vmem S16x2048x64 .fp8e4m3) (harg9 : arg9.IsWhole) (arg10 : Memref sig .tc .vmem S16x2048x64 .fp8e4m3) (harg10 : arg10.IsWhole) (arg11 : Memref sig .tc .vmem S16x2048x128 .fp8e4m3) (harg11 : arg11.IsWhole) (hc0 : ¬cond0 i) (hc1 : ¬cond1 i) (hc2 : cond2 i)
    (x0 : Vec F S2048x1024 .bf16) (x1 : Vec F S1024x512 .f32) (x2 : Vec F S1024x512 .f32) (x3 : Vec F S1024x512 .f32) (x4 : Vec F S1x512 .f32) (x5 : Vec F S1x512 .f32) (x6 : Vec F S1x512 .f32) (f9 : Buf (Elt F) (arg9.view.loc (c : Thread nD τ))) (f10 : Buf (Elt F) (arg10.view.loc (c : Thread nD τ))) (f11 : Buf (Elt F) (arg11.view.loc (c : Thread nD τ))) :
    { L : List (View.Piece (Elt F) S1x2048x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f8, (arg8.view.loc (c : Thread nD τ) ↦[arg8.view.set]{fullShare} arg8.view.writes (Elt F) f8 L)) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) -∗ K ⟨⟩))
          ⊢ wp frame (wpE (defs₀ (F := F)) 𝒱₀ c none) E (cc3__qkv_attn_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc3__qkv_attn_body_eq_skeleton]; unfold cc3__qkv_attn_body_skel
    simp only [k3_part11_eq_skeleton]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%d7, %g7, -, H7⟩, H9, H10, H11, Hk⟩
    obtain rfl := harg1.eq_unread hg0; obtain rfl := harg2.eq_unread hg1; obtain rfl := harg3.eq_unread hg2; obtain rfl := harg4.eq_unread hg3; obtain rfl := harg5.eq_unread hg4; obtain rfl := harg6.eq_unread hg5; obtain rfl := harg7.eq_unread hg6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H9]; · iexact H9
    isplitl [H10]; · iexact H10
    iexact H11

end Cert.KernelIdeal.Att3
-- ==== Proof.AttVal3.lean ====
module

public import proofs.«01_k».proof.Proof.AttRun3
public import proofs.«01_k».proof.Proof.Lanes
public import Idealize.ShloMosaic.Lib.VecWindow
public import Idealize.ShloMosaic.Lib.ValueIdx
public import Idealize.ShloMosaic.Lib.Pipeline.Value

@[expose] public section

set_option maxRecDepth 16384

noncomputable section

namespace Cert.KernelIdeal.Att3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

open Idealize.ShloMosaic.ValueIdx Cert.KernelIdeal.Lanes

/-! ## The attended head, of the scratch's contents -/

/-- The block the body stores at a point that attends, of what the three scratch buffers hold. -/
def outV (i : grid3.Coords) (h3 : cond2 i) (q9 q10 : Vec F S16x2048x64 .fp8e4m3) (q11 : Vec F S16x2048x128 .fp8e4m3) : FVec F S1x2048x64 .bf16 :=
  let v11 : Vec F S1x2048x64 .fp8e4m3 := fun x => q9 ((Rect.unit (s := S16x2048x64) (k3_off1 i) S1x2048x64.size (k3_off1_inb i h3)).toLoadRect.idx x)
  let v15 : Vec F S1x512x64 .fp8e4m3 := fun x => q10 ((Rect.unit (s := S16x2048x64) (k3_off2 i) S1x512x64.size (k3_off2_inb i h3)).toLoadRect.idx x)
  let v24 : Vec F S1x512x128 .fp8e4m3 := fun x => q11 ((Rect.unit (s := S16x2048x128) (k3_off3 i) S1x512x128.size (k3_off3_inb i h3)).toLoadRect.idx x)
  let v29 : Vec F S1x512x64 .fp8e4m3 := fun x => q10 ((Rect.unit (s := S16x2048x64) (k3_off4 i) S1x512x64.size (k3_off4_inb i h3)).toLoadRect.idx x)
  let v38 : Vec F S1x512x128 .fp8e4m3 := fun x => q11 ((Rect.unit (s := S16x2048x128) (k3_off5 i) S1x512x128.size (k3_off5_inb i h3)).toLoadRect.idx x)
  let v43 : Vec F S1x512x64 .fp8e4m3 := fun x => q10 ((Rect.unit (s := S16x2048x64) (k3_off6 i) S1x512x64.size (k3_off6_inb i h3)).toLoadRect.idx x)
  let v52 : Vec F S1x512x128 .fp8e4m3 := fun x => q11 ((Rect.unit (s := S16x2048x128) (k3_off7 i) S1x512x128.size (k3_off7_inb i h3)).toLoadRect.idx x)
  let v57 : Vec F S1x512x64 .fp8e4m3 := fun x => q10 ((Rect.unit (s := S16x2048x64) (k3_off8 i) S1x512x64.size (k3_off8_inb i h3)).toLoadRect.idx x)
  let v66 : Vec F S1x512x128 .fp8e4m3 := fun x => q11 ((Rect.unit (s := S16x2048x128) (k3_off9 i) S1x512x128.size (k3_off9_inb i h3)).toLoadRect.idx x)
  k3_pay11 (k3_pay80 v11) (k3_pay81 v11 v15 v24 v29 v38) (k3_pay82 v11 v43) (Scalar.ofBits .bf16 0x3900#16) v52 v57 v66

section Runs
variable (𝒱₀ : Variants) (c : Dev nD) (i : grid3.Coords) (arg1 : Memref sig .tc .vmem S2048x1024 .bf16) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x2048x64 .bf16) (harg8 : arg8.IsWhole) (arg9 : Memref sig .tc .vmem S16x2048x64 .fp8e4m3) (harg9 : arg9.IsWhole) (arg10 : Memref sig .tc .vmem S16x2048x64 .fp8e4m3) (harg10 : arg10.IsWhole) (arg11 : Memref sig .tc .vmem S16x2048x128 .fp8e4m3) (harg11 : arg11.IsWhole) (x0 : Vec F S2048x1024 .bf16) (x1 : Vec F S1024x512 .f32) (x2 : Vec F S1024x512 .f32) (x3 : Vec F S1024x512 .f32) (x4 : Vec F S1x512 .f32) (x5 : Vec F S1x512 .f32) (x6 : Vec F S1x512 .f32) (f9 : Buf (Elt F) (arg9.view.loc (c : Thread nD τ))) (f10 : Buf (Elt F) (arg10.view.loc (c : Thread nD τ))) (f11 : Buf (Elt F) (arg11.view.loc (c : Thread nD τ)))

set_option maxHeartbeats 1000000 in
/-- What the run stores in scratch 0 is the layout of the projected half. -/
theorem agreeA9 (hc0 : cond0 i) (hc1 : ¬cond1 i) (hc2 : ¬cond2 i) (d8 : Vec F S1x2048x64 .bf16) (y1 : FVec F S2048x512 .f32) : ∀ p ∈ (runA (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 d8 f9 f10 f11).1.1, ∀ j, p.2 j = lanes (k3_pay13 x0 x1 x4) y1 (p.1.emb j) := by
  have e : k3_pay13 x0 x1 x4 = k3_pay13 (arg1.view.readAt (Elt F) (Rect.unit (s := S2048x1024) ![0, 0] S2048x1024.size inb_S2048x1024_S2048x1024_0_0).toLoadRect (harg1.unread x0))
      (arg2.view.readAt (Elt F) (Rect.unit (s := S1024x512) ![0, 0] S1024x512.size inb_S1024x512_S1024x512_0_0).toLoadRect (harg2.unread x1))
      (arg5.view.readAt (Elt F) (Rect.unit (s := S1x512) ![0, 0] S1x512.size inb_S1x512_S1x512_0_0).toLoadRect (harg5.unread x4)) := by
    rw [rd harg1, rd harg2, rd harg5]
  rw [e]
  iterate 8 (refine all_cons (fun j => piece_lo _ _ _ _ (by decide) rfl (by decide) (by decide) j) ?_)
  exact fun _ h => absurd h List.not_mem_nil

/-- The run's stores in scratch 0 cover their half of the heads. -/
theorem coverA9 (hc0 : cond0 i) (hc1 : ¬cond1 i) (hc2 : ¬cond2 i) (d8 : Vec F S1x2048x64 .bf16) (y : S16x2048x64.Idx) (hy : (y 0).val < 8) : ∃ p ∈ (runA (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 d8 f9 f10 f11).1.1, y ∈ p.1.set := by
  have h16 : (y 0).val < 16 := (y 0).isLt
  by_cases h7 : (y 0).val = 7
  · exact cov_here (mem_head (inb := by decide) h7)
  refine cov_next ?_
  by_cases h6 : (y 0).val = 6
  · exact cov_here (mem_head (inb := by decide) h6)
  refine cov_next ?_
  by_cases h5 : (y 0).val = 5
  · exact cov_here (mem_head (inb := by decide) h5)
  refine cov_next ?_
  by_cases h4 : (y 0).val = 4
  · exact cov_here (mem_head (inb := by decide) h4)
  refine cov_next ?_
  by_cases h3 : (y 0).val = 3
  · exact cov_here (mem_head (inb := by decide) h3)
  refine cov_next ?_
  by_cases h2 : (y 0).val = 2
  · exact cov_here (mem_head (inb := by decide) h2)
  refine cov_next ?_
  by_cases h1 : (y 0).val = 1
  · exact cov_here (mem_head (inb := by decide) h1)
  refine cov_next ?_
  exact cov_here (mem_head (inb := by decide) (by omega))

set_option maxHeartbeats 1000000 in
/-- What the run stores in scratch 1 is the layout of the projected half. -/
theorem agreeA10 (hc0 : cond0 i) (hc1 : ¬cond1 i) (hc2 : ¬cond2 i) (d8 : Vec F S1x2048x64 .bf16) (y1 : FVec F S2048x512 .f32) : ∀ p ∈ (runA (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 d8 f9 f10 f11).1.2.1, ∀ j, p.2 j = lanes (k3_pay13 x0 x2 x5) y1 (p.1.emb j) := by
  have e : k3_pay13 x0 x2 x5 = k3_pay13 (arg1.view.readAt (Elt F) (Rect.unit (s := S2048x1024) ![0, 0] S2048x1024.size inb_S2048x1024_S2048x1024_0_0).toLoadRect (harg1.unread x0))
      (arg3.view.readAt (Elt F) (Rect.unit (s := S1024x512) ![0, 0] S1024x512.size inb_S1024x512_S1024x512_0_0).toLoadRect (harg3.unread x2))
      (arg6.view.readAt (Elt F) (Rect.unit (s := S1x512) ![0, 0] S1x512.size inb_S1x512_S1x512_0_0).toLoadRect (harg6.unread x5)) := by
    rw [rd harg1, rd harg3, rd harg6]
  rw [e]
  iterate 8 (refine all_cons (fun j => piece_lo _ _ _ _ (by decide) rfl (by decide) (by decide) j) ?_)
  exact fun _ h => absurd h List.not_mem_nil

/-- The run's stores in scratch 1 cover their half of the heads. -/
theorem coverA10 (hc0 : cond0 i) (hc1 : ¬cond1 i) (hc2 : ¬cond2 i) (d8 : Vec F S1x2048x64 .bf16) (y : S16x2048x64.Idx) (hy : (y 0).val < 8) : ∃ p ∈ (runA (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 d8 f9 f10 f11).1.2.1, y ∈ p.1.set := by
  have h16 : (y 0).val < 16 := (y 0).isLt
  by_cases h7 : (y 0).val = 7
  · exact cov_here (mem_head (inb := by decide) h7)
  refine cov_next ?_
  by_cases h6 : (y 0).val = 6
  · exact cov_here (mem_head (inb := by decide) h6)
  refine cov_next ?_
  by_cases h5 : (y 0).val = 5
  · exact cov_here (mem_head (inb := by decide) h5)
  refine cov_next ?_
  by_cases h4 : (y 0).val = 4
  · exact cov_here (mem_head (inb := by decide) h4)
  refine cov_next ?_
  by_cases h3 : (y 0).val = 3
  · exact cov_here (mem_head (inb := by decide) h3)
  refine cov_next ?_
  by_cases h2 : (y 0).val = 2
  · exact cov_here (mem_head (inb := by decide) h2)
  refine cov_next ?_
  by_cases h1 : (y 0).val = 1
  · exact cov_here (mem_head (inb := by decide) h1)
  refine cov_next ?_
  exact cov_here (mem_head (inb := by decide) (by omega))

set_option maxHeartbeats 1000000 in
/-- What the run stores in scratch 2 is the layout of the projected half. -/
theorem agreeA11 (hc0 : cond0 i) (hc1 : ¬cond1 i) (hc2 : ¬cond2 i) (d8 : Vec F S1x2048x64 .bf16) (y1 : FVec F S2048x512 .f32) : ∀ p ∈ (runA (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 d8 f9 f10 f11).1.2.2, ∀ j, p.2 j = lanesOne (k3_pay13 x0 x3 x6) y1 (p.1.emb j) := by
  have e : k3_pay13 x0 x3 x6 = k3_pay13 (arg1.view.readAt (Elt F) (Rect.unit (s := S2048x1024) ![0, 0] S2048x1024.size inb_S2048x1024_S2048x1024_0_0).toLoadRect (harg1.unread x0))
      (arg4.view.readAt (Elt F) (Rect.unit (s := S1024x512) ![0, 0] S1024x512.size inb_S1024x512_S1024x512_0_0).toLoadRect (harg4.unread x3))
      (arg7.view.readAt (Elt F) (Rect.unit (s := S1x512) ![0, 0] S1x512.size inb_S1x512_S1x512_0_0).toLoadRect (harg7.unread x6)) := by
    rw [rd harg1, rd harg4, rd harg7]
  rw [e]
  iterate 8 (refine all_cons (fun j => piece_one _ _ _ (by decide) j) ?_; refine all_cons (fun j => piece_lo1 _ _ _ _ (by decide) rfl (by decide) (by decide) j) ?_)
  exact fun _ h => absurd h List.not_mem_nil

/-- The run's stores in scratch 2 cover their half of the heads. -/
theorem coverA11 (hc0 : cond0 i) (hc1 : ¬cond1 i) (hc2 : ¬cond2 i) (d8 : Vec F S1x2048x64 .bf16) (y : S16x2048x128.Idx) (hy : (y 0).val < 8) : ∃ p ∈ (runA (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 d8 f9 f10 f11).1.2.2, y ∈ p.1.set := by
  have h16 : (y 0).val < 16 := (y 0).isLt
  have h128 : (y 2).val < 128 := (y 2).isLt
  by_cases h7 : (y 0).val = 7 ∧ 64 ≤ (y 2).val
  · exact cov_here (mem_head1 (inb := by decide) h7.1 ⟨h7.2, by omega⟩)
  refine cov_next ?_
  by_cases g7 : (y 0).val = 7
  · exact cov_here (mem_head1 (inb := by decide) g7 ⟨by omega, by omega⟩)
  refine cov_next ?_
  by_cases h6 : (y 0).val = 6 ∧ 64 ≤ (y 2).val
  · exact cov_here (mem_head1 (inb := by decide) h6.1 ⟨h6.2, by omega⟩)
  refine cov_next ?_
  by_cases g6 : (y 0).val = 6
  · exact cov_here (mem_head1 (inb := by decide) g6 ⟨by omega, by omega⟩)
  refine cov_next ?_
  by_cases h5 : (y 0).val = 5 ∧ 64 ≤ (y 2).val
  · exact cov_here (mem_head1 (inb := by decide) h5.1 ⟨h5.2, by omega⟩)
  refine cov_next ?_
  by_cases g5 : (y 0).val = 5
  · exact cov_here (mem_head1 (inb := by decide) g5 ⟨by omega, by omega⟩)
  refine cov_next ?_
  by_cases h4 : (y 0).val = 4 ∧ 64 ≤ (y 2).val
  · exact cov_here (mem_head1 (inb := by decide) h4.1 ⟨h4.2, by omega⟩)
  refine cov_next ?_
  by_cases g4 : (y 0).val = 4
  · exact cov_here (mem_head1 (inb := by decide) g4 ⟨by omega, by omega⟩)
  refine cov_next ?_
  by_cases h3 : (y 0).val = 3 ∧ 64 ≤ (y 2).val
  · exact cov_here (mem_head1 (inb := by decide) h3.1 ⟨h3.2, by omega⟩)
  refine cov_next ?_
  by_cases g3 : (y 0).val = 3
  · exact cov_here (mem_head1 (inb := by decide) g3 ⟨by omega, by omega⟩)
  refine cov_next ?_
  by_cases h2 : (y 0).val = 2 ∧ 64 ≤ (y 2).val
  · exact cov_here (mem_head1 (inb := by decide) h2.1 ⟨h2.2, by omega⟩)
  refine cov_next ?_
  by_cases g2 : (y 0).val = 2
  · exact cov_here (mem_head1 (inb := by decide) g2 ⟨by omega, by omega⟩)
  refine cov_next ?_
  by_cases h1 : (y 0).val = 1 ∧ 64 ≤ (y 2).val
  · exact cov_here (mem_head1 (inb := by decide) h1.1 ⟨h1.2, by omega⟩)
  refine cov_next ?_
  by_cases g1 : (y 0).val = 1
  · exact cov_here (mem_head1 (inb := by decide) g1 ⟨by omega, by omega⟩)
  refine cov_next ?_
  by_cases h0 : (y 0).val = 0 ∧ 64 ≤ (y 2).val
  · exact cov_here (mem_head1 (inb := by decide) h0.1 ⟨h0.2, by omega⟩)
  refine cov_next ?_
  exact cov_here (mem_head1 (inb := by decide) (by omega) ⟨by omega, by omega⟩)

set_option maxHeartbeats 1000000 in
/-- What the run stores in scratch 0 is the layout of the projected half. -/
theorem agreeB9 (hc0 : ¬cond0 i) (hc1 : cond1 i) (hc2 : cond2 i) (y0 : FVec F S2048x512 .f32) : ∀ p ∈ (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.1, ∀ j, p.2 j = lanes y0 (k3_pay13 x0 x1 x4) (p.1.emb j) := by
  have e : k3_pay13 x0 x1 x4 = k3_pay13 (arg1.view.readAt (Elt F) (Rect.unit (s := S2048x1024) ![0, 0] S2048x1024.size inb_S2048x1024_S2048x1024_0_0).toLoadRect (harg1.unread x0))
      (arg2.view.readAt (Elt F) (Rect.unit (s := S1024x512) ![0, 0] S1024x512.size inb_S1024x512_S1024x512_0_0).toLoadRect (harg2.unread x1))
      (arg5.view.readAt (Elt F) (Rect.unit (s := S1x512) ![0, 0] S1x512.size inb_S1x512_S1x512_0_0).toLoadRect (harg5.unread x4)) := by
    rw [rd harg1, rd harg2, rd harg5]
  rw [e]
  iterate 8 (refine all_cons (fun j => piece_hi _ _ _ _ (by decide) rfl (by decide) (by decide) j) ?_)
  exact fun _ h => absurd h List.not_mem_nil

/-- The run's stores in scratch 0 cover their half of the heads. -/
theorem coverB9 (hc0 : ¬cond0 i) (hc1 : cond1 i) (hc2 : cond2 i) (y : S16x2048x64.Idx) (hy : 8 ≤ (y 0).val) : ∃ p ∈ (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.1, y ∈ p.1.set := by
  have h16 : (y 0).val < 16 := (y 0).isLt
  by_cases h15 : (y 0).val = 15
  · exact cov_here (mem_head (inb := by decide) h15)
  refine cov_next ?_
  by_cases h14 : (y 0).val = 14
  · exact cov_here (mem_head (inb := by decide) h14)
  refine cov_next ?_
  by_cases h13 : (y 0).val = 13
  · exact cov_here (mem_head (inb := by decide) h13)
  refine cov_next ?_
  by_cases h12 : (y 0).val = 12
  · exact cov_here (mem_head (inb := by decide) h12)
  refine cov_next ?_
  by_cases h11 : (y 0).val = 11
  · exact cov_here (mem_head (inb := by decide) h11)
  refine cov_next ?_
  by_cases h10 : (y 0).val = 10
  · exact cov_here (mem_head (inb := by decide) h10)
  refine cov_next ?_
  by_cases h9 : (y 0).val = 9
  · exact cov_here (mem_head (inb := by decide) h9)
  refine cov_next ?_
  exact cov_here (mem_head (inb := by decide) (by omega))

set_option maxHeartbeats 1000000 in
/-- What the run stores in scratch 1 is the layout of the projected half. -/
theorem agreeB10 (hc0 : ¬cond0 i) (hc1 : cond1 i) (hc2 : cond2 i) (y0 : FVec F S2048x512 .f32) : ∀ p ∈ (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.2.1, ∀ j, p.2 j = lanes y0 (k3_pay13 x0 x2 x5) (p.1.emb j) := by
  have e : k3_pay13 x0 x2 x5 = k3_pay13 (arg1.view.readAt (Elt F) (Rect.unit (s := S2048x1024) ![0, 0] S2048x1024.size inb_S2048x1024_S2048x1024_0_0).toLoadRect (harg1.unread x0))
      (arg3.view.readAt (Elt F) (Rect.unit (s := S1024x512) ![0, 0] S1024x512.size inb_S1024x512_S1024x512_0_0).toLoadRect (harg3.unread x2))
      (arg6.view.readAt (Elt F) (Rect.unit (s := S1x512) ![0, 0] S1x512.size inb_S1x512_S1x512_0_0).toLoadRect (harg6.unread x5)) := by
    rw [rd harg1, rd harg3, rd harg6]
  rw [e]
  iterate 8 (refine all_cons (fun j => piece_hi _ _ _ _ (by decide) rfl (by decide) (by decide) j) ?_)
  exact fun _ h => absurd h List.not_mem_nil

/-- The run's stores in scratch 1 cover their half of the heads. -/
theorem coverB10 (hc0 : ¬cond0 i) (hc1 : cond1 i) (hc2 : cond2 i) (y : S16x2048x64.Idx) (hy : 8 ≤ (y 0).val) : ∃ p ∈ (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.2.1, y ∈ p.1.set := by
  have h16 : (y 0).val < 16 := (y 0).isLt
  by_cases h15 : (y 0).val = 15
  · exact cov_here (mem_head (inb := by decide) h15)
  refine cov_next ?_
  by_cases h14 : (y 0).val = 14
  · exact cov_here (mem_head (inb := by decide) h14)
  refine cov_next ?_
  by_cases h13 : (y 0).val = 13
  · exact cov_here (mem_head (inb := by decide) h13)
  refine cov_next ?_
  by_cases h12 : (y 0).val = 12
  · exact cov_here (mem_head (inb := by decide) h12)
  refine cov_next ?_
  by_cases h11 : (y 0).val = 11
  · exact cov_here (mem_head (inb := by decide) h11)
  refine cov_next ?_
  by_cases h10 : (y 0).val = 10
  · exact cov_here (mem_head (inb := by decide) h10)
  refine cov_next ?_
  by_cases h9 : (y 0).val = 9
  · exact cov_here (mem_head (inb := by decide) h9)
  refine cov_next ?_
  exact cov_here (mem_head (inb := by decide) (by omega))

set_option maxHeartbeats 1000000 in
/-- What the run stores in scratch 2 is the layout of the projected half. -/
theorem agreeB11 (hc0 : ¬cond0 i) (hc1 : cond1 i) (hc2 : cond2 i) (y0 : FVec F S2048x512 .f32) : ∀ p ∈ (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.2.2, ∀ j, p.2 j = lanesOne y0 (k3_pay13 x0 x3 x6) (p.1.emb j) := by
  have e : k3_pay13 x0 x3 x6 = k3_pay13 (arg1.view.readAt (Elt F) (Rect.unit (s := S2048x1024) ![0, 0] S2048x1024.size inb_S2048x1024_S2048x1024_0_0).toLoadRect (harg1.unread x0))
      (arg4.view.readAt (Elt F) (Rect.unit (s := S1024x512) ![0, 0] S1024x512.size inb_S1024x512_S1024x512_0_0).toLoadRect (harg4.unread x3))
      (arg7.view.readAt (Elt F) (Rect.unit (s := S1x512) ![0, 0] S1x512.size inb_S1x512_S1x512_0_0).toLoadRect (harg7.unread x6)) := by
    rw [rd harg1, rd harg4, rd harg7]
  rw [e]
  iterate 8 (refine all_cons (fun j => piece_one _ _ _ (by decide) j) ?_; refine all_cons (fun j => piece_hi1 _ _ _ _ (by decide) rfl (by decide) (by decide) j) ?_)
  exact fun _ h => absurd h List.not_mem_nil

/-- The run's stores in scratch 2 cover their half of the heads. -/
theorem coverB11 (hc0 : ¬cond0 i) (hc1 : cond1 i) (hc2 : cond2 i) (y : S16x2048x128.Idx) (hy : 8 ≤ (y 0).val) : ∃ p ∈ (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.2.2, y ∈ p.1.set := by
  have h16 : (y 0).val < 16 := (y 0).isLt
  have h128 : (y 2).val < 128 := (y 2).isLt
  by_cases h15 : (y 0).val = 15 ∧ 64 ≤ (y 2).val
  · exact cov_here (mem_head1 (inb := by decide) h15.1 ⟨h15.2, by omega⟩)
  refine cov_next ?_
  by_cases g15 : (y 0).val = 15
  · exact cov_here (mem_head1 (inb := by decide) g15 ⟨by omega, by omega⟩)
  refine cov_next ?_
  by_cases h14 : (y 0).val = 14 ∧ 64 ≤ (y 2).val
  · exact cov_here (mem_head1 (inb := by decide) h14.1 ⟨h14.2, by omega⟩)
  refine cov_next ?_
  by_cases g14 : (y 0).val = 14
  · exact cov_here (mem_head1 (inb := by decide) g14 ⟨by omega, by omega⟩)
  refine cov_next ?_
  by_cases h13 : (y 0).val = 13 ∧ 64 ≤ (y 2).val
  · exact cov_here (mem_head1 (inb := by decide) h13.1 ⟨h13.2, by omega⟩)
  refine cov_next ?_
  by_cases g13 : (y 0).val = 13
  · exact cov_here (mem_head1 (inb := by decide) g13 ⟨by omega, by omega⟩)
  refine cov_next ?_
  by_cases h12 : (y 0).val = 12 ∧ 64 ≤ (y 2).val
  · exact cov_here (mem_head1 (inb := by decide) h12.1 ⟨h12.2, by omega⟩)
  refine cov_next ?_
  by_cases g12 : (y 0).val = 12
  · exact cov_here (mem_head1 (inb := by decide) g12 ⟨by omega, by omega⟩)
  refine cov_next ?_
  by_cases h11 : (y 0).val = 11 ∧ 64 ≤ (y 2).val
  · exact cov_here (mem_head1 (inb := by decide) h11.1 ⟨h11.2, by omega⟩)
  refine cov_next ?_
  by_cases g11 : (y 0).val = 11
  · exact cov_here (mem_head1 (inb := by decide) g11 ⟨by omega, by omega⟩)
  refine cov_next ?_
  by_cases h10 : (y 0).val = 10 ∧ 64 ≤ (y 2).val
  · exact cov_here (mem_head1 (inb := by decide) h10.1 ⟨h10.2, by omega⟩)
  refine cov_next ?_
  by_cases g10 : (y 0).val = 10
  · exact cov_here (mem_head1 (inb := by decide) g10 ⟨by omega, by omega⟩)
  refine cov_next ?_
  by_cases h9 : (y 0).val = 9 ∧ 64 ≤ (y 2).val
  · exact cov_here (mem_head1 (inb := by decide) h9.1 ⟨h9.2, by omega⟩)
  refine cov_next ?_
  by_cases g9 : (y 0).val = 9
  · exact cov_here (mem_head1 (inb := by decide) g9 ⟨by omega, by omega⟩)
  refine cov_next ?_
  by_cases h8 : (y 0).val = 8 ∧ 64 ≤ (y 2).val
  · exact cov_here (mem_head1 (inb := by decide) h8.1 ⟨h8.2, by omega⟩)
  refine cov_next ?_
  exact cov_here (mem_head1 (inb := by decide) (by omega) ⟨by omega, by omega⟩)

/-- What the run stores in the output. -/
theorem outB (hc0 : ¬cond0 i) (hc1 : cond1 i) (hc2 : cond2 i) : (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.1 = [⟨Rect.unit (s := S1x2048x64) ![0, 0, 0] S1x2048x64.size inb_S1x2048x64_S1x2048x64_0_0_0, outV i hc2 (arg9.view.read (Elt F) (arg9.view.writes (Elt F) f9 (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.1)) (arg10.view.read (Elt F) (arg10.view.writes (Elt F) f10 (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.2.1)) (arg11.view.read (Elt F) (arg11.view.writes (Elt F) f11 (runB (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1.2.2.2))⟩] := rfl

/-- What the run stores in the output. -/
theorem outC (hc0 : ¬cond0 i) (hc1 : ¬cond1 i) (hc2 : cond2 i) : (runC (Ix := Ix) (U := U) (Lvl := Lvl) 𝒱₀ c i arg1 harg1 arg2 harg2 arg3 harg3 arg4 harg4 arg5 harg5 arg6 harg6 arg7 harg7 arg8 harg8 arg9 harg9 arg10 harg10 arg11 harg11 hc0 hc1 hc2 x0 x1 x2 x3 x4 x5 x6 f9 f10 f11).1 = [⟨Rect.unit (s := S1x2048x64) ![0, 0, 0] S1x2048x64.size inb_S1x2048x64_S1x2048x64_0_0_0, outV i hc2 (arg9.view.read (Elt F) f9) (arg10.view.read (Elt F) f10) (arg11.view.read (Elt F) f11)⟩] := rfl

end Runs

end Cert.KernelIdeal.Att3
-- ==== Proof.Att3.lean ====
module

public import proofs.«01_k».proof.Proof.AttVal3

@[expose] public section

set_option maxRecDepth 16384

noncomputable section

namespace Cert.KernelIdeal.Att3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

open Cert.KernelIdeal.Lanes

variable (𝒱₀ : Variants) (V : (c : Dev nD) → (b : Ref sig .tc) → Buf (Elt F) ((c : Thread nD τ).loc b)) (D : Dev nD → CellTallies nD τ sig Ix)

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first two points. -/
abbrev t0 : Fin cfg3.N := ⟨0, by rw [show cfg3.N = 17 from N_3]; decide⟩
abbrev t1 : Fin cfg3.N := ⟨1, by rw [show cfg3.N = 17 from N_3]; decide⟩

/-- A projection's half at point `t`: windows `w` and `b` its weight and bias. -/
def half1 (c : Dev nD) (t : Fin cfg3.N) : FVec F S2048x512 .f32 := k3_pay13 (iblk V c 0 t) (iblk V c 1 t) (iblk V c 4 t)
def half2 (c : Dev nD) (t : Fin cfg3.N) : FVec F S2048x512 .f32 := k3_pay13 (iblk V c 0 t) (iblk V c 2 t) (iblk V c 5 t)
def half3 (c : Dev nD) (t : Fin cfg3.N) : FVec F S2048x512 .f32 := k3_pay13 (iblk V c 0 t) (iblk V c 3 t) (iblk V c 6 t)

/-- What the three scratch buffers hold once both halves are stored. -/
def Q9 (c : Dev nD) : Vec F S16x2048x64 .fp8e4m3 := lanes (half1 V c t0) (half1 V c t1)
def Q10 (c : Dev nD) : Vec F S16x2048x64 .fp8e4m3 := lanes (half2 V c t0) (half2 V c t1)
def Q11 (c : Dev nD) : Vec F S16x2048x128 .fp8e4m3 := lanesOne (half3 V c t0) (half3 V c t1)

/-- One staging buffer of the output, for the value it has where nothing is stored. -/
abbrev VO : View sig .tc .vmem S1x2048x64 .bf16 := (Memref.whole cc3_stg7_0 : Memref sig .tc .vmem S1x2048x64 .bf16).view

/-- What the output's buffer holds after point `t`: the attended head, from the second point on. -/
def outAt (c : Dev nD) (t : Fin cfg3.N) : Vec F S1x2048x64 .bf16 :=
  if h : cond2 (grid3.coords t) then outV (grid3.coords t) h (Q9 V c) (Q10 V c) (Q11 V c) else VO.read (Elt F) VO.junk

/-- Input window 0's current buffer holds its block at every point. -/
theorem before_0_of {c : Dev nD} (dat : Dat τ (Elt F) Ix ℕ U Lvl cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point. -/
theorem before_1_of {c : Dev nD} (dat : Dat τ (Elt F) Ix ℕ U Lvl cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point. -/
theorem before_2_of {c : Dev nD} (dat : Dat τ (Elt F) Ix ℕ U Lvl cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point. -/
theorem before_3_of {c : Dev nD} (dat : Dat τ (Elt F) Ix ℕ U Lvl cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point. -/
theorem before_4_of {c : Dev nD} (dat : Dat τ (Elt F) Ix ℕ U Lvl cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point. -/
theorem before_5_of {c : Dev nD} (dat : Dat τ (Elt F) Ix ℕ U Lvl cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point. -/
theorem before_6_of {c : Dev nD} (dat : Dat τ (Elt F) Ix ℕ U Lvl cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg3.N) : Memref sig .tc .vmem S2048x1024 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S1024x512 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S1024x512 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1024x512 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S1x512 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S1x512 .f32 := win3_5.stage (cfg3.slots t 5)
abbrev hs5 (t : Fin cfg3.N) : (ms5 t).IsWhole := hstage3_5 ((cfg3.slots t 5).cast nbuf3_5)
abbrev ms6 (t : Fin cfg3.N) : Memref sig .tc .vmem S1x512 .f32 := win3_6.stage (cfg3.slots t 6)
abbrev hs6 (t : Fin cfg3.N) : (ms6 t).IsWhole := hstage3_6 ((cfg3.slots t 6).cast nbuf3_6)
abbrev ms7 (t : Fin cfg3.N) : Memref sig .tc .vmem S1x2048x64 .bf16 := win3_7.stage (cfg3.slots t 7)
abbrev hs7 (t : Fin cfg3.N) : (ms7 t).IsWhole := hstage3_7 ((cfg3.slots t 7).cast nbuf3_7)
abbrev sc0 : Memref sig .tc .vmem S16x2048x64 .fp8e4m3 := Memref.whole cc3_scratch0
abbrev sc1 : Memref sig .tc .vmem S16x2048x64 .fp8e4m3 := Memref.whole cc3_scratch1
abbrev sc2 : Memref sig .tc .vmem S16x2048x128 .fp8e4m3 := Memref.whole cc3_scratch2

/-! ## The invariant: what the scratch holds before each point -/

/-- Before the second point the lower heads are stored; from the third point on all of them. -/
def Held (c : Dev nD) (n : ℕ) (f9 : Buf (Elt F) (sc0.view.loc (c : Thread nD τ))) (f10 : Buf (Elt F) (sc1.view.loc (c : Thread nD τ))) (f11 : Buf (Elt F) (sc2.view.loc (c : Thread nD τ))) : Prop :=
  (n = 1 → (∀ y, (y 0).val < 8 → sc0.view.read (Elt F) f9 y = Q9 V c y) ∧ (∀ y, (y 0).val < 8 → sc1.view.read (Elt F) f10 y = Q10 V c y)
      ∧ ∀ y, (y 0).val < 8 → sc2.view.read (Elt F) f11 y = Q11 V c y)
    ∧ (2 ≤ n → sc0.view.read (Elt F) f9 = Q9 V c ∧ sc1.view.read (Elt F) f10 = Q10 V c ∧ sc2.view.read (Elt F) f11 = Q11 V c)

/-- The rest of the scoped buffers and the generator register, not looked at. -/
def rest (c : Dev nD) : sProp 𝕄 :=
  iprop(Pipeline.scopedRestBut (Ix := Ix) (Name := ℕ) (U := U) (Lvl := Lvl) (Val := Elt F) spec3 c [cc3_scratch0, cc3_scratch1, cc3_scratch2] ∗ ∃ r, prngReg c r)

/-- The invariant before point `n`. -/
def ΦK (c : Dev nD) (n : ℕ) : sProp 𝕄 :=
  iprop(∃ f9 f10 f11, ⌜Held V c n f9 f10 f11⌝ ∗ (sc0.view.loc (c : Thread nD τ) ↦[sc0.view.set]{fullShare} f9) ∗ (sc1.view.loc (c : Thread nD τ) ↦[sc1.view.set]{fullShare} f10) ∗ (sc2.view.loc (c : Thread nD τ) ↦[sc2.view.set]{fullShare} f11) ∗ rest (F := F) (Ix := Ix) (U := U) (Lvl := Lvl) c)

/-- At entry: anything is held before the first point. -/
theorem ΦK_in (c : Dev nD) :
    iprop(Pipeline.scopedRest (Ix := Ix) (Name := ℕ) (U := U) (Lvl := Lvl) (Val := Elt F) spec3 c ∗ ∃ r, prngReg c r) ⊢ ΦK (U := U) (Lvl := Lvl) (Ix := Ix) V c 0 := by
  rw [scopedRest3_split]
  unfold ΦK rest
  simp only [Memref.view_whole, View.set_whole]
  iintro ⟨⟨⟨⟨%f9, H9⟩, ⟨%f10, H10⟩, ⟨%f11, H11⟩⟩, Hr⟩, Hg⟩
  iexists f9; iexists f10; iexists f11
  isplitr; · ipureintro; exact ⟨fun h => absurd h (by decide), fun h => absurd h (by decide)⟩
  isplitl [H9]; · iexact H9
  isplitl [H10]; · iexact H10
  isplitl [H11]; · iexact H11
  isplitl [Hr]; · iexact Hr
  iexact Hg

/-- At exit what the scratch holds is forgotten. -/
theorem ΦK_out (c : Dev nD) (n : ℕ) :
    ΦK (U := U) (Lvl := Lvl) (Ix := Ix) V c n ⊢ iprop(Pipeline.scopedRest (Ix := Ix) (Name := ℕ) (U := U) (Lvl := Lvl) (Val := Elt F) spec3 c ∗ ∃ r, prngReg c r) := by
  rw [scopedRest3_split]
  unfold ΦK rest
  simp only [Memref.view_whole, View.set_whole]
  iintro ⟨%f9, %f10, %f11, -, H9, H10, H11, Hr, Hg⟩
  isplitl [H9 H10 H11 Hr]
  · isplitl [H9 H10 H11]
    · isplitl [H9]; · iexists f9; iexact H9
      isplitl [H10]; · iexists f10; iexact H10
      iexists f11; iexact H11
    iexact Hr
  iexact Hg

/-! ## The pipeline's proof data -/

/-- The proof data on core `c`: the arrays as the region finds them; after point `t` each input's buffer at its block and the
output's at the attended head; the core owing `D c` throughout; full shares. -/
def dat (c : Dev nD) : Dat τ (Elt F) Ix ℕ U Lvl cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outAt V c t
  Φ t := ΦK (F := F) (Ix := Ix) (U := U) (Lvl := Lvl) V c t.val
  q _ := fullShare
  owed _ := D c

variable (ι : Ix)

local notation "𝕕" => dat (Ix := Ix) (U := U) (Lvl := Lvl) V D

/-- The proof data's arrays are the region-entry contents. -/
theorem A_eq (c : Dev nD) (w : Fin cfg3.W) : (𝕕 c).A w = V c (Pipeline.arrRef spec3 w) := by dsimp only [dat]

theorem after_0 (c : Dev nD) (t : Fin cfg3.N) : (𝕕 c).after 0 t = iblk V c 0 t := by dsimp only [dat]
theorem after_1 (c : Dev nD) (t : Fin cfg3.N) : (𝕕 c).after 1 t = iblk V c 1 t := by dsimp only [dat]
theorem after_2 (c : Dev nD) (t : Fin cfg3.N) : (𝕕 c).after 2 t = iblk V c 2 t := by dsimp only [dat]
theorem after_3 (c : Dev nD) (t : Fin cfg3.N) : (𝕕 c).after 3 t = iblk V c 3 t := by dsimp only [dat]
theorem after_4 (c : Dev nD) (t : Fin cfg3.N) : (𝕕 c).after 4 t = iblk V c 4 t := by dsimp only [dat]
theorem after_5 (c : Dev nD) (t : Fin cfg3.N) : (𝕕 c).after 5 t = iblk V c 5 t := by dsimp only [dat]
theorem after_6 (c : Dev nD) (t : Fin cfg3.N) : (𝕕 c).after 6 t = iblk V c 6 t := by dsimp only [dat]
theorem after_7 (c : Dev nD) (t : Fin cfg3.N) : (𝕕 c).after 7 t = outAt V c t := by dsimp only [dat]
theorem before_0 (c : Dev nD) (t : Fin cfg3.N) (d) : (𝕕 c).before 0 t d = iblk V c 0 t :=
  before_0_of V (𝕕 c) (A_eq V D c 0) (after_0 V D c) t d
theorem before_1 (c : Dev nD) (t : Fin cfg3.N) (d) : (𝕕 c).before 1 t d = iblk V c 1 t :=
  before_1_of V (𝕕 c) (A_eq V D c 1) (after_1 V D c) t d
theorem before_2 (c : Dev nD) (t : Fin cfg3.N) (d) : (𝕕 c).before 2 t d = iblk V c 2 t :=
  before_2_of V (𝕕 c) (A_eq V D c 2) (after_2 V D c) t d
theorem before_3 (c : Dev nD) (t : Fin cfg3.N) (d) : (𝕕 c).before 3 t d = iblk V c 3 t :=
  before_3_of V (𝕕 c) (A_eq V D c 3) (after_3 V D c) t d
theorem before_4 (c : Dev nD) (t : Fin cfg3.N) (d) : (𝕕 c).before 4 t d = iblk V c 4 t :=
  before_4_of V (𝕕 c) (A_eq V D c 4) (after_4 V D c) t d
theorem before_5 (c : Dev nD) (t : Fin cfg3.N) (d) : (𝕕 c).before 5 t d = iblk V c 5 t :=
  before_5_of V (𝕕 c) (A_eq V D c 5) (after_5 V D c) t d
theorem before_6 (c : Dev nD) (t : Fin cfg3.N) (d) : (𝕕 c).before 6 t d = iblk V c 6 t :=
  before_6_of V (𝕕 c) (A_eq V D c 6) (after_6 V D c) t d

/-- The output is idle at the first point only, and not flushed there. -/
theorem idle_7 (t : Fin cfg3.N) (h : t.val = 0) : cfg3.idle 7 (cfg3.grid.coords t) = true := by
  obtain rfl : t = t0 := Fin.ext h
  decide +kernel
theorem live_7 : ∀ (t : Fin cfg3.N), 1 ≤ t.val → cfg3.idle 7 (cfg3.grid.coords t) = false :=
  (by decide +kernel : ∀ t : Fin grid3.N, 1 ≤ t.val → cfg3.idle 7 (grid3.coords t) = false)
theorem flush_7 (t : Fin cfg3.N) (h : t.val = 0) : (cfg3.win 7).flush t = false := by
  obtain rfl : t = t0 := Fin.ext h
  decide +kernel

/-! ## The body obligation -/

/-- What the body is called with at point `t`, the windows one by one, -/
def bodyPre (c : Dev nD) (t : Fin cfg3.N) : sProp 𝕄 :=
  iprop((𝕕 c).Φ t.castSucc ∗ (𝕕 c).owesAt ι t.castSucc
    ∗ (∃ d, owns (c : Thread nD τ) (ms0 t) fullShare ((𝕕 c).before 0 t d))
    ∗ (∃ d, owns (c : Thread nD τ) (ms1 t) fullShare ((𝕕 c).before 1 t d))
    ∗ (∃ d, owns (c : Thread nD τ) (ms2 t) fullShare ((𝕕 c).before 2 t d))
    ∗ (∃ d, owns (c : Thread nD τ) (ms3 t) fullShare ((𝕕 c).before 3 t d))
    ∗ (∃ d, owns (c : Thread nD τ) (ms4 t) fullShare ((𝕕 c).before 4 t d))
    ∗ (∃ d, owns (c : Thread nD τ) (ms5 t) fullShare ((𝕕 c).before 5 t d))
    ∗ (∃ d, owns (c : Thread nD τ) (ms6 t) fullShare ((𝕕 c).before 6 t d))
    ∗ (∃ d, owns (c : Thread nD τ) (ms7 t) fullShare ((𝕕 c).before 7 t d)))

/-- and what it returns. -/
def bodyPost (c : Dev nD) (t : Fin cfg3.N) : sProp 𝕄 :=
  iprop((𝕕 c).Φ t.succ ∗ (𝕕 c).owesAt ι t.succ
    ∗ owns (c : Thread nD τ) (ms0 t) fullShare ((𝕕 c).after 0 t)
    ∗ owns (c : Thread nD τ) (ms1 t) fullShare ((𝕕 c).after 1 t)
    ∗ owns (c : Thread nD τ) (ms2 t) fullShare ((𝕕 c).after 2 t)
    ∗ owns (c : Thread nD τ) (ms3 t) fullShare ((𝕕 c).after 3 t)
    ∗ owns (c : Thread nD τ) (ms4 t) fullShare ((𝕕 c).after 4 t)
    ∗ owns (c : Thread nD τ) (ms5 t) fullShare ((𝕕 c).after 5 t)
    ∗ owns (c : Thread nD τ) (ms6 t) fullShare ((𝕕 c).after 6 t)
    ∗ (𝕕 c).leavesExact 7 t)

/-- The block stored whole is what the output's buffer then holds. -/
theorem read_whole8 (m : Memref sig .tc .vmem S1x2048x64 .bf16) (f : m.view.ty.Contents (Elt F)) (w : Vec F S1x2048x64 .bf16) :
    m.view.read (Elt F) (m.view.writes (Elt F) f [⟨Rect.unit (s := S1x2048x64) ![0, 0, 0] S1x2048x64.size inb_S1x2048x64_S1x2048x64_0_0_0, w⟩]) = w := by
  funext y
  have h := View.read_writes_cons_emb (Val := Elt F) m.view f (Rect.unit (s := S1x2048x64) ![0, 0, 0] S1x2048x64.size inb_S1x2048x64_S1x2048x64_0_0_0) w [] y
  rwa [Rect.emb_unit_full] at h

/-- After the first half's stores the lower heads are there. -/
theorem held_1 (c : Dev nD) (t : Fin cfg3.N) (h0 : t.val = 0) {f9 f10 f11} {L9 L10 L11}
    (a9 : ∀ p ∈ L9, ∀ j, p.2 j = lanes (half1 V c t) (half1 V c t1) (p.1.emb j)) (c9 : ∀ y : S16x2048x64.Idx, (y 0).val < 8 → ∃ p ∈ L9, y ∈ p.1.set)
    (a10 : ∀ p ∈ L10, ∀ j, p.2 j = lanes (half2 V c t) (half2 V c t1) (p.1.emb j)) (c10 : ∀ y : S16x2048x64.Idx, (y 0).val < 8 → ∃ p ∈ L10, y ∈ p.1.set)
    (a11 : ∀ p ∈ L11, ∀ j, p.2 j = lanesOne (half3 V c t) (half3 V c t1) (p.1.emb j)) (c11 : ∀ y : S16x2048x128.Idx, (y 0).val < 8 → ∃ p ∈ L11, y ∈ p.1.set) :
    Held V c (t.val + 1) (sc0.view.writes (Elt F) f9 L9) (sc1.view.writes (Elt F) f10 L10) (sc2.view.writes (Elt F) f11 L11) := by
  obtain rfl : t = t0 := Fin.ext h0
  refine ⟨fun _ => ⟨fun y hy => ?_, fun y hy => ?_, fun y hy => ?_⟩, fun h => absurd h (by decide)⟩
  · exact View.read_writes_apply_of_pieces _ _ _ _ a9 y (c9 y hy)
  · exact View.read_writes_apply_of_pieces _ _ _ _ a10 y (c10 y hy)
  · exact View.read_writes_apply_of_pieces _ _ _ _ a11 y (c11 y hy)

/-- Stores of the upper heads over contents with the lower heads in place leave all of them. -/
theorem read_both {s : Shape} {e : EltTy} (m : Memref sig .tc .vmem s e) (f : m.view.ty.Contents (Elt F)) (L : List (View.Piece (Elt F) s e)) (G : Vec F s e) (p : s.Idx → Prop)
    (hG : ∀ q ∈ L, ∀ j, q.2 j = G (q.1.emb j)) (hc : ∀ y, ¬ p y → ∃ q ∈ L, y ∈ q.1.set) (hf : ∀ y, p y → m.view.read (Elt F) f y = G y) :
    m.view.read (Elt F) (m.view.writes (Elt F) f L) = G := by
  funext y
  by_cases hy : ∃ q ∈ L, y ∈ q.1.set
  · exact View.read_writes_apply_of_pieces _ _ _ _ hG y hy
  · rw [View.read_writes_apply_of_forall_not_mem _ _ _ _ (fun q hq hm => hy ⟨q, hq, hm⟩)]
    exact hf y (by by_contra h; exact hy (hc y h))

/-- After the second half's stores all heads are there. -/
theorem read_2 (c : Dev nD) (t : Fin cfg3.N) (h1 : t.val = 1) {f9 f10 f11} {L9 L10 L11} (hH : Held V c t.val f9 f10 f11)
    (a9 : ∀ p ∈ L9, ∀ j, p.2 j = lanes (half1 V c t0) (half1 V c t) (p.1.emb j)) (c9 : ∀ y : S16x2048x64.Idx, 8 ≤ (y 0).val → ∃ p ∈ L9, y ∈ p.1.set)
    (a10 : ∀ p ∈ L10, ∀ j, p.2 j = lanes (half2 V c t0) (half2 V c t) (p.1.emb j)) (c10 : ∀ y : S16x2048x64.Idx, 8 ≤ (y 0).val → ∃ p ∈ L10, y ∈ p.1.set)
    (a11 : ∀ p ∈ L11, ∀ j, p.2 j = lanesOne (half3 V c t0) (half3 V c t) (p.1.emb j)) (c11 : ∀ y : S16x2048x128.Idx, 8 ≤ (y 0).val → ∃ p ∈ L11, y ∈ p.1.set) :
    sc0.view.read (Elt F) (sc0.view.writes (Elt F) f9 L9) = Q9 V c ∧ sc1.view.read (Elt F) (sc1.view.writes (Elt F) f10 L10) = Q10 V c
      ∧ sc2.view.read (Elt F) (sc2.view.writes (Elt F) f11 L11) = Q11 V c := by
  obtain ⟨H9, H10, H11⟩ := hH.1 h1
  obtain rfl : t = t1 := Fin.ext h1
  exact ⟨read_both sc0 f9 L9 _ (fun y => (y 0).val < 8) a9 (fun y hy => c9 y (by omega)) H9,
    read_both sc1 f10 L10 _ (fun y => (y 0).val < 8) a10 (fun y hy => c10 y (by omega)) H10,
    read_both sc2 f11 L11 _ (fun y => (y 0).val < 8) a11 (fun y hy => c11 y (by omega)) H11⟩

set_option maxHeartbeats 2400000 in
/-- The body at any point: at the first the lower heads are stored and the output left alone; at the second the upper heads are
stored and head 0 is attended; at a later one a head is attended. -/
theorem sound_body (c : Dev nD) (t : Fin cfg3.N) :
    bodyPre (U := U) (Lvl := Lvl) V D ι c t ⊢ wp frame (wpE (defs₀ (F := F)) 𝒱₀ c none) Set.univ (bodyAt3 t) (fun _ => bodyPost (U := U) (Lvl := Lvl) V D ι c t) := by
  unfold bodyPre bodyPost bodyAt3
  simp only [before_0, before_1, before_2, before_3, before_4, before_5, before_6]
  rw [show (𝕕 c).owesAt ι t.succ = (𝕕 c).owesAt ι t.castSucc from rfl,
    show (𝕕 c).Φ t.castSucc = ΦK V c t.val from rfl, show (𝕕 c).Φ t.succ = ΦK V c (t.val + 1) from rfl,
    after_0, after_1, after_2, after_3, after_4, after_5, after_6]
  unfold ΦK
  by_cases h0 : t.val = 0
  · have hc0 := (hcond0 t).2 h0
    have hc1 : ¬ cond1 (grid3.coords t) := fun h => by have := (hcond1 t).1 h; omega
    have hc2 : ¬ cond2 (grid3.coords t) := fun h => by have := (hcond2 t).1 h; omega
    rw [(𝕕 c).leavesExact_idle 7 t (idle_7 t h0) (flush_7 t h0)]
    iintro ⟨⟨%f9, %f10, %f11, -, S9, S10, S11, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA (Ix := Ix) (U := U) (Lvl := Lvl) 𝒱₀ c (grid3.coords t) _ _ _ _ _ _ _ _ _ _ _ _ _ _ _ _ _ _ _ _ _ _  hc0 hc1 hc2 (iblk V c 0 t) (iblk V c 1 t) (iblk V c 2 t) (iblk V c 3 t) (iblk V c 4 t) (iblk V c 5 t) (iblk V c 6 t) ((𝕕 c).before 7 t d7) f9 f10 f11).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S9]; · iexact S9
    isplitl [S10]; · iexact S10
    isplitl [S11]; · iexact S11
    iintro ⟨H0, H1, H2, H3, H4, H5, H6, H7, S9, S10, S11⟩
    isplitl [S9 S10 S11 HR]
    · iexists _; iexists _; iexists _
      isplitr
      swap
      · isplitl [S9]; · iexact S9
        isplitl [S10]; · iexact S10
        isplitl [S11]; · iexact S11
        iexact HR
      ipureintro
      exact held_1 V c t h0 (agreeA9 𝒱₀ c (grid3.coords t) _ _ _ _ _ _ _ _ _ _ _ _ _ _ _ _ _ _ _ _ _ _ _ _ _ _ _ _ _ _ _ _  hc0 hc1 hc2 _ _) (coverA9 𝒱₀ c (grid3.coords t) _ _ _ _ _ _ _ _ _ _ _ _ _ _ _ _ _ _ _ _ _ _ _ _ _ _ _ _ _ _ _ _  hc0 hc1 hc2 _) (agreeA10 𝒱₀ c (grid3.coords t) _ _ _ _ _ _ _ _ _ _ _ _ _ _ _ _ _ _ _ _ _ _ _ _ _ _ _ _ _ _ _ _  hc0 hc1 hc2 _ _) (coverA10 𝒱₀ c (grid3.coords t) _ _ _ _ _ _ _ _ _ _ _ _ _ _ _ _ _ _ _ _ _ _ _ _ _ _ _ _ _ _ _ _  hc0 hc1 hc2 _) (agreeA11 𝒱₀ c (grid3.coords t) _ _ _ _ _ _ _ _ _ _ _ _ _ _ _ _ _ _ _ _ _ _ _ _ _ _ _ _ _ _ _ _  hc0 hc1 hc2 _ _) (coverA11 𝒱₀ c (grid3.coords t) _ _ _ _ _ _ _ _ _ _ _ _ _ _ _ _ _ _ _ _ _ _ _ _ _ _ _ _ _ _ _ _  hc0 hc1 hc2 _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  have hc2 := (hcond2 t).2 (by omega)
  have hc0 : ¬ cond0 (grid3.coords t) := fun h => h0 ((hcond0 t).1 h)
  rw [show (𝕕 c).leavesExact 7 t = owns (c : Thread nD τ) (ms7 t) fullShare ((𝕕 c).after 7 t) from by unfold Dat.leavesExact; rw [live_7 t (by omega)], after_7]
  unfold outAt; rw [dif_pos hc2]
  by_cases h1 : t.val = 1
  · have hc1 := (hcond1 t).2 h1
    iintro ⟨⟨%f9, %f10, %f11, %hH, S9, S10, S11, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hr := read_2 V c t h1 hH
      (agreeB9 (Ix := Ix) (U := U) (Lvl := Lvl) 𝒱₀ c (grid3.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) (iblk V c 0 t) (iblk V c 1 t) (iblk V c 2 t) (iblk V c 3 t) (iblk V c 4 t) (iblk V c 5 t) (iblk V c 6 t) f9 f10 f11 hc0 hc1 hc2 _)
      (coverB9 𝒱₀ c (grid3.coords t) _ _ _ _ _ _ _ _ _ _ _ _ _ _ _ _ _ _ _ _ _ _ _ _ _ _ _ _ _ _ _ _  hc0 hc1 hc2)
      (agreeB10 (Ix := Ix) (U := U) (Lvl := Lvl) 𝒱₀ c (grid3.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) (iblk V c 0 t) (iblk V c 1 t) (iblk V c 2 t) (iblk V c 3 t) (iblk V c 4 t) (iblk V c 5 t) (iblk V c 6 t) f9 f10 f11 hc0 hc1 hc2 _)
      (coverB10 𝒱₀ c (grid3.coords t) _ _ _ _ _ _ _ _ _ _ _ _ _ _ _ _ _ _ _ _ _ _ _ _ _ _ _ _ _ _ _ _  hc0 hc1 hc2)
      (agreeB11 (Ix := Ix) (U := U) (Lvl := Lvl) 𝒱₀ c (grid3.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) (iblk V c 0 t) (iblk V c 1 t) (iblk V c 2 t) (iblk V c 3 t) (iblk V c 4 t) (iblk V c 5 t) (iblk V c 6 t) f9 f10 f11 hc0 hc1 hc2 _)
      (coverB11 𝒱₀ c (grid3.coords t) _ _ _ _ _ _ _ _ _ _ _ _ _ _ _ _ _ _ _ _ _ _ _ _ _ _ _ _ _ _ _ _  hc0 hc1 hc2)
    iapply ((runB (Ix := Ix) (U := U) (Lvl := Lvl) 𝒱₀ c (grid3.coords t) _ _ _ _ _ _ _ _ _ _ _ _ _ _ _ _ _ _ _ _ _ _  hc0 hc1 hc2 (iblk V c 0 t) (iblk V c 1 t) (iblk V c 2 t) (iblk V c 3 t) (iblk V c 4 t) (iblk V c 5 t) (iblk V c 6 t) f9 f10 f11).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [S9]; · iexact S9
    isplitl [S10]; · iexact S10
    isplitl [S11]; · iexact S11
    iintro ⟨H0, H1, H2, H3, H4, H5, H6, ⟨%g7, H7⟩, S9, S10, S11⟩
    isplitl [S9 S10 S11 HR]
    · iexists _; iexists _; iexists _
      isplitr
      swap
      · isplitl [S9]; · iexact S9
        isplitl [S10]; · iexact S10
        isplitl [S11]; · iexact S11
        iexact HR
      ipureintro
      exact ⟨fun h => absurd h (by omega), fun _ => hr⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro
    rw [outB, read_whole8]
    exact congr (congr (congrArg (outV (grid3.coords t) hc2) hr.1) hr.2.1) hr.2.2
  have hc1 : ¬ cond1 (grid3.coords t) := fun h => h1 ((hcond1 t).1 h)
  iintro ⟨⟨%f9, %f10, %f11, %hH, S9, S10, S11, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hr := hH.2 (by omega)
  iapply ((runC (Ix := Ix) (U := U) (Lvl := Lvl) 𝒱₀ c (grid3.coords t) _ _ _ _ _ _ _ _ _ _ _ _ _ _ _ _ _ _ _ _ _ _  hc0 hc1 hc2 (iblk V c 0 t) (iblk V c 1 t) (iblk V c 2 t) (iblk V c 3 t) (iblk V c 4 t) (iblk V c 5 t) (iblk V c 6 t) f9 f10 f11).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S9]; · iexact S9
  isplitl [S10]; · iexact S10
  isplitl [S11]; · iexact S11
  iintro ⟨H0, H1, H2, H3, H4, H5, H6, ⟨%g7, H7⟩, S9, S10, S11⟩
  isplitl [S9 S10 S11 HR]
  · iexists _; iexists _; iexists _
    isplitr
    swap
    · isplitl [S9]; · iexact S9
      isplitl [S10]; · iexact S10
      isplitl [S11]; · iexact S11
      iexact HR
    ipureintro
    exact ⟨fun h => absurd h (by omega), fun _ => hr⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  rw [outC, read_whole8]
  exact congr (congr (congrArg (outV (grid3.coords t) hc2) hr.1) hr.2.1) hr.2.2

/-- The body table's row at point `t`'s slots is the body. -/
theorem defs₀_row (t : Fin cfg3.N) :
    defs₀ (F := F) .tc cfg3.body (cfg3.bodyArgs t (cfg3.slots t)) = bodyAt3 t := by
  unfold defs₀; rw [Defs.onTc_tc]

/-- The body obligation, at every point. -/
theorem body_obligation (c : Dev nD) : BodyObligation (𝕕 c) (defs₀ (F := F)) 𝒱₀ ι Set.univ := fun t => by
  rw [bigSep_W3, bigSep_W3, defs₀_row]
  exact triple_restated (sound_body (U := U) (Lvl := Lvl) 𝒱₀ V D ι c t) rfl .rfl fun _ => .rfl

end Cert.KernelIdeal.Att3
-- ==== Proof.Run.lean ====
/-
  The run of @main: the host stretches and the six kernel regions chained from launch to end, so that every final state has the
  arguments as launched, every semaphore counter at zero and the result at the last valuation `U13`.
-/
module

public import proofs.«01_k».proof.Proof.Region
public import proofs.«01_k».proof.Proof.Att0
public import proofs.«01_k».proof.Proof.Att3
public import proofs.«01_k».proof.Proof.Gen.Own.KernelIdeal.K1.Frame
public import proofs.«01_k».proof.Proof.Gen.Own.KernelIdeal.K2.Frame
public import proofs.«01_k».proof.Proof.Gen.Own.KernelIdeal.K4.Frame
public import proofs.«01_k».proof.Proof.Gen.Own.KernelIdeal.K5.Frame

@[expose] public section

set_option maxRecDepth 1280

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The unscoped buffers' contents between items -/

/-- At launch. -/
abbrev U0 (c : Dev nD) : Valuation τ sig (Elt F) := fun b => m (c, b)
/-- After host stretch 0. -/
def U1 (c : Dev nD) : Valuation τ sig (Elt F) := StableHlo.after hostOps0 (U0 m c)
/-- What region 0 leaves in its output array. -/
def out0 (c : Dev nD) : Buf (Elt F) ((c : Thread nD τ).loc main_v16) :=
  (Att0.dat (fun c b => U1 m c b) (fun _ => 0) c : Dat τ (Elt F) Unit ℕ (UR sig nD τ) ℕ cfg0 c).arrAt 7 cfg0.N
/-- After region 0. -/
def U2 (c : Dev nD) : Valuation τ sig (Elt F) := Function.update (U1 m c) (Proc.devRef .tc main_v16) (out0 m c)
/-- After host stretch 1. -/
def U3 (c : Dev nD) : Valuation τ sig (Elt F) := StableHlo.after hostOps1 (U2 m c)
/-- What region 1 leaves in its output array. -/
def out1 (c : Dev nD) : Buf (Elt F) ((c : Thread nD τ).loc main_v28) :=
  (Own.K1.dat 𝒱₀ (fun c b => U3 m c b) (fun _ => 0) c : Dat τ (Elt F) Unit ℕ (UR sig nD τ) ℕ cfg1 c).arrAt 6 cfg1.N
/-- After region 1. -/
def U4 (c : Dev nD) : Valuation τ sig (Elt F) := Function.update (U3 m c) (Proc.devRef .tc main_v28) (out1 m c)
/-- After host stretch 2. -/
def U5 (c : Dev nD) : Valuation τ sig (Elt F) := StableHlo.after hostOps2 (U4 m c)
/-- What region 2 leaves in its output array. -/
def out2 (c : Dev nD) : Buf (Elt F) ((c : Thread nD τ).loc main_v45) :=
  (Own.K2.dat 𝒱₀ (fun c b => U5 m c b) (fun _ => 0) c : Dat τ (Elt F) Unit ℕ (UR sig nD τ) ℕ cfg2 c).arrAt 7 cfg2.N
/-- After region 2. -/
def U6 (c : Dev nD) : Valuation τ sig (Elt F) := Function.update (U5 m c) (Proc.devRef .tc main_v45) (out2 m c)
/-- After host stretch 3. -/
def U7 (c : Dev nD) : Valuation τ sig (Elt F) := StableHlo.after hostOps3 (U6 m c)
/-- What region 3 leaves in its output array. -/
def out3 (c : Dev nD) : Buf (Elt F) ((c : Thread nD τ).loc main_v61) :=
  (Att3.dat (fun c b => U7 m c b) (fun _ => 0) c : Dat τ (Elt F) Unit ℕ (UR sig nD τ) ℕ cfg3 c).arrAt 7 cfg3.N
/-- After region 3. -/
def U8 (c : Dev nD) : Valuation τ sig (Elt F) := Function.update (U7 m c) (Proc.devRef .tc main_v61) (out3 m c)
/-- After host stretch 4. -/
def U9 (c : Dev nD) : Valuation τ sig (Elt F) := StableHlo.after hostOps4 (U8 m c)
/-- What region 4 leaves in its output array. -/
def out4 (c : Dev nD) : Buf (Elt F) ((c : Thread nD τ).loc main_v73) :=
  (Own.K4.dat 𝒱₀ (fun c b => U9 m c b) (fun _ => 0) c : Dat τ (Elt F) Unit ℕ (UR sig nD τ) ℕ cfg4 c).arrAt 6 cfg4.N
/-- After region 4. -/
def U10 (c : Dev nD) : Valuation τ sig (Elt F) := Function.update (U9 m c) (Proc.devRef .tc main_v73) (out4 m c)
/-- After host stretch 5. -/
def U11 (c : Dev nD) : Valuation τ sig (Elt F) := StableHlo.after hostOps5 (U10 m c)
/-- What region 5 leaves in its output array. -/
def out5 (c : Dev nD) : Buf (Elt F) ((c : Thread nD τ).loc main_v92) :=
  (Own.K5.dat 𝒱₀ (fun c b => U11 m c b) (fun _ => 0) c : Dat τ (Elt F) Unit ℕ (UR sig nD τ) ℕ cfg5 c).arrAt 9 cfg5.N
/-- After region 5. -/
def U12 (c : Dev nD) : Valuation τ sig (Elt F) := Function.update (U11 m c) (Proc.devRef .tc main_v92) (out5 m c)
/-- At the end. -/
def U13 (c : Dev nD) : Valuation τ sig (Elt F) := StableHlo.after hostOps6 (U12 m c)

/-- Each region's proof data, entered at the valuation before it. -/
def pdats : (p : Fin 6) → (c : Dev nD) → Dat τ (Elt F) Unit ℕ (UR sig nD τ) ℕ (cfgs p) c
  | ⟨0, _⟩ => fun c => Att0.dat (fun c b => U1 m c b) (fun _ => 0) c
  | ⟨1, _⟩ => fun c => Own.K1.dat 𝒱₀ (fun c b => U3 m c b) (fun _ => 0) c
  | ⟨2, _⟩ => fun c => Own.K2.dat 𝒱₀ (fun c b => U5 m c b) (fun _ => 0) c
  | ⟨3, _⟩ => fun c => Att3.dat (fun c b => U7 m c b) (fun _ => 0) c
  | ⟨4, _⟩ => fun c => Own.K4.dat 𝒱₀ (fun c b => U9 m c b) (fun _ => 0) c
  | ⟨5, _⟩ => fun c => Own.K5.dat 𝒱₀ (fun c b => U11 m c b) (fun _ => 0) c

/-! ## The regions -/

theorem facts0 : Facts (pdats m) 0 7 (U1 m) where
  kit := launch0
  body c := Att0.body_obligation 𝒱₀ (fun c b => U1 m c b) (fun _ => 0) () c
  owed _ _ := rfl
  recorded _ := rfl
  share _ _ := rfl
  enter c := Att0.ΦK_in (fun c b => U1 m c b) c
  leave c := Att0.ΦK_out (fun c b => U1 m c b) c _
  arrays c w := Att0.A_eq (fun c b => U1 m c b) (fun _ => 0) c w
  inputs := by decide
  unscoped := by decide
theorem facts1 : Facts (pdats m) 1 6 (U3 m) where
  kit := launch1
  body c := Own.K1.body_obligation 𝒱₀ (fun c b => U3 m c b) (fun _ => 0) () c
  owed _ _ := rfl
  recorded _ := rfl
  share _ _ := rfl
  enter c := .rfl
  leave c := .rfl
  arrays c w := Own.K1.A_eq 𝒱₀ (fun c b => U3 m c b) (fun _ => 0) c w
  inputs := by decide
  unscoped := by decide
theorem facts2 : Facts (pdats m) 2 7 (U5 m) where
  kit := launch2
  body c := Own.K2.body_obligation 𝒱₀ (fun c b => U5 m c b) (fun _ => 0) () c
  owed _ _ := rfl
  recorded _ := rfl
  share _ _ := rfl
  enter c := .rfl
  leave c := .rfl
  arrays c w := Own.K2.A_eq 𝒱₀ (fun c b => U5 m c b) (fun _ => 0) c w
  inputs := by decide
  unscoped := by decide
theorem facts3 : Facts (pdats m) 3 7 (U7 m) where
  kit := launch3
  body c := Att3.body_obligation 𝒱₀ (fun c b => U7 m c b) (fun _ => 0) () c
  owed _ _ := rfl
  recorded _ := rfl
  share _ _ := rfl
  enter c := Att3.ΦK_in (fun c b => U7 m c b) c
  leave c := Att3.ΦK_out (fun c b => U7 m c b) c _
  arrays c w := Att3.A_eq (fun c b => U7 m c b) (fun _ => 0) c w
  inputs := by decide
  unscoped := by decide
theorem facts4 : Facts (pdats m) 4 6 (U9 m) where
  kit := launch4
  body c := Own.K4.body_obligation 𝒱₀ (fun c b => U9 m c b) (fun _ => 0) () c
  owed _ _ := rfl
  recorded _ := rfl
  share _ _ := rfl
  enter c := .rfl
  leave c := .rfl
  arrays c w := Own.K4.A_eq 𝒱₀ (fun c b => U9 m c b) (fun _ => 0) c w
  inputs := by decide
  unscoped := by decide
theorem facts5 : Facts (pdats m) 5 9 (U11 m) where
  kit := launch5
  body c := Own.K5.body_obligation 𝒱₀ (fun c b => U11 m c b) (fun _ => 0) () c
  owed _ _ := rfl
  recorded _ := rfl
  share _ _ := rfl
  enter c := .rfl
  leave c := .rfl
  arrays c w := Own.K5.A_eq 𝒱₀ (fun c b => U11 m c b) (fun _ => 0) c w
  inputs := by decide
  unscoped := by decide

/-! ## @main as segments -/

/-- Host stretch 0. -/
def host0 : HostSeg (Ix := Unit) (Name := ℕ) (U := UR sig nD τ) (Lvl := ℕ) (pcfgs (F := F)) defs₀ 𝒱₀ L₀ lv₀ :=
  HostSeg.ofOps _ _ _ _ _ (Pipeline.ucRefs τ sig) hostOps0 (fun op h => Pipeline.sub_ucRefs op ((List.forall_iff_forall_mem.mp hostOps0_sub) op h))
    (fun op h => (List.forall_iff_forall_mem.mp hostOps0_fresh) op h) (U0 m) side
/-- Host stretch 1. -/
def host1 : HostSeg (Ix := Unit) (Name := ℕ) (U := UR sig nD τ) (Lvl := ℕ) (pcfgs (F := F)) defs₀ 𝒱₀ L₀ lv₀ :=
  HostSeg.ofOps _ _ _ _ _ (Pipeline.ucRefs τ sig) hostOps1 (fun op h => Pipeline.sub_ucRefs op ((List.forall_iff_forall_mem.mp hostOps1_sub) op h))
    (fun op h => (List.forall_iff_forall_mem.mp hostOps1_fresh) op h) (U2 m) side
/-- Host stretch 2. -/
def host2 : HostSeg (Ix := Unit) (Name := ℕ) (U := UR sig nD τ) (Lvl := ℕ) (pcfgs (F := F)) defs₀ 𝒱₀ L₀ lv₀ :=
  HostSeg.ofOps _ _ _ _ _ (Pipeline.ucRefs τ sig) hostOps2 (fun op h => Pipeline.sub_ucRefs op ((List.forall_iff_forall_mem.mp hostOps2_sub) op h))
    (fun op h => (List.forall_iff_forall_mem.mp hostOps2_fresh) op h) (U4 m) side
/-- Host stretch 3. -/
def host3 : HostSeg (Ix := Unit) (Name := ℕ) (U := UR sig nD τ) (Lvl := ℕ) (pcfgs (F := F)) defs₀ 𝒱₀ L₀ lv₀ :=
  HostSeg.ofOps _ _ _ _ _ (Pipeline.ucRefs τ sig) hostOps3 (fun op h => Pipeline.sub_ucRefs op ((List.forall_iff_forall_mem.mp hostOps3_sub) op h))
    (fun op h => (List.forall_iff_forall_mem.mp hostOps3_fresh) op h) (U6 m) side
/-- Host stretch 4. -/
def host4 : HostSeg (Ix := Unit) (Name := ℕ) (U := UR sig nD τ) (Lvl := ℕ) (pcfgs (F := F)) defs₀ 𝒱₀ L₀ lv₀ :=
  HostSeg.ofOps _ _ _ _ _ (Pipeline.ucRefs τ sig) hostOps4 (fun op h => Pipeline.sub_ucRefs op ((List.forall_iff_forall_mem.mp hostOps4_sub) op h))
    (fun op h => (List.forall_iff_forall_mem.mp hostOps4_fresh) op h) (U8 m) side
/-- Host stretch 5. -/
def host5 : HostSeg (Ix := Unit) (Name := ℕ) (U := UR sig nD τ) (Lvl := ℕ) (pcfgs (F := F)) defs₀ 𝒱₀ L₀ lv₀ :=
  HostSeg.ofOps _ _ _ _ _ (Pipeline.ucRefs τ sig) hostOps5 (fun op h => Pipeline.sub_ucRefs op ((List.forall_iff_forall_mem.mp hostOps5_sub) op h))
    (fun op h => (List.forall_iff_forall_mem.mp hostOps5_fresh) op h) (U10 m) side
/-- Host stretch 6. -/
def host6 : HostSeg (Ix := Unit) (Name := ℕ) (U := UR sig nD τ) (Lvl := ℕ) (pcfgs (F := F)) defs₀ 𝒱₀ L₀ lv₀ :=
  HostSeg.ofOps _ _ _ _ _ (Pipeline.ucRefs τ sig) hostOps6 (fun op h => Pipeline.sub_ucRefs op ((List.forall_iff_forall_mem.mp hostOps6_sub) op h))
    (fun op h => (List.forall_iff_forall_mem.mp hostOps6_fresh) op h) (U12 m) side

abbrev segs : List (Seg (pcfgs (F := F)) adm (pdats m) () defs₀ 𝒱₀ L₀ lv₀) :=
  [.host (host0 m), .region (facts0 m).seg, .host (host1 m), .region (facts1 m).seg, .host (host2 m), .region (facts2 m).seg, .host (host3 m), .region (facts3 m).seg, .host (host4 m), .region (facts4 m).seg, .host (host5 m), .region (facts5 m).seg, .host (host6 m)]

/-! ## What no item writes -/

/-- The references an item writes. -/
abbrev written : List (Ref sig .tc) :=
  hostOps0_W ++ hostOps1_W ++ hostOps2_W ++ hostOps3_W ++ hostOps4_W ++ hostOps5_W ++ hostOps6_W ++ [main_v16, main_v28, main_v45, main_v61, main_v73, main_v92]

theorem U1_of (c : Dev nD) (r : Ref sig .tc) (h : r ∉ hostOps0_W) : U1 m c r = U0 m c r :=
  StableHlo.after_of_writes_sub hostOps0 _ hostOps0_writes h
theorem U2_of (c : Dev nD) (r : Ref sig .tc) (h : r ≠ main_v16) : U2 m c r = U1 m c r := by
  unfold U2; rw [Function.update_of_ne (StableHlo.devRef_ne_of_ne h)]
theorem U2_out (c : Dev nD) : U2 m c main_v16 = out0 m c := by
  unfold U2; rw [Function.update_self]
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : r ≠ main_v28) : U4 m c r = U3 m c r := by
  unfold U4; rw [Function.update_of_ne (StableHlo.devRef_ne_of_ne h)]
theorem U4_out (c : Dev nD) : U4 m c main_v28 = out1 m c := by
  unfold U4; rw [Function.update_self]
theorem U5_of (c : Dev nD) (r : Ref sig .tc) (h : r ∉ hostOps2_W) : U5 m c r = U4 m c r :=
  StableHlo.after_of_writes_sub hostOps2 _ hostOps2_writes h
theorem U6_of (c : Dev nD) (r : Ref sig .tc) (h : r ≠ main_v45) : U6 m c r = U5 m c r := by
  unfold U6; rw [Function.update_of_ne (StableHlo.devRef_ne_of_ne h)]
theorem U6_out (c : Dev nD) : U6 m c main_v45 = out2 m c := by
  unfold U6; rw [Function.update_self]
theorem U7_of (c : Dev nD) (r : Ref sig .tc) (h : r ∉ hostOps3_W) : U7 m c r = U6 m c r :=
  StableHlo.after_of_writes_sub hostOps3 _ hostOps3_writes h
theorem U8_of (c : Dev nD) (r : Ref sig .tc) (h : r ≠ main_v61) : U8 m c r = U7 m c r := by
  unfold U8; rw [Function.update_of_ne (StableHlo.devRef_ne_of_ne h)]
theorem U8_out (c : Dev nD) : U8 m c main_v61 = out3 m c := by
  unfold U8; rw [Function.update_self]
theorem U9_of (c : Dev nD) (r : Ref sig .tc) (h : r ∉ hostOps4_W) : U9 m c r = U8 m c r :=
  StableHlo.after_of_writes_sub hostOps4 _ hostOps4_writes h
theorem U10_of (c : Dev nD) (r : Ref sig .tc) (h : r ≠ main_v73) : U10 m c r = U9 m c r := by
  unfold U10; rw [Function.update_of_ne (StableHlo.devRef_ne_of_ne h)]
theorem U10_out (c : Dev nD) : U10 m c main_v73 = out4 m c := by
  unfold U10; rw [Function.update_self]
theorem U11_of (c : Dev nD) (r : Ref sig .tc) (h : r ∉ hostOps5_W) : U11 m c r = U10 m c r :=
  StableHlo.after_of_writes_sub hostOps5 _ hostOps5_writes h
theorem U12_of (c : Dev nD) (r : Ref sig .tc) (h : r ≠ main_v92) : U12 m c r = U11 m c r := by
  unfold U12; rw [Function.update_of_ne (StableHlo.devRef_ne_of_ne h)]
theorem U12_out (c : Dev nD) : U12 m c main_v92 = out5 m c := by
  unfold U12; rw [Function.update_self]
theorem U13_of' (c : Dev nD) (r : Ref sig .tc) (h : r ∉ hostOps6_W) : U13 m c r = U12 m c r :=
  StableHlo.after_of_writes_sub hostOps6 _ hostOps6_writes h

theorem U13_of (c : Dev nD) (r : Ref sig .tc) (h : r ∉ written) : U13 m c r = m ((c : Thread nD τ).loc r) := by
  simp only [written, List.mem_append, List.mem_cons, List.not_mem_nil, or_false, not_or] at h
  obtain ⟨⟨⟨⟨⟨⟨⟨h0, h1⟩, h2⟩, h3⟩, h4⟩, h5⟩, h6⟩, r0, r1, r2, r3, r4, r5⟩ := h
  exact (U13_of' m c r (by simpa using h6)).trans <| (U12_of m c r r5).trans <| (U11_of m c r (by simpa using h5)).trans <| (U10_of m c r r4).trans <|
    (U9_of m c r (by simpa using h4)).trans <| (U8_of m c r r3).trans <| (U7_of m c r (by simpa using h3)).trans <| (U6_of m c r r2).trans <| (U5_of m c r (by simpa using h2)).trans <|
    (U4_of m c r r1).trans <| (U3_of m c r (by simpa using h1)).trans <| (U2_of m c r r0).trans <| U1_of m c r (by simpa using h0)

/-- The arguments. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- What every final state satisfies. -/
def Final (c : Dev nD) (s : MemSt nD τ sig (Elt F)) : Prop :=
  (∀ r ∈ args, s.mem ((c : Thread nD τ).loc r) = m ((c : Thread nD τ).loc r)) ∧ s.mem ((c : Thread nD τ).loc main_v93) = U13 m c main_v93

theorem args_not_written : ∀ r ∈ args, r ∉ written ∧ (Proc.devRef .tc r : DevRef τ sig) ∈ Pipeline.ucRefs τ sig := fun r hr =>
  ⟨(by decide : ∀ r ∈ args, r ∉ written) r hr, Finset.mem_filter.mpr ⟨StableHlo.devRef_mem_tcRefs r,
    by have := (by decide : ∀ r ∈ args, ¬ (Proc.devRef .tc r : DevRef τ sig).isScoped) r hr; exact this⟩⟩

set_option backward.isDefEq.respectTransparency.types false in
/-- THE RUN: every weakly fair execution of @main terminates, nothing faulting, with the arguments as launched, the result at the
last valuation and every semaphore counter at zero. -/
theorem run (g : Dev nD → PrngReg) :
    θ_run defs (onTc (τ := τ) (main (F := F))) ⟨m, fun _ => 0, g⟩ (fun r => (∀ c : Dev nD, Final m c r.2) ∧ r.2.sem = fun _ => 0) := by
  refine Pipeline.θ_run_regions_kit_sems (pcfgs (F := F)) adm (pdats m) () cellOf_inj emb₁ defs₀ 𝒱₀ L₀ lv₀ m g main (segs m)
    (fun c Q => by
      rewrite [main_chain c, Seg.run_eq_chain,
        show (segs m).map Seg.prog = [
          StableHlo.seq hostOps0, Prog.lift (.customCall (Pipeline.entry 0) ()),
          StableHlo.seq hostOps1, Prog.lift (.customCall (Pipeline.entry 1) ()),
          StableHlo.seq hostOps2, Prog.lift (.customCall (Pipeline.entry 2) ()),
          StableHlo.seq hostOps3, Prog.lift (.customCall (Pipeline.entry 3) ()),
          StableHlo.seq hostOps4, Prog.lift (.customCall (Pipeline.entry 4) ()),
          StableHlo.seq hostOps5, Prog.lift (.customCall (Pipeline.entry 5) ()),
          StableHlo.seq hostOps6 ] from rfl]
      dsimp (config := { failIfUnchanged := false }) only
      exact .rfl)
    (by simp only [segs, Seg.pipes_host, Seg.pipes_region, Seg.pipes_nil]; decide) (O₀ := 0)
    (hL := fun g h => if_neg h) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (U0 m c) ∗ side c))
    (Tₙ := fun c => iprop(StableHlo.held (c : Thread nD τ) (Pipeline.ucRefs τ sig) (U13 m c) ∗ ∃ r, prngReg c r))
    (hch := ⟨fun _ => .rfl, (facts0 m).pre, (facts0 m).post, (facts1 m).pre, (facts1 m).post, (facts2 m).pre, (facts2 m).post, (facts3 m).pre, (facts3 m).post, (facts4 m).pre, (facts4 m).post, (facts5 m).pre, (facts5 m).post, fun _ => sep_assoc.2⟩)
    (hinit := ?_) (QY := Final m) (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L₀ lv₀ fun c => ?_
    rw [show unscopedBufs c (fun b => m ((c : Thread nD τ).loc b)) = StableHlo.held (c : Thread nD τ) (Pipeline.ucRefs τ sig) (U0 m c) from
      Pipeline.unscopedBufs_held (Ix := Unit) (Name := ℕ) (U := UR sig nD τ) (Lvl := ℕ) c (U0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨⟨Hh, -⟩, HSI⟩
    ihave Hr := (pointsTo_read_all (Pipeline.ucRefs τ sig) (fun b => ((c : Thread nD τ).1, b)) (U13 m c) s') $$ [Hh HSI]
    · isplitl [Hh] <;> iassumption
    icases Hr with ⟨%h, HSI⟩
    imodintro
    isplitr
    · ipureintro
      exact ⟨fun r hr => (h (Proc.devRef .tc r) (args_not_written r hr).2).trans (U13_of m c r (args_not_written r hr).1),
        h (Proc.devRef .tc main_v93) (Finset.mem_filter.mpr ⟨StableHlo.devRef_mem_tcRefs main_v93, by decide⟩)⟩
    · iexact HSI

end Cert.KernelIdeal.Run
-- ==== Proof.Words.lean ====
/-
  The frame of the kernel, for any reading of its floats, and from it the frame of the kernel over float words: that program and the
  idealized one are the same text, and only the reading differs.
-/
module

public import proofs.«01_k».proof.Defs
public import proofs.«01_k».proof.Proof.Gen.Kernel
public import proofs.«01_k».proof.Proof.Run

@[expose] public section

set_option maxRecDepth 16384

noncomputable section

namespace Cert.Words

open Idealize.ShloMosaic Idealize.ShloMosaic.TcCoe Idealize.SL.Sem

section
open Cert.KernelIdeal

/-- Whatever the floats are, the kernel ends with its arguments unchanged and every counter at zero. -/
theorem ends {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run (defs (F := F)) (onTc (τ := τ) (main (F := F))) ⟨m, fun _ => 0, ρ⟩).mono (fun r h => ⟨fun c => by
      have h := (h.1 c).1
      repeat' apply And.intro
      all_goals exact h _ (by decide), h.2⟩)
    (Run.run m ρ)

end

set_option maxHeartbeats 16000000 in
set_option smartUnfolding false in
/-- The kernel over float words ends with its arguments unchanged and every counter at zero. -/
theorem frame_Kernel : Cert.quiescent_Kernel := fun m ρ _ => ends (F := Bits) m ρ

end Cert.Words

end
-- ==== Proof.Spec.lean ====
/-
  The function that both programs compute, over the real numbers: an encoder layer (attention over sixteen heads, projection,
  layer norm, a feed-forward network, layer norm), and the laws by which extended reals that hold real numbers stay real.
-/
module

public import Idealize.ShloMosaic.Lib.Pointwise

@[expose] public section

noncomputable section

namespace Cert.Spec

open Idealize.ShloMosaic

/-! ## The layer -/

def mean (u : Fin 1024 → ℝ) : ℝ := (∑ k, u k) / 1024
def dev (u : Fin 1024 → ℝ) (c : Fin 1024) : ℝ := u c - mean u
def var (u : Fin 1024 → ℝ) : ℝ := (∑ k, dev u k * dev u k) / 1024

/-- The number that is added to the variance: the binary32 number nearest to `1e-5`. -/
def eps : ℝ := 10995116 / 1099511627776

def normed (u : Fin 1024 → ℝ) (c : Fin 1024) : ℝ := dev u c / Real.sqrt (var u + eps)
def ln (w b u : Fin 1024 → ℝ) (c : Fin 1024) : ℝ := normed u c * w c + b c

def lin {K N : ℕ} (x : Fin K → ℝ) (W : Fin K → Fin N → ℝ) (b : Fin N → ℝ) (c : Fin N) : ℝ := (∑ k, x k * W k c) + b c

/-- Column `h * 64 + d`: coordinate `d` of head `h`. -/
def lane (h : Fin 16) (d : Fin 64) : Fin 1024 := ⟨h * 64 + d, by omega⟩

def weight (q k : Fin 2048 → Fin 1024 → ℝ) (h : Fin 16) (r t : Fin 2048) : ℝ :=
  Real.exp ((∑ d, q r (lane h d) * k t (lane h d)) / 8)

def att (q k v : Fin 2048 → Fin 1024 → ℝ) (h : Fin 16) (r : Fin 2048) (e : Fin 64) : ℝ :=
  (∑ t, weight q k h r t * v t (lane h e)) / ∑ t, weight q k h r t

structure Weights where
  (wq wk wv wo : Fin 1024 → Fin 1024 → ℝ)
  (bq bk bv bo l1w l1b : Fin 1024 → ℝ)
  (w1 : Fin 1024 → Fin 4096 → ℝ) (b1 : Fin 4096 → ℝ)
  (w2 : Fin 4096 → Fin 1024 → ℝ) (b2 l2w l2b : Fin 1024 → ℝ)

/-- The heads' outputs, side by side. -/
def heads (W : Weights) (x : Fin 2048 → Fin 1024 → ℝ) (r : Fin 2048) (c : Fin 1024) : ℝ :=
  att (fun i => lin (x i) W.wq W.bq) (fun i => lin (x i) W.wk W.bk) (fun i => lin (x i) W.wv W.bv)
    ⟨c / 64, by omega⟩ r ⟨c % 64, by omega⟩

def proj (W : Weights) (a x : Fin 1024 → ℝ) : Fin 1024 → ℝ := ln W.l1w W.l1b fun c => x c + lin a W.wo W.bo c
/-- What the second layer norm is taken of. -/
def ffnSum (W : Weights) (x : Fin 1024 → ℝ) (c : Fin 1024) : ℝ := x c + lin (fun f => max (lin x W.w1 W.b1 f) 0) W.w2 W.b2 c
def ffn (W : Weights) (x : Fin 1024 → ℝ) : Fin 1024 → ℝ := ln W.l2w W.l2b (ffnSum W x)

def layer (W : Weights) (x : Fin 2048 → Fin 1024 → ℝ) (r : Fin 2048) : Fin 1024 → ℝ := ffn W (proj W (heads W x r) (x r))

/-! ## The arguments -/

abbrev Mat (a b c : ℕ) : Type := FVec Ideal ⟨3, ![a, b, c]⟩ .f32
abbrev Rows (a b : ℕ) : Type := FVec Ideal ⟨2, ![a, b]⟩ .f32

/-- The arguments of a run, in their order. -/
structure Args where
  x : Mat 1 2048 1024
  mask : IVec ⟨2, ![1, 2048]⟩ 32
  wq : Mat 2 1024 1024
  bq : Rows 2 1024
  wk : Mat 2 1024 1024
  bk : Rows 2 1024
  wv : Mat 2 1024 1024
  bv : Rows 2 1024
  wo : Mat 2 1024 1024
  bo : Rows 2 1024
  l1w : Rows 2 1024
  l1b : Rows 2 1024
  w1 : Mat 2 1024 4096
  b1 : Rows 2 4096
  w2 : Mat 2 4096 1024
  b2 : Rows 2 1024
  l2w : Rows 2 1024
  l2b : Rows 2 1024
  fw : FVec Ideal ⟨1, ![1024]⟩ .f32
  fb : FVec Ideal ⟨1, ![1024]⟩ .f32

/-- Every element holds a real number. -/
abbrev IsReal {α : Type} (f : α → EReal) : Prop := ∀ i, f i = ((f i).toReal : EReal)

/-- The mask is one everywhere, and every argument but the last layer norm's weights holds real numbers. -/
structure Args.Real (a : Args) : Prop where
  mask : ∀ i, a.mask i = 1#32
  x : IsReal a.x
  wq : IsReal a.wq
  bq : IsReal a.bq
  wk : IsReal a.wk
  bk : IsReal a.bk
  wv : IsReal a.wv
  bv : IsReal a.bv
  wo : IsReal a.wo
  bo : IsReal a.bo
  l1w : IsReal a.l1w
  l1b : IsReal a.l1b
  w1 : IsReal a.w1
  b1 : IsReal a.b1
  w2 : IsReal a.w2
  b2 : IsReal a.b2
  l2w : IsReal a.l2w
  l2b : IsReal a.l2b

/-- Layer `l`'s weights. -/
def Args.weights (a : Args) (l : Fin 2) : Weights where
  wq k c := (a.wq (ix3 l k c)).toReal
  wk k c := (a.wk (ix3 l k c)).toReal
  wv k c := (a.wv (ix3 l k c)).toReal
  wo k c := (a.wo (ix3 l k c)).toReal
  bq c := (a.bq (ix2 l c)).toReal
  bk c := (a.bk (ix2 l c)).toReal
  bv c := (a.bv (ix2 l c)).toReal
  bo c := (a.bo (ix2 l c)).toReal
  l1w c := (a.l1w (ix2 l c)).toReal
  l1b c := (a.l1b (ix2 l c)).toReal
  w1 k c := (a.w1 (ix3 l k c)).toReal
  b1 c := (a.b1 (ix2 l c)).toReal
  w2 k c := (a.w2 (ix3 l k c)).toReal
  b2 c := (a.b2 (ix2 l c)).toReal
  l2w c := (a.l2w (ix2 l c)).toReal
  l2b c := (a.l2b (ix2 l c)).toReal

def Args.input (a : Args) (r : Fin 2048) (c : Fin 1024) : ℝ := (a.x (ix3 0 r c)).toReal
def Args.mid (a : Args) : Fin 2048 → Fin 1024 → ℝ := layer (a.weights 0) a.input

/-- Two layers and a last layer norm. -/
def Args.result (a : Args) (r : Fin 2048) (c : Fin 1024) : EReal :=
  (normed (layer (a.weights 1) a.mid r) c : ℝ) * a.fw (ix1 c) + a.fb (ix1 c)

/-! ## Real numbers in the extended reals -/

theorem coe_sum {n : ℕ} (f : Fin n → ℝ) : (∑ i, (f i : EReal)) = ((∑ i, f i : ℝ) : EReal) := by
  induction (Finset.univ : Finset (Fin n)) using Finset.induction_on with
  | empty => simp
  | insert a s ha ih => rw [Finset.sum_insert ha, Finset.sum_insert ha, ih, EReal.coe_add]

theorem coe_div {b : ℝ} (h : b ≠ 0) (a : ℝ) : Ideal.div (a : EReal) (b : EReal) = ((a / b : ℝ) : EReal) := by
  rw [Ideal.div_coe h, ← EReal.coe_mul, mul_one_div]

theorem eps_pos : 0 < eps := by norm_num [eps]

theorem var_nonneg (u : Fin 1024 → ℝ) : 0 ≤ var u :=
  div_nonneg (Finset.sum_nonneg fun _ _ => mul_self_nonneg _) (by norm_num)

theorem var_eps_pos (u : Fin 1024 → ℝ) : 0 < var u + eps := add_pos_of_nonneg_of_pos (var_nonneg u) eps_pos

theorem sqrt_coe {r : ℝ} (h : 0 < r) : Ideal.sqrt (r : EReal) = (Real.sqrt r : EReal) := by
  rw [Ideal.sqrt_coe, if_neg h.not_gt]

theorem rsqrt_coe {r : ℝ} (h : 0 < r) : Ideal.rsqrt (r : EReal) = (((Real.sqrt r)⁻¹ : ℝ) : EReal) := by
  rw [Ideal.rsqrt_coe, if_neg h.not_gt, if_neg h.ne']

theorem word_1024 : Ideal.ofBits .f32 0x44800000#32 = ((1024 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_32 : Ideal.ofBits .f32 0x42000000#32 = ((32 : ℝ) : EReal) := by
  simp [Ideal.ofBits, Ideal.ieee, -EReal.coe_mul]; norm_num
theorem word_eps : Ideal.ofBits .f32 0x3727C5AC#32 = ((eps : ℝ) : EReal) := by
  simp [Ideal.ofBits, Ideal.ieee, -EReal.coe_mul, eps]; norm_num
theorem word_8192 : Ideal.ofBits .bf16 0x3900#16 = ((1 / 8192 : ℝ) : EReal) := by
  simp [Ideal.ofBits, Ideal.ieee, -EReal.coe_mul]; norm_num
theorem word_bot : Ideal.ofBits .f32 0xFF800000#32 = ⊥ := by
  simp [Ideal.ofBits, Ideal.ieee]

/-- The greatest of real numbers is real. -/
theorem exists_max {α : Type} [Fintype α] [Nonempty α] {f : α → EReal} (hf : ∀ a, ∃ x : ℝ, f a = x) :
    ∃ M : ℝ, Finset.univ.fold max (⊥ : EReal) f = M := by
  classical
  have h (s : Finset α) : s = ∅ ∨ ∃ M : ℝ, s.fold max (⊥ : EReal) f = M := by
    induction s using Finset.induction_on with
    | empty => exact .inl rfl
    | insert a s ha ih =>
      obtain ⟨x, hx⟩ := hf a
      refine .inr ?_
      rw [Finset.fold_insert ha, hx]
      rcases ih with rfl | ⟨M, hM⟩
      · exact ⟨x, by simp⟩
      · exact ⟨max x M, by rw [hM]; norm_cast⟩
  rcases h Finset.univ with h | h
  · exact absurd h (Finset.univ_nonempty (α := α)).ne_empty
  · exact h

/-- Taking any `M` from the scores changes no attention weight. -/
theorem softmax_shift {n : ℕ} (s v : Fin n → ℝ) (M : ℝ) :
    (∑ t, v t * (Real.exp (s t - M) / ∑ t', Real.exp (s t' - M))) = (∑ t, Real.exp (s t) * v t) / ∑ t, Real.exp (s t) := by
  have h (t : Fin n) : Real.exp (s t - M) = Real.exp (s t) * Real.exp (-M) := by rw [← Real.exp_add, sub_eq_add_neg]
  simp only [h, ← Finset.sum_mul, mul_div_mul_right _ _ (Real.exp_pos (-M)).ne']
  rw [Finset.sum_div]
  exact Finset.sum_congr rfl fun t _ => by ring

theorem sum_exp_pos {n : ℕ} [NeZero n] (s : Fin n → ℝ) : 0 < ∑ t, Real.exp (s t) :=
  Finset.sum_pos (fun _ _ => Real.exp_pos _) ⟨0, Finset.mem_univ _⟩

/-! ## The stages, of extended reals that hold real numbers -/

theorem lin_coe {K N : ℕ} {x : Fin K → EReal} {w : Fin K → EReal} {b : EReal} {X : Fin K → ℝ} {W : Fin K → Fin N → ℝ} {B : Fin N → ℝ}
    {c : Fin N} (hx : ∀ k, x k = X k) (hw : ∀ k, w k = W k c) (hb : b = B c) : (∑ k, x k * w k) + b = (lin X W B c : ℝ) := by
  simp only [hx, hw, hb, ← EReal.coe_mul, coe_sum, ← EReal.coe_add, lin]

theorem mean_coe {u : Fin 1024 → EReal} {U : Fin 1024 → ℝ} (h : ∀ k, u k = U k) :
    Ideal.div (∑ k, u k) (Ideal.ofBits .f32 0x44800000#32) = (mean U : ℝ) := by
  simp only [h, coe_sum, word_1024, coe_div (show (1024 : ℝ) ≠ 0 by norm_num), mean]

theorem dev_coe {u : Fin 1024 → EReal} {U : Fin 1024 → ℝ} (h : ∀ k, u k = U k) (c : Fin 1024) :
    u c - Ideal.div (∑ k, u k) (Ideal.ofBits .f32 0x44800000#32) = (dev U c : ℝ) := by
  rw [mean_coe h, h, ← EReal.coe_sub, dev]

theorem var_coe {d : Fin 1024 → EReal} {U : Fin 1024 → ℝ} (h : ∀ k, d k = (dev U k : ℝ)) :
    Ideal.div (∑ k, d k * d k) (Ideal.ofBits .f32 0x44800000#32) = (var U : ℝ) := by
  simp only [h, ← EReal.coe_mul, coe_sum, word_1024, coe_div (show (1024 : ℝ) ≠ 0 by norm_num), var]

/-- A layer norm that divides by the root. -/
theorem normed_div {d : Fin 1024 → EReal} {U : Fin 1024 → ℝ} (h : ∀ k, d k = (dev U k : ℝ)) (c : Fin 1024) :
    Ideal.div (d c) (Ideal.sqrt (Ideal.div (∑ k, d k * d k) (Ideal.ofBits .f32 0x44800000#32) + Ideal.ofBits .f32 0x3727C5AC#32))
      = (normed U c : ℝ) := by
  rw [var_coe h, h, word_eps, ← EReal.coe_add, sqrt_coe (var_eps_pos U), coe_div (Real.sqrt_pos.mpr (var_eps_pos U)).ne', normed]

/-- A layer norm that multiplies by the root's reciprocal. -/
theorem normed_mul {d : Fin 1024 → EReal} {U : Fin 1024 → ℝ} (h : ∀ k, d k = (dev U k : ℝ)) (c : Fin 1024) :
    d c * Ideal.rsqrt (Ideal.div (∑ k, d k * d k) (Ideal.ofBits .f32 0x44800000#32) + Ideal.ofBits .f32 0x3727C5AC#32)
      = (normed U c : ℝ) := by
  rw [var_coe h, h, word_eps, ← EReal.coe_add, rsqrt_coe (var_eps_pos U), ← EReal.coe_mul, normed, div_eq_mul_inv]

theorem affine_coe {n w b : EReal} {U W B : Fin 1024 → ℝ} {c : Fin 1024} (hn : n = (normed U c : ℝ)) (hw : w = W c) (hb : b = B c) :
    n * w + b = (ln W B U c : ℝ) := by
  rw [hn, hw, hb, ← EReal.coe_mul, ← EReal.coe_add, ln]

theorem max_coe {y : EReal} {Y : ℝ} (h : y = Y) : max y 0 = (max Y 0 : ℝ) := by
  rw [h]; norm_cast

end Cert.Spec

end
-- ==== Proof.Pay.lean ====
/-
  What the bodies of the projection and feed-forward calls store, of blocks that hold real numbers.
-/
module

public import proofs.«01_k».proof.Proof.Gen.KernelIdeal.Skeleton
public import proofs.«01_k».proof.Proof.Spec

@[expose] public section

set_option maxRecDepth 16384

noncomputable section

namespace Cert.KernelIdeal.Pay

open Idealize.ShloMosaic Cert.KernelIdeal Cert.KernelIdeal.Gen Cert.KernelIdeal.Facts

abbrev V (s : Shape) (φ : FTy) : Type := FVec Ideal s φ

/-! ## The feed-forward calls -/

/-- Row `r` of what the second layer norm is taken of. -/
def ffnRow (x : V S512x1024 .bf16) (w1 : V S1024x4096 .f32) (b1 : V S1x4096 .f32) (w2 : V S4096x1024 .f32) (b2 : V S1x1024 .f32) (r : Fin 512)
    (k : Fin 1024) : EReal :=
  x (ix2 r k) + ((∑ f : Fin 4096, max ((∑ k : Fin 1024, x (ix2 r k) * w1 (ix2 k f)) + b1 (ix2 0 f)) 0 * w2 (ix2 f k)) + b2 (ix2 0 k))

theorem k2_pay4_apply (x : V S512x1024 .bf16) (w1 : V S1024x4096 .f32) (b1 : V S1x4096 .f32) (w2 : V S4096x1024 .f32) (b2 : V S1x1024 .f32)
    (r : Fin 512) (c : Fin 1024) :
    k2_pay4 (F := Ideal) x w1 b1 w2 b2 (ix2 r c)
      = ffnRow x w1 b1 w2 b2 r c - Ideal.div (∑ k : Fin 1024, ffnRow x w1 b1 w2 b2 r k) (Ideal.ofBits .f32 0x44800000#32) := by
  pointwise [k2_pay4, ffnRow]

theorem k2_pay5_apply (x : V S512x1024 .bf16) (w1 : V S1024x4096 .f32) (b1 : V S1x4096 .f32) (w2 : V S4096x1024 .f32) (b2 : V S1x1024 .f32)
    (r : Fin 512) :
    k2_pay5 (F := Ideal) x w1 b1 w2 b2 (ix2 r 0) = Ideal.div (∑ k : Fin 1024, k2_pay4 (F := Ideal) x w1 b1 w2 b2 (ix2 r k) * k2_pay4 (F := Ideal) x w1 b1 w2 b2 (ix2 r k))
      (Ideal.ofBits .f32 0x44800000#32) := by
  pointwise [k2_pay5]

theorem k2_pay1_apply (w b : V S1x1024 .f32) (d : V S512x1024 .f32) (s : V S512x1 .f32) (r : Fin 512) (c : Fin 1024) :
    k2_pay1 (F := Ideal) w b d s (ix2 r c)
      = d (ix2 r c) * Ideal.rsqrt (s (ix2 r 0) + Ideal.ofBits .f32 0x3727C5AC#32) * w (ix2 0 c) + b (ix2 0 c) := by
  pointwise [k2_pay1]

theorem k5_pay1_apply (w b : V S1x1024 .f32) (d : V S512x1024 .f32) (s : V S512x1 .f32) (fw fb : V S1x1024 .f32) (r : Fin 512) (c : Fin 1024) :
    let y (k : Fin 1024) : EReal := d (ix2 r k) * Ideal.rsqrt (s (ix2 r 0) + Ideal.ofBits .f32 0x3727C5AC#32) * w (ix2 0 k) + b (ix2 0 k)
    let e (k : Fin 1024) : EReal := y k - Ideal.div (∑ k : Fin 1024, y k) (Ideal.ofBits .f32 0x44800000#32)
    k5_pay1 (F := Ideal) w b d s fw fb (ix2 r c) = e c * Ideal.rsqrt (Ideal.div (∑ k : Fin 1024, e k * e k) (Ideal.ofBits .f32 0x44800000#32)
      + Ideal.ofBits .f32 0x3727C5AC#32) * fw (ix2 0 c) + fb (ix2 0 c) := by
  pointwise [k5_pay1]

/-- The operands of a feed-forward call hold real numbers. -/
structure FfnReal (W : Spec.Weights) (X : Fin 512 → Fin 1024 → ℝ) (x : V S512x1024 .bf16) (w1 : V S1024x4096 .f32) (b1 : V S1x4096 .f32)
    (w2 : V S4096x1024 .f32) (b2 lw lb : V S1x1024 .f32) : Prop where
  x : ∀ r c, x (ix2 r c) = X r c
  w1 : ∀ k f, w1 (ix2 k f) = W.w1 k f
  b1 : ∀ f, b1 (ix2 0 f) = W.b1 f
  w2 : ∀ f c, w2 (ix2 f c) = W.w2 f c
  b2 : ∀ c, b2 (ix2 0 c) = W.b2 c
  lw : ∀ c, lw (ix2 0 c) = W.l2w c
  lb : ∀ c, lb (ix2 0 c) = W.l2b c

section
variable {W : Spec.Weights} {X : Fin 512 → Fin 1024 → ℝ} {x : V S512x1024 .bf16} {w1 : V S1024x4096 .f32} {b1 : V S1x4096 .f32}
  {w2 : V S4096x1024 .f32} {b2 lw lb : V S1x1024 .f32}

theorem FfnReal.dev (h : FfnReal W X x w1 b1 w2 b2 lw lb) (r : Fin 512) (c : Fin 1024) :
    k2_pay4 (F := Ideal) x w1 b1 w2 b2 (ix2 r c) = (Spec.dev (Spec.ffnSum W (X r)) c : ℝ) := by
  refine (k2_pay4_apply x w1 b1 w2 b2 r c).trans (Spec.dev_coe (fun k => ?_) c)
  rw [ffnRow, Spec.lin_coe (c := k) (fun f => Spec.max_coe (Spec.lin_coe (h.x r) (fun k => h.w1 k f) (h.b1 f))) (fun f => h.w2 f k) (h.b2 k), h.x,
    ← EReal.coe_add, Spec.ffnSum]

theorem FfnReal.out (h : FfnReal W X x w1 b1 w2 b2 lw lb) (r : Fin 512) (c : Fin 1024) :
    k2_pay1 (F := Ideal) (k2_pay2 lw) (k2_pay3 (F := Ideal) lb) (k2_pay4 (F := Ideal) x w1 b1 w2 b2) (k2_pay5 (F := Ideal) x w1 b1 w2 b2) (ix2 r c) = (Spec.ffn W (X r) c : ℝ) := by
  rw [k2_pay1_apply, k2_pay5_apply]
  exact Spec.affine_coe (Spec.normed_mul (h.dev r) c) (by pointwise [k2_pay2, h.lw]) (by pointwise [k2_pay3, h.lb])

/-- The last call takes one more layer norm, whose weights are any extended reals. -/
theorem FfnReal.outf (h : FfnReal W X x w1 b1 w2 b2 lw lb) (fw fb : V S1x1024 .f32) (r : Fin 512) (c : Fin 1024) :
    k5_pay1 (F := Ideal) (k5_pay2 lw) (k5_pay3 (F := Ideal) lb) (k5_pay4 (F := Ideal) x w1 b1 w2 b2) (k5_pay5 (F := Ideal) x w1 b1 w2 b2) fw fb (ix2 r c)
      = (Spec.normed (Spec.ffn W (X r)) c : ℝ) * fw (ix2 0 c) + fb (ix2 0 c) := by
  have hy (k : Fin 1024) := h.out r k
  simp only [k2_pay1_apply] at hy
  refine (k5_pay1_apply _ _ _ _ _ _ r c).trans ?_
  exact congrArg (· * _ + _) (Spec.normed_mul (fun k => Spec.dev_coe (u := fun k => _) hy k) c)

end

end Cert.KernelIdeal.Pay

end
-- ==== Proof.PayAtt.lean ====
/-
  What the body of an attention call stores at a point that attends, of scratch buffers that hold real numbers.
-/
module

public import proofs.«01_k».proof.Proof.AttVal0
public import proofs.«01_k».proof.Proof.Pay

@[expose] public section

set_option maxRecDepth 16384

noncomputable section

namespace Cert.KernelIdeal.Pay

open Idealize.ShloMosaic Cert.KernelIdeal Cert.KernelIdeal.Gen Cert.KernelIdeal.Facts

/-! ## The projected halves -/

theorem k0_pay13_apply (x : V S2048x1024 .f32) (w : V S1024x512 .f32) (b : V S1x512 .f32) (r : Fin 2048) (c : Fin 512) :
    k0_pay13 (F := Ideal) x w b (ix2 r c) = ((∑ k : Fin 1024, x (ix2 r k) * w (ix2 k c)) + b (ix2 0 c)) * Ideal.ofBits .f32 0x42000000#32 := by
  pointwise [k0_pay13, k0_pay12]

/-- A half holds the projections, times 32. -/
theorem half_real {x : V S2048x1024 .f32} {w : V S1024x512 .f32} {b : V S1x512 .f32} {X : Fin 2048 → Fin 1024 → ℝ}
    {W : Fin 1024 → Fin 1024 → ℝ} {B : Fin 1024 → ℝ} (g : Fin 512 → Fin 1024) (hx : ∀ r k, x (ix2 r k) = (X r k : EReal))
    (hw : ∀ k c, w (ix2 k c) = (W k (g c) : EReal)) (hb : ∀ c, b (ix2 0 c) = (B (g c) : EReal)) (r : Fin 2048) (c : Fin 512) :
    k0_pay13 (F := Ideal) x w b (ix2 r c) = (32 * Spec.lin (X r) W B (g c) : ℝ) := by
  rw [k0_pay13_apply, Spec.lin_coe (W := W) (B := B) (c := g c) (hx r) (fun k => hw k c) (hb c), Spec.word_32, ← EReal.coe_mul, mul_comm]

/-! ## One head -/

/-- What 512 of the keys add to column `e` of row `r`. -/
def chunk (q : V S1x2048x64 .fp8e4m3) (k : V S1x512x64 .fp8e4m3) (v : V S1x512x128 .fp8e4m3) (r : Fin 2048) (e : Fin 128) : EReal :=
  ∑ t : Fin 512, Ideal.exp ((∑ d : Fin 64, q (ix3 0 r d) * k (ix3 0 t d)) * Ideal.ofBits .bf16 0x3900#16) * v (ix3 0 t e)

def four (q : V S1x2048x64 .fp8e4m3) (k0 : V S1x512x64 .fp8e4m3) (v0 : V S1x512x128 .fp8e4m3) (k1 : V S1x512x64 .fp8e4m3)
    (v1 : V S1x512x128 .fp8e4m3) (k2 : V S1x512x64 .fp8e4m3) (v2 : V S1x512x128 .fp8e4m3) (k3 : V S1x512x64 .fp8e4m3)
    (v3 : V S1x512x128 .fp8e4m3) (r : Fin 2048) (e : Fin 128) : EReal :=
  chunk q k0 v0 r e + chunk q k1 v1 r e + chunk q k2 v2 r e + chunk q k3 v3 r e

theorem k0_pay11_apply (q : V S1x2048x64 .fp8e4m3) (k0 : V S1x512x64 .fp8e4m3) (v0 : V S1x512x128 .fp8e4m3) (k1 : V S1x512x64 .fp8e4m3)
    (v1 : V S1x512x128 .fp8e4m3) (k2 : V S1x512x64 .fp8e4m3) (v2 : V S1x512x128 .fp8e4m3) (k3 : V S1x512x64 .fp8e4m3)
    (v3 : V S1x512x128 .fp8e4m3) (r : Fin 2048) (e : Fin 64) :
    k0_pay11 (F := Ideal) (k0_pay82 q) (k0_pay83 (F := Ideal) q k0 v0 k1 v1) (k0_pay84 (F := Ideal) q k2) (Scalar.ofBits .bf16 0x3900#16) v2 k3 v3 (ix3 0 r e)
      = Ideal.div (four q k0 v0 k1 v1 k2 v2 k3 v3 r ⟨e, by omega⟩)
        (four q k0 v0 k1 v1 k2 v2 k3 v3 r 64 * Ideal.ofBits .f32 0x42000000#32) := by
  pointwise [k0_pay11, k0_pay82, k0_pay83, k0_pay84, four, chunk]

theorem chunk_real {q : V S1x2048x64 .fp8e4m3} {k : V S1x512x64 .fp8e4m3} {v : V S1x512x128 .fp8e4m3} {Q K : Fin 2048 → Fin 64 → ℝ}
    {U : Fin 2048 → ℝ} {r : Fin 2048} {e : Fin 128} (g : Fin 512 → Fin 2048) (hq : ∀ d, q (ix3 0 r d) = (32 * Q r d : ℝ))
    (hk : ∀ t d, k (ix3 0 t d) = (32 * K (g t) d : ℝ)) (hv : ∀ t, v (ix3 0 t e) = (U (g t) : ℝ)) :
    chunk q k v r e = ∑ t : Fin 512, ((Real.exp ((∑ d, Q r d * K (g t) d) / 8) * U (g t) : ℝ) : EReal) := by
  refine Finset.sum_congr rfl fun t _ => ?_
  have hs : (∑ d : Fin 64, 32 * Q r d * (32 * K (g t) d)) * (1 / 8192) = (∑ d, Q r d * K (g t) d) / 8 := by
    rw [show (∑ d : Fin 64, 32 * Q r d * (32 * K (g t) d)) = 1024 * ∑ d, Q r d * K (g t) d by
      rw [Finset.mul_sum]; exact Finset.sum_congr rfl fun d _ => by ring]
    ring
  simp only [hq, hk, hv, ← EReal.coe_mul, Spec.coe_sum, Spec.word_8192, Ideal.exp_coe, hs]

theorem sum_four (f : Fin 2048 → EReal) :
    ∑ t, f t = (∑ t : Fin 512, f ⟨t, by omega⟩) + (∑ t : Fin 512, f ⟨512 + t, by omega⟩) + (∑ t : Fin 512, f ⟨1024 + t, by omega⟩)
      + ∑ t : Fin 512, f ⟨1536 + t, by omega⟩ :=
  (Fin.sum_univ_add (a := 1536) (b := 512) f).trans (congrArg (· + _)
    ((Fin.sum_univ_add (a := 1024) (b := 512) _).trans (congrArg (· + _) (Fin.sum_univ_add (a := 512) (b := 512) _))))

/-- A read at head `n` from row `o` on. -/
theorem read_head {d0 d1 d2 m1 : ℕ} (off : Fin 3 → ℕ) (n : Fin d0) (o : ℕ) (ho : off = ![(n : ℕ), o, 0])
    (inb : ∀ a, off a + (![1, m1, d2] : Fin 3 → ℕ) a ≤ (⟨3, ![d0, d1, d2]⟩ : Shape).size a) (r : Fin m1) (d : Fin d2) (h : o + r < d1) :
    (Rect.unit (s := ⟨3, ![d0, d1, d2]⟩) off ![1, m1, d2] inb).toLoadRect.idx (ix3 0 r d) = ix3 n ⟨o + r, h⟩ d := by
  subst ho
  refine funext fun a => Fin.ext ?_
  fin_cases a
  · show (n : ℕ) + 1 * 0 = n
    omega
  · show o + 1 * (r : ℕ) = o + r
    omega
  · show 0 + 1 * (d : ℕ) = d
    omega

/-- Where a point that attends head `n` reads. -/
structure Reads (i : grid0.Coords) (n : Fin 16) : Prop where
  o1 : k0_off1 i = ![(n : ℕ), 0, 0]
  o2 : k0_off2 i = ![(n : ℕ), 0, 0]
  o3 : k0_off3 i = ![(n : ℕ), 0, 0]
  o4 : k0_off4 i = ![(n : ℕ), 512, 0]
  o5 : k0_off5 i = ![(n : ℕ), 512, 0]
  o6 : k0_off6 i = ![(n : ℕ), 1024, 0]
  o7 : k0_off7 i = ![(n : ℕ), 1024, 0]
  o8 : k0_off8 i = ![(n : ℕ), 1536, 0]
  o9 : k0_off9 i = ![(n : ℕ), 1536, 0]

/-- Scratch buffers that hold real projections: queries and keys times 32, values times 32 and then ones. -/
structure Scratch (n : Fin 16) (Q K U : Fin 2048 → Fin 64 → ℝ) (q9 q10 : V S16x2048x64 .fp8e4m3) (q11 : V S16x2048x128 .fp8e4m3) : Prop where
  q : ∀ r d, q9 (ix3 n r d) = (32 * Q r d : ℝ)
  k : ∀ t d, q10 (ix3 n t d) = (32 * K t d : ℝ)
  v : ∀ t (e : Fin 64), q11 (ix3 n t ⟨e, by omega⟩) = (32 * U t e : ℝ)
  one : ∀ t, q11 (ix3 n t 64) = (1 : ℝ)

/-- The four parts are a sum over all the keys. -/
theorem four_real {q : V S1x2048x64 .fp8e4m3} {k0 k1 k2 k3 : V S1x512x64 .fp8e4m3} {v0 v1 v2 v3 : V S1x512x128 .fp8e4m3}
    {Q K : Fin 2048 → Fin 64 → ℝ} {U : Fin 2048 → ℝ} {r : Fin 2048} {e : Fin 128} (hq : ∀ d, q (ix3 0 r d) = (32 * Q r d : ℝ))
    (hk0 : ∀ t d, k0 (ix3 0 t d) = (32 * K ⟨t, by omega⟩ d : ℝ)) (hv0 : ∀ t, v0 (ix3 0 t e) = (U ⟨t, by omega⟩ : ℝ))
    (hk1 : ∀ t d, k1 (ix3 0 t d) = (32 * K ⟨512 + t, by omega⟩ d : ℝ)) (hv1 : ∀ t, v1 (ix3 0 t e) = (U ⟨512 + t, by omega⟩ : ℝ))
    (hk2 : ∀ t d, k2 (ix3 0 t d) = (32 * K ⟨1024 + t, by omega⟩ d : ℝ)) (hv2 : ∀ t, v2 (ix3 0 t e) = (U ⟨1024 + t, by omega⟩ : ℝ))
    (hk3 : ∀ t d, k3 (ix3 0 t d) = (32 * K ⟨1536 + t, by omega⟩ d : ℝ)) (hv3 : ∀ t, v3 (ix3 0 t e) = (U ⟨1536 + t, by omega⟩ : ℝ)) :
    four q k0 v0 k1 v1 k2 v2 k3 v3 r e = ((∑ t, Real.exp ((∑ d, Q r d * K t d) / 8) * U t : ℝ) : EReal) := by
  rw [← Spec.coe_sum, sum_four, four, chunk_real _ hq hk0 hv0, chunk_real _ hq hk1 hv1, chunk_real _ hq hk2 hv2, chunk_real _ hq hk3 hv3]

/-- A head's stored block: the weighted values over the sum of the weights. -/
theorem outV_real {i : grid0.Coords} (h3 : Att0.cond2 i) {n : Fin 16} (ho : Reads i n) {Q K U : Fin 2048 → Fin 64 → ℝ}
    {q9 q10 : V S16x2048x64 .fp8e4m3} {q11 : V S16x2048x128 .fp8e4m3} (hs : Scratch n Q K U q9 q10 q11) (r : Fin 2048) (e : Fin 64) :
    Att0.outV (F := Ideal) i h3 q9 q10 q11 (ix3 0 r e)
      = (((∑ t, Real.exp ((∑ d, Q r d * K t d) / 8) * U t e) / ∑ t, Real.exp ((∑ d, Q r d * K t d) / 8) : ℝ) : EReal) := by
  have hq (d : Fin 64) : q9 ((Rect.unit (s := S16x2048x64) (k0_off1 i) S1x2048x64.size (k0_off1_inb i h3)).toLoadRect.idx (ix3 0 r d)) = (32 * Q r d : ℝ) :=
    (congrArg q9 (read_head _ n 0 ho.o1 _ r d (by omega))).trans ((congrArg (fun r => q9 (ix3 n r d)) (Fin.ext (Nat.zero_add _))).trans (hs.q r d))
  have hk (off : Fin 3 → ℕ) (o : ℕ) (ho : off = ![(n : ℕ), o, 0]) (inb) (t : Fin 512) (d : Fin 64) (h : o + t < 2048) :
      q10 ((Rect.unit (s := S16x2048x64) off S1x512x64.size inb).toLoadRect.idx (ix3 0 t d)) = (32 * K ⟨o + t, h⟩ d : ℝ) :=
    (congrArg q10 (read_head off n o ho inb t d h)).trans (hs.k _ d)
  have hv (e : Fin 128) (u : Fin 2048 → ℝ) (hu : ∀ t, q11 (ix3 n t e) = (u t : EReal)) (off : Fin 3 → ℕ) (o : ℕ) (ho : off = ![(n : ℕ), o, 0]) (inb)
      (t : Fin 512) (h : o + t < 2048) :
      q11 ((Rect.unit (s := S16x2048x128) off S1x512x128.size inb).toLoadRect.idx (ix3 0 t e)) = (u ⟨o + t, h⟩ : ℝ) :=
    (congrArg q11 (read_head off n o ho inb t e h)).trans (hu _)
  let rk (off : Fin 3 → ℕ) (inb) : V S1x512x64 .fp8e4m3 := fun x => q10 ((Rect.unit (s := S16x2048x64) off S1x512x64.size inb).toLoadRect.idx x)
  let rv (off : Fin 3 → ℕ) (inb) : V S1x512x128 .fp8e4m3 := fun x => q11 ((Rect.unit (s := S16x2048x128) off S1x512x128.size inb).toLoadRect.idx x)
  have z (t : Fin 512) : (⟨t, by omega⟩ : Fin 2048) = ⟨0 + t, by omega⟩ := Fin.ext (Nat.zero_add _).symm
  unfold Att0.outV
  refine (k0_pay11_apply _ _ _ _ _ _ _ _ _ r e).trans ?_
  have key (e : Fin 128) (u : Fin 2048 → ℝ) (hu : ∀ t, q11 (ix3 n t e) = (u t : EReal)) :=
    four_real (Q := Q) (K := K) (U := u) (r := r)
      (q := fun x => q9 ((Rect.unit (s := S16x2048x64) (k0_off1 i) S1x2048x64.size (k0_off1_inb i h3)).toLoadRect.idx x)) (k0 := rk _ (k0_off2_inb i h3)) (k1 := rk _ (k0_off4_inb i h3)) (k2 := rk _ (k0_off6_inb i h3)) (k3 := rk _ (k0_off8_inb i h3))
      (v0 := rv _ (k0_off3_inb i h3)) (v1 := rv _ (k0_off5_inb i h3)) (v2 := rv _ (k0_off7_inb i h3)) (v3 := rv _ (k0_off9_inb i h3))
      hq (fun t d => (z t).symm ▸ hk _ 0 ho.o2 (k0_off2_inb i h3) t d (by omega))
      (fun t => (z t).symm ▸ hv e u hu _ 0 ho.o3 (k0_off3_inb i h3) t (by omega))
      (fun t d => hk _ 512 ho.o4 (k0_off4_inb i h3) t d (by omega)) (fun t => hv e u hu _ 512 ho.o5 (k0_off5_inb i h3) t (by omega))
      (fun t d => hk _ 1024 ho.o6 (k0_off6_inb i h3) t d (by omega)) (fun t => hv e u hu _ 1024 ho.o7 (k0_off7_inb i h3) t (by omega))
      (fun t d => hk _ 1536 ho.o8 (k0_off8_inb i h3) t d (by omega)) (fun t => hv e u hu _ 1536 ho.o9 (k0_off9_inb i h3) t (by omega))
  refine (congrArg₂ (fun a b => Ideal.div a (b * _)) (key _ _ fun t => hs.v t e) (key _ (fun _ => 1) hs.one)).trans ?_
  have hpos := Spec.sum_exp_pos (fun t : Fin 2048 => (∑ d, Q r d * K t d) / 8)
  rw [Spec.word_32, ← EReal.coe_mul, Spec.coe_div]
  · congr 1
    simp only [mul_one]
    rw [Finset.sum_congr rfl fun t _ => show Real.exp ((∑ d, Q r d * K t d) / 8) * (32 * U t e) = 32 * (Real.exp ((∑ d, Q r d * K t d) / 8) * U t e) by ring,
      ← Finset.mul_sum, mul_comm _ (32 : ℝ), mul_div_mul_left _ _ (by norm_num)]
  · simpa only [mul_one] using (mul_pos hpos (by norm_num : (0 : ℝ) < 32)).ne'

/-! ## The scratch buffers -/

/-- Column `c` of half `t` of a projection. -/
def col (t : ℕ) (c : Fin 512) : Fin 1024 := ⟨min t 1 * 512 + c, by omega⟩

/-- The two halves of a projection, times 32. -/
structure Halves (f : Fin 2048 → Fin 1024 → ℝ) (y0 y1 : V S2048x512 .f32) : Prop where
  lo : ∀ r c, y0 (ix2 r c) = (32 * f r (col 0 c) : ℝ)
  hi : ∀ r c, y1 (ix2 r c) = (32 * f r (col 1 c) : ℝ)

theorem lanes_real {f : Fin 2048 → Fin 1024 → ℝ} {y0 y1 : V S2048x512 .f32} (h : Halves f y0 y1) (n : Fin 16) (r : Fin 2048) (d : Fin 64) :
    Lanes.lanes (F := Ideal) y0 y1 (ix3 n r d) = (32 * f r (Spec.lane n d) : ℝ) := by
  by_cases hn : (n : ℕ) < 8
  · refine (dif_pos hn).trans ((h.lo r ⟨64 * n + d, by omega⟩).trans ?_)
    exact congrArg (fun c => ((32 * f r c : ℝ) : EReal)) (Fin.ext (show 0 * 512 + (64 * (n : ℕ) + d) = n * 64 + d by omega))
  · refine (dif_neg hn).trans ((h.hi r ⟨64 * (n - 8) + d, by omega⟩).trans ?_)
    exact congrArg (fun c => ((32 * f r c : ℝ) : EReal)) (Fin.ext (show 1 * 512 + (64 * ((n : ℕ) - 8) + d) = n * 64 + d by omega))

theorem word_one : Ideal.ofBits .fp8e4m3 0x38#8 = ((1 : ℝ) : EReal) := by
  simp [Ideal.ofBits, Ideal.e4m3fn, Ideal.ieee, -EReal.coe_mul]; norm_num

theorem scratch_real {fq fk fv : Fin 2048 → Fin 1024 → ℝ} {a0 a1 b0 b1 c0 c1 : V S2048x512 .f32} (hq : Halves fq a0 a1) (hk : Halves fk b0 b1)
    (hv : Halves fv c0 c1) (n : Fin 16) :
    Scratch n (fun r d => fq r (Spec.lane n d)) (fun r d => fk r (Spec.lane n d)) (fun r d => fv r (Spec.lane n d))
      (Lanes.lanes (F := Ideal) a0 a1) (Lanes.lanes (F := Ideal) b0 b1) (Lanes.lanesOne (F := Ideal) c0 c1) where
  q := lanes_real hq n
  k := lanes_real hk n
  v t e := (dif_pos e.isLt).trans (lanes_real hv n t e)
  one t := (dif_neg (show ¬ 64 < 64 by decide)).trans word_one

/-- A head's stored block, of the halves of the three projections. -/
theorem att_real {i : grid0.Coords} (h3 : Att0.cond2 i) {n : Fin 16} (ho : Reads i n) {fq fk fv : Fin 2048 → Fin 1024 → ℝ}
    {a0 a1 b0 b1 c0 c1 : V S2048x512 .f32} (hq : Halves fq a0 a1) (hk : Halves fk b0 b1) (hv : Halves fv c0 c1) (r : Fin 2048) (e : Fin 64) :
    Att0.outV (F := Ideal) i h3 (Lanes.lanes a0 a1) (Lanes.lanes b0 b1) (Lanes.lanesOne c0 c1) (ix3 0 r e)
      = (Spec.att fq fk fv n r e : ℝ) :=
  outV_real h3 ho (scratch_real hq hk hv n) r e

/-- The head that a point attends. -/
def head (t : ℕ) (ht : t < 17) (h : 1 ≤ t) : Fin 16 := ⟨t - 1, by omega⟩

/-- What an attention call leaves. -/
def attended (W : Spec.Weights) (X : Fin 2048 → Fin 1024 → ℝ) : S16x2048x64.Idx → EReal := fun i =>
  ((Spec.att (fun i => Spec.lin (X i) W.wq W.bq) (fun i => Spec.lin (X i) W.wk W.bk) (fun i => Spec.lin (X i) W.wv W.bv) (i 0) (i 1) (i 2) : ℝ) : EReal)

theorem attended_apply (W : Spec.Weights) (X : Fin 2048 → Fin 1024 → ℝ) (n : Fin 16) (r : Fin 2048) (d : Fin 64) :
    attended W X (ix3 n r d) = ((Spec.heads W X r (Spec.lane n d) : ℝ) : EReal) := by
  have e1 : (⟨(Spec.lane n d : ℕ) / 64, by omega⟩ : Fin 16) = n := Fin.ext (show ((n : ℕ) * 64 + d) / 64 = n by omega)
  have e2 : (⟨(Spec.lane n d : ℕ) % 64, by omega⟩ : Fin 64) = d := Fin.ext (show ((n : ℕ) * 64 + d) % 64 = d by omega)
  unfold Spec.heads
  rw [e1, e2]
  rfl

end Cert.KernelIdeal.Pay

end
-- ==== Proof.Blk0.lean ====
/-
  What the first attention call leaves in its result array, of arrays that hold real numbers.
-/
module

public import proofs.«01_k».proof.Proof.PayAtt
public import proofs.«01_k».proof.Proof.Att0
public import Idealize.ShloMosaic.Lib.Pipeline.ValueKit

@[expose] public section

set_option maxRecDepth 16384

noncomputable section

namespace Cert.KernelIdeal.Blk

open Idealize.ShloMosaic Idealize.ShloMosaic.TcCoe Cert.KernelIdeal Cert.KernelIdeal.Gen Cert.KernelIdeal.Facts Cert.KernelIdeal.Pay
open Idealize.SL Idealize.SL.RA
open Idealize.ShloMosaic.Pipeline (Dat)

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

theorem index0 : ∀ t : Fin cfg0.N, win0_0.index t = ![0, 0] ∧ win0_1.index t = ![0, min t.val 1] ∧ win0_2.index t = ![0, min t.val 1]
    ∧ win0_3.index t = ![0, min t.val 1] ∧ win0_4.index t = ![0, min t.val 1] ∧ win0_5.index t = ![0, min t.val 1] ∧ win0_6.index t = ![0, min t.val 1]
    ∧ win0_7.index t = ![t.val - 1, 0, 0] :=
  (by decide +kernel : ∀ t : Fin grid0.N, _)

theorem offs0 : ∀ t : Fin cfg0.N, 1 ≤ t.val → k0_off1 (grid0.coords t) = ![t.val - 1, 0, 0] ∧ k0_off2 (grid0.coords t) = ![t.val - 1, 0, 0]
    ∧ k0_off3 (grid0.coords t) = ![t.val - 1, 0, 0] ∧ k0_off4 (grid0.coords t) = ![t.val - 1, 512, 0] ∧ k0_off5 (grid0.coords t) = ![t.val - 1, 512, 0]
    ∧ k0_off6 (grid0.coords t) = ![t.val - 1, 1024, 0] ∧ k0_off7 (grid0.coords t) = ![t.val - 1, 1024, 0]
    ∧ k0_off8 (grid0.coords t) = ![t.val - 1, 1536, 0] ∧ k0_off9 (grid0.coords t) = ![t.val - 1, 1536, 0] :=
  (by decide +kernel : ∀ t : Fin grid0.N, _)

theorem reads0 (t : Fin cfg0.N) (ht : t.val < 17) (h : 1 ≤ t.val) : Reads (grid0.coords t) (head t.val ht h) :=
  let ⟨a, b, c, d, e, f, g, i, j⟩ := offs0 t h
  ⟨a, b, c, d, e, f, g, i, j⟩

/-- The arrays that the call reads hold real numbers. -/
structure Real0 (c : Dev nD) (W : Spec.Weights) (X : Fin 2048 → Fin 1024 → ℝ) : Prop where
  x : ∀ r k, V c main_v0 (ix2 r k) = (X r k : EReal)
  wq : ∀ k j, V c main_v2 (ix2 k j) = (W.wq k j : EReal)
  wk : ∀ k j, V c main_v4 (ix2 k j) = (W.wk k j : EReal)
  wv : ∀ k j, V c main_v6 (ix2 k j) = (W.wv k j : EReal)
  bq : ∀ j, V c main_v9 (ix2 0 j) = (W.bq j : EReal)
  bk : ∀ j, V c main_v12 (ix2 0 j) = (W.bk j : EReal)
  bv : ∀ j, V c main_v15 (ix2 0 j) = (W.bv j : EReal)

variable {V}

section
variable {c : Dev nD} {W : Spec.Weights} {X : Fin 2048 → Fin 1024 → ℝ} (h : Real0 V c W X) (t : Fin cfg0.N)
include h

set_option maxHeartbeats 2000000 in
theorem Real0.block (r : Fin 2048) (k : Fin 1024) : Att0.iblk V c 0 t (ix2 r k) = (X r k : EReal) := by
  refine Eq.trans ?_ (h.x _ _)
  blk_ext [Att0.iblk, index0 t]

set_option maxHeartbeats 2000000 in
theorem Real0.half1 (r : Fin 2048) (j : Fin 512) : Att0.half1 V c t (ix2 r j) = (32 * Spec.lin (X r) W.wq W.bq (col t.val j) : ℝ) := by
  refine half_real (col t.val) (h.block t) (fun k j => ?_) (fun j => ?_) r j
  · refine Eq.trans ?_ (h.wq _ _)
    blk_ext [Att0.iblk, index0 t, col]
  · refine Eq.trans ?_ (h.bq _)
    blk_ext [Att0.iblk, index0 t, col]

set_option maxHeartbeats 2000000 in
theorem Real0.half2 (r : Fin 2048) (j : Fin 512) : Att0.half2 V c t (ix2 r j) = (32 * Spec.lin (X r) W.wk W.bk (col t.val j) : ℝ) := by
  refine half_real (col t.val) (h.block t) (fun k j => ?_) (fun j => ?_) r j
  · refine Eq.trans ?_ (h.wk _ _)
    blk_ext [Att0.iblk, index0 t, col]
  · refine Eq.trans ?_ (h.bk _)
    blk_ext [Att0.iblk, index0 t, col]

set_option maxHeartbeats 2000000 in
theorem Real0.half3 (r : Fin 2048) (j : Fin 512) : Att0.half3 V c t (ix2 r j) = (32 * Spec.lin (X r) W.wv W.bv (col t.val j) : ℝ) := by
  refine half_real (col t.val) (h.block t) (fun k j => ?_) (fun j => ?_) r j
  · refine Eq.trans ?_ (h.wv _ _)
    blk_ext [Att0.iblk, index0 t, col]
  · refine Eq.trans ?_ (h.bv _)
    blk_ext [Att0.iblk, index0 t, col]

theorem Real0.stored (ht : t.val < 17) (h1 : 1 ≤ t.val) (r : Fin 2048) (e : Fin 64) :
    Att0.outAt V c t (ix3 0 r e) = attended W X (ix3 (head t.val ht h1) r e) := by
  unfold Att0.outAt
  rw [dif_pos ((Att0.hcond2 t).2 h1)]
  exact att_real _ (reads0 t ht h1) ⟨h.half1 Att0.t0, h.half1 Att0.t1⟩ ⟨h.half2 Att0.t0, h.half2 Att0.t1⟩ ⟨h.half3 Att0.t0, h.half3 Att0.t1⟩ r e

end

theorem emb0 (t : Fin cfg0.N) (ht : t.val < 17) (h1 : 1 ≤ t.val) (r : Fin 2048) (d : Fin 64) :
    ((View.whole main_v16).slice (win0_7.rect t)).emb (ix3 0 r d) = ix3 (head t.val ht h1) r d := by
  blk_ext [index0 t, head]

set_option maxHeartbeats 400000 in
theorem out0 {c : Dev nD} {W : Spec.Weights} {X : Fin 2048 → Fin 1024 → ℝ} (h : Real0 V c W X) :
    (Att0.dat V D c : Dat τ (Elt Ideal) Ix ℕ U Lvl cfg0 c).arrAt 7 cfg0.N = attended W X := by
  refine (Att0.dat V D c).arrAt_eq_of_covers 7 (attended W X) (by decide +kernel) fun t hf y => ?_
  have ht : t.val < 17 := lt_of_lt_of_eq t.isLt N_0
  have h1 : 1 ≤ t.val := Nat.one_le_iff_ne_zero.2 fun h => absurd hf (by rw [Att0.flush_7 t h]; exact Bool.false_ne_true)
  blk_simp
  rw [Att0.after_7]
  idx_vars y
  obtain rfl : y0 = 0 := Subsingleton.elim _ _
  exact (h.stored t ht h1 y1 y2).trans (congrArg (attended W X) (emb0 t ht h1 y1 y2).symm)

end Cert.KernelIdeal.Blk

end
-- ==== Proof.PayProj.lean ====
/-
  What the bodies of the projection calls store, of blocks that hold real numbers.
-/
module

public import proofs.«01_k».proof.Proof.Pay

@[expose] public section

set_option maxRecDepth 16384

noncomputable section

namespace Cert.KernelIdeal.Pay

open Idealize.ShloMosaic Cert.KernelIdeal Cert.KernelIdeal.Gen Cert.KernelIdeal.Facts

/-- Head `n`'s slab of the block. -/
def slab (A : V S16x512x64 .bf16) (n : Fin 16) : V S1x512x64 .bf16 :=
  View.ld (Val := Elt Ideal) (e' := .bf16) A (Rect.unit (s := S16x512x64) ![n, 0, 0] S1x512x64.size (by decide +revert))

theorem slab_apply (A : V S16x512x64 .bf16) (n : Fin 16) (r : Fin 512) (d : Fin 64) : slab A n (ix3 0 r d) = A (ix3 n r d) := by
  pointwise [slab]

/-- The heads' slabs, side by side. -/
def cat (A : V S16x512x64 .bf16) : V S512x1024 .bf16 :=
  concatenate S512x1024 1 [⟨S512x64, shapeCast S512x64 (slab A 0) shapeCasts_S1x512x64_S512x64⟩, ⟨S512x64, shapeCast S512x64 (slab A 1) shapeCasts_S1x512x64_S512x64⟩, ⟨S512x64, shapeCast S512x64 (slab A 2) shapeCasts_S1x512x64_S512x64⟩, ⟨S512x64, shapeCast S512x64 (slab A 3) shapeCasts_S1x512x64_S512x64⟩, ⟨S512x64, shapeCast S512x64 (slab A 4) shapeCasts_S1x512x64_S512x64⟩, ⟨S512x64, shapeCast S512x64 (slab A 5) shapeCasts_S1x512x64_S512x64⟩, ⟨S512x64, shapeCast S512x64 (slab A 6) shapeCasts_S1x512x64_S512x64⟩, ⟨S512x64, shapeCast S512x64 (slab A 7) shapeCasts_S1x512x64_S512x64⟩, ⟨S512x64, shapeCast S512x64 (slab A 8) shapeCasts_S1x512x64_S512x64⟩, ⟨S512x64, shapeCast S512x64 (slab A 9) shapeCasts_S1x512x64_S512x64⟩, ⟨S512x64, shapeCast S512x64 (slab A 10) shapeCasts_S1x512x64_S512x64⟩, ⟨S512x64, shapeCast S512x64 (slab A 11) shapeCasts_S1x512x64_S512x64⟩, ⟨S512x64, shapeCast S512x64 (slab A 12) shapeCasts_S1x512x64_S512x64⟩, ⟨S512x64, shapeCast S512x64 (slab A 13) shapeCasts_S1x512x64_S512x64⟩, ⟨S512x64, shapeCast S512x64 (slab A 14) shapeCasts_S1x512x64_S512x64⟩, ⟨S512x64, shapeCast S512x64 (slab A 15) shapeCasts_S1x512x64_S512x64⟩]
    concatenates_S512x64_S512x64_S512x64_S512x64_S512x64_S512x64_S512x64_S512x64_S512x64_S512x64_S512x64_S512x64_S512x64_S512x64_S512x64_S512x64_S512x1024_d1

/-- Pieces `k`, `k + 1`, … of 64 columns each, read at column `c` of what they make up. -/
theorem pieces_apply (f : ℕ → V S512x64 .bf16) (j : S512x1024.Idx) : ∀ (n k : ℕ) (hs) (c : ℕ) (hc), c < 64 * n →
    concatenateAt S512x1024 1 j ((List.range' k n).map fun i => (⟨S512x64, f i⟩ : (s : Shape) × (s.Idx → EReal))) hs c hc
      = f (k + c / 64) (ix2 (j 0) ⟨c % 64, Nat.mod_lt _ (by decide)⟩)
  | 0, _, _, _, _, h => absurd h (by omega)
  | 1, k, hs, c, hc, h => by
    have hlt : c < 64 := by omega
    refine (concatenateAt_singleton (s := S512x64) (1 : Fin S512x1024.rank) j (f k) hs c hc).trans ?_
    rw [show k + c / 64 = k by omega]
    refine congrArg (f k) (funext fun b => Fin.ext ?_)
    fin_cases b
    · rfl
    · exact (Nat.mod_eq_of_lt hlt).symm
  | n + 2, k, hs, c, hc, h => by
    refine (concatenateAt_cons (s := S512x64) (1 : Fin S512x1024.rank) j (f k) _ _ hs c hc).trans ?_
    by_cases hlt : c < 64
    · refine (dif_pos hlt).trans ?_
      rw [show k + c / 64 = k by omega]
      refine congrArg (f k) (funext fun b => Fin.ext ?_)
      fin_cases b
      · rfl
      · exact (Nat.mod_eq_of_lt hlt).symm
    · refine (dif_neg hlt).trans ((pieces_apply f j (n + 1) (k + 1) _ (c - 64) _ (by omega)).trans ?_)
      have e1 : k + 1 + (c - 64) / 64 = k + c / 64 := by omega
      have e2 : (c - 64) % 64 = c % 64 := by omega
      simp only [e1, e2]

theorem concat_apply (p : Fin 16 → V S512x64 .bf16) (r : Fin 512) (c : Fin 1024) :
    concatenate S512x1024 1 [⟨S512x64, p 0⟩, ⟨S512x64, p 1⟩, ⟨S512x64, p 2⟩, ⟨S512x64, p 3⟩, ⟨S512x64, p 4⟩, ⟨S512x64, p 5⟩, ⟨S512x64, p 6⟩, ⟨S512x64, p 7⟩, ⟨S512x64, p 8⟩, ⟨S512x64, p 9⟩, ⟨S512x64, p 10⟩, ⟨S512x64, p 11⟩, ⟨S512x64, p 12⟩, ⟨S512x64, p 13⟩, ⟨S512x64, p 14⟩, ⟨S512x64, p 15⟩]
      concatenates_S512x64_S512x64_S512x64_S512x64_S512x64_S512x64_S512x64_S512x64_S512x64_S512x64_S512x64_S512x64_S512x64_S512x64_S512x64_S512x64_S512x1024_d1 (ix2 r c)
      = p ⟨c / 64, by omega⟩ (ix2 r ⟨c % 64, by omega⟩) := by
  refine (concatenate_apply S512x1024 1 _ _ (ix2 r c)).trans
    ((pieces_apply (fun i => p ⟨i % 16, Nat.mod_lt _ (by decide)⟩) (ix2 r c) 16 0 _ c _ c.isLt).trans ?_)
  refine congrArg (fun q => p q (ix2 r ⟨c % 64, by omega⟩)) (Fin.ext ?_)
  show (0 + (c : ℕ) / 64) % 16 = c / 64
  omega

theorem cat_apply (A : V S16x512x64 .bf16) (r : Fin 512) (c : Fin 1024) : cat A (ix2 r c) = A (ix3 ⟨c / 64, by omega⟩ r ⟨c % 64, by omega⟩) := by
  refine (concat_apply (fun n => shapeCast S512x64 (slab A n) shapeCasts_S1x512x64_S512x64) r c).trans ?_
  pointwise [slab]

/-- The row less its mean. -/
def projDev (a : V S512x1024 .bf16) (x : V S512x1024 .f32) (w : V S1024x1024 .f32) (b : V S1x1024 .f32) : V S512x1024 .f32 :=
  have v34 : V S512x1024 .f32 := shapeCast S512x1024 x shapeCasts_S512x1024_S512x1024
  have v36 : V S1024x1024 .f32 := shapeCast S1024x1024 w shapeCasts_S1024x1024_S1024x1024
  have v37 : V S1024x1024 .bf16 := truncf .bf16 v36 bitsLt_bf16_f32
  have v38 : V S512x1024 .f32 := matmul dot_S512x1024_S1024x1024_S512x1024_1_0_0_1_n_n none a v37 (constant S512x1024 .f32 0x00000000#32)
  have v41 : V S1x1024 .f32 := shapeCast S1x1024 b shapeCasts_S1x1024_S1x1024
  have v43 : V S512x1024 .f32 := addf (addf v34 v38) (broadcastTo S512x1024 v41 broadcasts_S1x1024_S512x1024)
  have v48 : V S512 .f32 := multiReduction .add [1] S512 v43 0x00000000#32 reduces_S512x1024_S512 (.inl rfl) rfl
  have v51 : V S512x1 .f32 := divf (shapeCast S512x1 v48 shapeCasts_S512_S512x1) (broadcast S512x1 (Scalar.ofBits .f32 0x44800000#32))
  subf v43 (broadcastTo S512x1024 v51 broadcasts_S512x1_S512x1024)

/-- Row `r` of what the layer norm is taken of. -/
def projRow (a : V S512x1024 .bf16) (x : V S512x1024 .f32) (w : V S1024x1024 .f32) (b : V S1x1024 .f32) (r : Fin 512) (k : Fin 1024) : EReal :=
  x (ix2 r k) + (∑ j : Fin 1024, a (ix2 r j) * w (ix2 j k)) + b (ix2 0 k)

theorem projDev_apply (a : V S512x1024 .bf16) (x : V S512x1024 .f32) (w : V S1024x1024 .f32) (b : V S1x1024 .f32) (r : Fin 512) (c : Fin 1024) :
    projDev a x w b (ix2 r c) = projRow a x w b r c - Ideal.div (∑ k : Fin 1024, projRow a x w b r k) (Ideal.ofBits .f32 0x44800000#32) := by
  pointwise [projDev, projRow]

section
variable (A : V S16x512x64 .bf16) (w : V S1024x1024 .f32) (b lw lb : V S1x1024 .f32)

/-- What the first projection call stores. -/
def stored1 (x : V S512x1024 .f32) : V S512x1024 .bf16 :=
  k1_pay1 (F := Ideal) (k1_pay13 (F := Ideal) lw) (k1_pay14 (F := Ideal) lb)
    (k1_pay15 (F := Ideal) (k1_pay2 (slab A 0)) (k1_pay3 (slab A 1)) (k1_pay4 (slab A 2)) (k1_pay5 (slab A 3)) (k1_pay6 (slab A 4)) (k1_pay7 (slab A 5)) (k1_pay8 (slab A 6)) (k1_pay9 (slab A 7)) (k1_pay10 (slab A 8)) (k1_pay11 (slab A 9)) (k1_pay12 (slab A 10)) (slab A 11) (slab A 12) (slab A 13) (slab A 14) (slab A 15) x w b)
    (k1_pay16 (F := Ideal) (k1_pay2 (slab A 0)) (k1_pay3 (slab A 1)) (k1_pay4 (slab A 2)) (k1_pay5 (slab A 3)) (k1_pay6 (slab A 4)) (k1_pay7 (slab A 5)) (k1_pay8 (slab A 6)) (k1_pay9 (slab A 7)) (k1_pay10 (slab A 8)) (k1_pay11 (slab A 9)) (k1_pay12 (slab A 10)) (slab A 11) (slab A 12) (slab A 13) (slab A 14) (slab A 15) x w b)

/-- What the second projection call stores. -/
def stored4 (x : V S512x1024 .bf16) : V S512x1024 .bf16 :=
  k4_pay1 (F := Ideal) (k4_pay13 (F := Ideal) lw) (k4_pay14 (F := Ideal) lb)
    (k4_pay15 (F := Ideal) (k4_pay2 (slab A 0)) (k4_pay3 (slab A 1)) (k4_pay4 (slab A 2)) (k4_pay5 (slab A 3)) (k4_pay6 (slab A 4)) (k4_pay7 (slab A 5)) (k4_pay8 (slab A 6)) (k4_pay9 (slab A 7)) (k4_pay10 (slab A 8)) (k4_pay11 (slab A 9)) (k4_pay12 (slab A 10)) (slab A 11) (slab A 12) (slab A 13) (slab A 14) (slab A 15) x w b)
    (k4_pay16 (F := Ideal) (k4_pay2 (slab A 0)) (k4_pay3 (slab A 1)) (k4_pay4 (slab A 2)) (k4_pay5 (slab A 3)) (k4_pay6 (slab A 4)) (k4_pay7 (slab A 5)) (k4_pay8 (slab A 6)) (k4_pay9 (slab A 7)) (k4_pay10 (slab A 8)) (k4_pay11 (slab A 9)) (k4_pay12 (slab A 10)) (slab A 11) (slab A 12) (slab A 13) (slab A 14) (slab A 15) x w b)

theorem k1_pay15_eq (x : V S512x1024 .f32) :
    k1_pay15 (F := Ideal) (k1_pay2 (slab A 0)) (k1_pay3 (slab A 1)) (k1_pay4 (slab A 2)) (k1_pay5 (slab A 3)) (k1_pay6 (slab A 4)) (k1_pay7 (slab A 5)) (k1_pay8 (slab A 6)) (k1_pay9 (slab A 7)) (k1_pay10 (slab A 8)) (k1_pay11 (slab A 9)) (k1_pay12 (slab A 10)) (slab A 11) (slab A 12) (slab A 13) (slab A 14) (slab A 15) x w b = projDev (cat A) x w b := rfl

theorem k4_pay15_eq (x : V S512x1024 .bf16) :
    k4_pay15 (F := Ideal) (k4_pay2 (slab A 0)) (k4_pay3 (slab A 1)) (k4_pay4 (slab A 2)) (k4_pay5 (slab A 3)) (k4_pay6 (slab A 4)) (k4_pay7 (slab A 5)) (k4_pay8 (slab A 6)) (k4_pay9 (slab A 7)) (k4_pay10 (slab A 8)) (k4_pay11 (slab A 9)) (k4_pay12 (slab A 10)) (slab A 11) (slab A 12) (slab A 13) (slab A 14) (slab A 15) x w b = projDev (cat A) x w b := rfl

theorem stored1_apply (x : V S512x1024 .f32) (r : Fin 512) (c : Fin 1024) :
    stored1 A w b lw lb x (ix2 r c) = projDev (cat A) x w b (ix2 r c) * Ideal.rsqrt (Ideal.div (∑ k : Fin 1024, projDev (cat A) x w b (ix2 r k)
      * projDev (cat A) x w b (ix2 r k)) (Ideal.ofBits .f32 0x44800000#32) + Ideal.ofBits .f32 0x3727C5AC#32) * lw (ix2 0 c) + lb (ix2 0 c) := by
  unfold stored1 k1_pay16
  rw [k1_pay15_eq]
  pointwise [k1_pay1, k1_pay13, k1_pay14]

theorem stored4_apply (x : V S512x1024 .bf16) (r : Fin 512) (c : Fin 1024) :
    stored4 A w b lw lb x (ix2 r c) = projDev (cat A) x w b (ix2 r c) * Ideal.rsqrt (Ideal.div (∑ k : Fin 1024, projDev (cat A) x w b (ix2 r k)
      * projDev (cat A) x w b (ix2 r k)) (Ideal.ofBits .f32 0x44800000#32) + Ideal.ofBits .f32 0x3727C5AC#32) * lw (ix2 0 c) + lb (ix2 0 c) := by
  unfold stored4 k4_pay16
  rw [k4_pay15_eq]
  pointwise [k4_pay1, k4_pay13, k4_pay14]

end

/-- The operands of a projection call hold real numbers. -/
structure ProjReal (W : Spec.Weights) (H X : Fin 512 → Fin 1024 → ℝ) (A : V S16x512x64 .bf16) (x : V S512x1024 .f32) (w : V S1024x1024 .f32)
    (b lw lb : V S1x1024 .f32) : Prop where
  a : ∀ h r d, A (ix3 h r d) = (H r (Spec.lane h d) : EReal)
  x : ∀ r c, x (ix2 r c) = (X r c : EReal)
  w : ∀ k c, w (ix2 k c) = (W.wo k c : EReal)
  b : ∀ c, b (ix2 0 c) = (W.bo c : EReal)
  lw : ∀ c, lw (ix2 0 c) = (W.l1w c : EReal)
  lb : ∀ c, lb (ix2 0 c) = (W.l1b c : EReal)

section
variable {W : Spec.Weights} {H X : Fin 512 → Fin 1024 → ℝ} {A : V S16x512x64 .bf16} {x : V S512x1024 .f32} {w : V S1024x1024 .f32}
  {b lw lb : V S1x1024 .f32}

theorem ProjReal.dev (h : ProjReal W H X A x w b lw lb) (r : Fin 512) (c : Fin 1024) :
    projDev (cat A) x w b (ix2 r c) = (Spec.dev (fun c => X r c + Spec.lin (H r) W.wo W.bo c) c : ℝ) := by
  refine (projDev_apply (cat A) x w b r c).trans (Spec.dev_coe (fun k => ?_) c)
  have ha (j : Fin 1024) : cat A (ix2 r j) = (H r j : EReal) := by
    rw [cat_apply, h.a]
    exact congrArg (fun j => ((H r j : ℝ) : EReal)) (Fin.ext (show (j : ℕ) / 64 * 64 + j % 64 = j by omega))
  rw [projRow, add_assoc, Spec.lin_coe (c := k) ha (fun j => h.w j k) (h.b k), h.x, ← EReal.coe_add]

theorem ProjReal.out1 (h : ProjReal W H X A x w b lw lb) (r : Fin 512) (c : Fin 1024) :
    stored1 A w b lw lb x (ix2 r c) = (Spec.proj W (H r) (X r) c : ℝ) :=
  (stored1_apply A w b lw lb x r c).trans (Spec.affine_coe (Spec.normed_mul (h.dev r) c) (h.lw c) (h.lb c))

theorem ProjReal.out4 (h : ProjReal W H X A x w b lw lb) (r : Fin 512) (c : Fin 1024) :
    stored4 A w b lw lb x (ix2 r c) = (Spec.proj W (H r) (X r) c : ℝ) :=
  (stored4_apply A w b lw lb x r c).trans (Spec.affine_coe (Spec.normed_mul (h.dev r) c) (h.lw c) (h.lb c))

end

end Cert.KernelIdeal.Pay

end
-- ==== Proof.Rows.lean ====
/-
  The row blocks of the arrays.
-/
module

public import proofs.«01_k».proof.Proof.Spec

@[expose] public section

namespace Cert.KernelIdeal.Blk

/-- Row `r` of row block `t`. -/
def row (t : ℕ) (ht : t < 4) (r : Fin 512) : Fin 2048 := ⟨t * 512 + r, by omega⟩

end Cert.KernelIdeal.Blk

end
-- ==== Proof.Blk1.lean ====
/-
  What the first projection call leaves in its result array, of arrays that hold real numbers.
-/
module

public import proofs.«01_k».proof.Proof.PayProj
public import proofs.«01_k».proof.Proof.Rows
public import proofs.«01_k».proof.Proof.Gen.Own.KernelIdeal.K1.Frame
public import Idealize.ShloMosaic.Lib.Pipeline.ValueKit

@[expose] public section

set_option maxRecDepth 16384

noncomputable section

namespace Cert.KernelIdeal.Blk

open Idealize.ShloMosaic Idealize.ShloMosaic.TcCoe Cert.KernelIdeal Cert.KernelIdeal.Gen Cert.KernelIdeal.Facts Cert.KernelIdeal.Pay
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-! ## The first projection call -/

theorem index1 : ∀ t : Fin cfg1.N, win1_0.index t = ![0, t.val, 0] ∧ win1_1.index t = ![t.val, 0] ∧ win1_2.index t = ![0, 0] ∧ win1_3.index t = ![0, 0]
    ∧ win1_4.index t = ![0, 0] ∧ win1_5.index t = ![0, 0] ∧ win1_6.index t = ![t.val, 0] :=
  (by decide +kernel : ∀ t : Fin grid1.N, _)

/-- The arrays that the call reads hold real numbers. -/
structure Real1 (c : Dev nD) (W : Spec.Weights) (H X : Fin 2048 → Fin 1024 → ℝ) : Prop where
  a : ∀ h r d, V c main_v16 (ix3 h r d) = (H r (Spec.lane h d) : EReal)
  x : ∀ r k, V c main_v0 (ix2 r k) = (X r k : EReal)
  w : ∀ k c', V c main_v18 (ix2 k c') = (W.wo k c' : EReal)
  b : ∀ k, V c main_v21 (ix2 0 k) = (W.bo k : EReal)
  lw : ∀ k, V c main_v24 (ix2 0 k) = (W.l1w k : EReal)
  lb : ∀ k, V c main_v27 (ix2 0 k) = (W.l1b k : EReal)

variable {V}

set_option maxHeartbeats 2000000 in
theorem Real1.blocks {c : Dev nD} {W : Spec.Weights} {H X : Fin 2048 → Fin 1024 → ℝ} (h : Real1 V c W H X) (t : Fin cfg1.N) (ht : t.val < 4) :
    ProjReal W (fun r => H (row t ht r)) (fun r => X (row t ht r)) (Own.K1.iblk V c 0 t) (Own.K1.iblk V c 1 t) (Own.K1.iblk V c 2 t)
      (Own.K1.iblk V c 3 t) (Own.K1.iblk V c 4 t) (Own.K1.iblk V c 5 t) where
  a n r d := by
    refine Eq.trans ?_ (h.a _ _ _)
    blk_ext [Own.K1.iblk, index1 t, row]
  x r k := by
    refine Eq.trans ?_ (h.x _ _)
    blk_ext [Own.K1.iblk, index1 t, row]
  w k c' := by
    refine Eq.trans ?_ (h.w _ _)
    blk_ext [Own.K1.iblk, index1 t]
  b k := by
    refine Eq.trans ?_ (h.b _)
    blk_ext [Own.K1.iblk, index1 t]
  lw k := by
    refine Eq.trans ?_ (h.lw _)
    blk_ext [Own.K1.iblk, index1 t]
  lb k := by
    refine Eq.trans ?_ (h.lb _)
    blk_ext [Own.K1.iblk, index1 t]

set_option maxHeartbeats 2000000 in
theorem Real1.stored {c : Dev nD} {W : Spec.Weights} {H X : Fin 2048 → Fin 1024 → ℝ} (h : Real1 V c W H X) (t : Fin cfg1.N) (ht : t.val < 4)
    (r : Fin 512) (k : Fin 1024) :
    Own.K1.outsAt1 (Ix := Ix) (U := U) (Lvl := Lvl) 𝒱₀ V c t (ix2 r k) = ((Spec.proj W (H (row t ht r)) (X (row t ht r)) k : ℝ) : EReal) := by
  refine Eq.trans ?_ ((h.blocks t ht).out1 r k)
  unfold Own.K1.outsAt1
  frame_out
  rfl

theorem out1 {c : Dev nD} {W : Spec.Weights} {H X : Fin 2048 → Fin 1024 → ℝ} (h : Real1 V c W H X) (r : Fin 2048) (k : Fin 1024) :
    (Own.K1.dat 𝒱₀ V D c : Dat τ (Elt Ideal) Ix ℕ U Lvl cfg1 c).arrAt 6 cfg1.N (ix2 r k) = ((Spec.proj W (H r) (X r) k : ℝ) : EReal) := by
  let G : S2048x1024.Idx → EReal := fun i => ((Spec.proj W (H (i 0)) (X (i 0)) (i 1) : ℝ) : EReal)
  refine congrFun ((Own.K1.dat 𝒱₀ V D c).arrAt_eq_of_covers 6 G (by decide +kernel) fun t hf y => ?_) (ix2 r k)
  have ht : t.val < 4 := lt_of_lt_of_eq t.isLt N_1
  blk_simp
  rw [Own.K1.after1_6]
  idx_vars y
  refine (h.stored 𝒱₀ t ht y0 y1).trans (congrArg G (show ix2 (row t ht y0) y1 = _ from ?_))
  blk_ext [index1 t, row]

end Cert.KernelIdeal.Blk

end
-- ==== Proof.Blk2.lean ====
/-
  What the first feed-forward call leaves in its result array, of arrays that hold real numbers.
-/
module

public import proofs.«01_k».proof.Proof.Pay
public import proofs.«01_k».proof.Proof.Rows
public import proofs.«01_k».proof.Proof.Gen.Own.KernelIdeal.K2.Frame
public import Idealize.ShloMosaic.Lib.Pipeline.ValueKit

@[expose] public section

set_option maxRecDepth 16384

noncomputable section

namespace Cert.KernelIdeal.Blk

open Idealize.ShloMosaic Idealize.ShloMosaic.TcCoe Cert.KernelIdeal Cert.KernelIdeal.Gen Cert.KernelIdeal.Facts Cert.KernelIdeal.Pay
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-! ## The first feed-forward call -/

theorem index2 : ∀ t : Fin cfg2.N, win2_0.index t = ![t.val, 0] ∧ win2_1.index t = ![0, 0] ∧ win2_2.index t = ![0, 0] ∧ win2_3.index t = ![0, 0]
    ∧ win2_4.index t = ![0, 0] ∧ win2_5.index t = ![0, 0] ∧ win2_6.index t = ![0, 0] ∧ win2_7.index t = ![t.val, 0] :=
  (by decide +kernel : ∀ t : Fin grid2.N, _)

/-- The arrays that the call reads hold real numbers. -/
structure Real2 (c : Dev nD) (W : Spec.Weights) (X : Fin 2048 → Fin 1024 → ℝ) : Prop where
  x : ∀ r k, V c main_v28 (ix2 r k) = (X r k : EReal)
  w1 : ∀ k f, V c main_v30 (ix2 k f) = (W.w1 k f : EReal)
  b1 : ∀ f, V c main_v33 (ix2 0 f) = (W.b1 f : EReal)
  w2 : ∀ f k, V c main_v35 (ix2 f k) = (W.w2 f k : EReal)
  b2 : ∀ k, V c main_v38 (ix2 0 k) = (W.b2 k : EReal)
  lw : ∀ k, V c main_v41 (ix2 0 k) = (W.l2w k : EReal)
  lb : ∀ k, V c main_v44 (ix2 0 k) = (W.l2b k : EReal)

variable {V}

set_option maxHeartbeats 2000000 in
theorem Real2.blocks {c : Dev nD} {W : Spec.Weights} {X : Fin 2048 → Fin 1024 → ℝ} (h : Real2 V c W X) (t : Fin cfg2.N) (ht : t.val < 4) :
    FfnReal W (fun r => X (row t ht r)) (Own.K2.iblk V c 0 t) (Own.K2.iblk V c 1 t) (Own.K2.iblk V c 2 t) (Own.K2.iblk V c 3 t)
      (Own.K2.iblk V c 4 t) (Own.K2.iblk V c 5 t) (Own.K2.iblk V c 6 t) where
  x r k := by
    refine Eq.trans ?_ (h.x _ _)
    blk_ext [Own.K2.iblk, index2 t, row]
  w1 k f := by
    refine Eq.trans ?_ (h.w1 _ _)
    blk_ext [Own.K2.iblk, index2 t]
  b1 f := by
    refine Eq.trans ?_ (h.b1 _)
    blk_ext [Own.K2.iblk, index2 t]
  w2 f k := by
    refine Eq.trans ?_ (h.w2 _ _)
    blk_ext [Own.K2.iblk, index2 t]
  b2 k := by
    refine Eq.trans ?_ (h.b2 _)
    blk_ext [Own.K2.iblk, index2 t]
  lw k := by
    refine Eq.trans ?_ (h.lw _)
    blk_ext [Own.K2.iblk, index2 t]
  lb k := by
    refine Eq.trans ?_ (h.lb _)
    blk_ext [Own.K2.iblk, index2 t]

set_option maxHeartbeats 2000000 in
theorem Real2.stored {c : Dev nD} {W : Spec.Weights} {X : Fin 2048 → Fin 1024 → ℝ} (h : Real2 V c W X) (t : Fin cfg2.N) (ht : t.val < 4)
    (r : Fin 512) (k : Fin 1024) :
    Own.K2.outsAt2 (Ix := Ix) (U := U) (Lvl := Lvl) 𝒱₀ V c t (ix2 r k) = ((Spec.ffn W (X (row t ht r)) k : ℝ) : EReal) := by
  refine Eq.trans ?_ ((h.blocks t ht).out r k)
  unfold Own.K2.outsAt2
  frame_out

theorem out2 {c : Dev nD} {W : Spec.Weights} {X : Fin 2048 → Fin 1024 → ℝ} (h : Real2 V c W X) (r : Fin 2048) (k : Fin 1024) :
    (Own.K2.dat 𝒱₀ V D c : Dat τ (Elt Ideal) Ix ℕ U Lvl cfg2 c).arrAt 7 cfg2.N (ix2 r k) = ((Spec.ffn W (X r) k : ℝ) : EReal) := by
  let G : S2048x1024.Idx → EReal := fun i => ((Spec.ffn W (X (i 0)) (i 1) : ℝ) : EReal)
  refine congrFun ((Own.K2.dat 𝒱₀ V D c).arrAt_eq_of_covers 7 G (by decide +kernel) fun t hf y => ?_) (ix2 r k)
  have ht : t.val < 4 := lt_of_lt_of_eq t.isLt N_2
  blk_simp
  rw [Own.K2.after2_7]
  idx_vars y
  refine (h.stored 𝒱₀ t ht y0 y1).trans (congrArg G (show ix2 (row t ht y0) y1 = _ from ?_))
  blk_ext [index2 t, row]

end Cert.KernelIdeal.Blk

end
-- ==== Proof.Blk3.lean ====
/-
  What the second attention call leaves in its result array, of arrays that hold real numbers.
-/
module

public import proofs.«01_k».proof.Proof.PayAtt
public import proofs.«01_k».proof.Proof.Att3
public import Idealize.ShloMosaic.Lib.Pipeline.ValueKit

@[expose] public section

set_option maxRecDepth 16384

noncomputable section

namespace Cert.KernelIdeal.Blk

open Idealize.ShloMosaic Idealize.ShloMosaic.TcCoe Cert.KernelIdeal Cert.KernelIdeal.Gen Cert.KernelIdeal.Facts Cert.KernelIdeal.Pay
open Idealize.SL Idealize.SL.RA
open Idealize.ShloMosaic.Pipeline (Dat)

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

theorem index3 : ∀ t : Fin cfg3.N, win3_0.index t = ![0, 0] ∧ win3_1.index t = ![0, min t.val 1] ∧ win3_2.index t = ![0, min t.val 1]
    ∧ win3_3.index t = ![0, min t.val 1] ∧ win3_4.index t = ![0, min t.val 1] ∧ win3_5.index t = ![0, min t.val 1] ∧ win3_6.index t = ![0, min t.val 1]
    ∧ win3_7.index t = ![t.val - 1, 0, 0] :=
  (by decide +kernel : ∀ t : Fin grid3.N, _)

theorem offs3 : ∀ t : Fin cfg3.N, 1 ≤ t.val → k3_off1 (grid3.coords t) = ![t.val - 1, 0, 0] ∧ k3_off2 (grid3.coords t) = ![t.val - 1, 0, 0]
    ∧ k3_off3 (grid3.coords t) = ![t.val - 1, 0, 0] ∧ k3_off4 (grid3.coords t) = ![t.val - 1, 512, 0] ∧ k3_off5 (grid3.coords t) = ![t.val - 1, 512, 0]
    ∧ k3_off6 (grid3.coords t) = ![t.val - 1, 1024, 0] ∧ k3_off7 (grid3.coords t) = ![t.val - 1, 1024, 0]
    ∧ k3_off8 (grid3.coords t) = ![t.val - 1, 1536, 0] ∧ k3_off9 (grid3.coords t) = ![t.val - 1, 1536, 0] :=
  (by decide +kernel : ∀ t : Fin grid3.N, _)

theorem reads3 (t : Fin cfg3.N) (ht : t.val < 17) (h : 1 ≤ t.val) : Reads (grid3.coords t) (head t.val ht h) :=
  let ⟨a, b, c, d, e, f, g, i, j⟩ := offs3 t h
  ⟨a, b, c, d, e, f, g, i, j⟩

/-- The arrays that the call reads hold real numbers. -/
structure Real3 (c : Dev nD) (W : Spec.Weights) (X : Fin 2048 → Fin 1024 → ℝ) : Prop where
  x : ∀ r k, V c main_v45 (ix2 r k) = (X r k : EReal)
  wq : ∀ k j, V c main_v47 (ix2 k j) = (W.wq k j : EReal)
  wk : ∀ k j, V c main_v49 (ix2 k j) = (W.wk k j : EReal)
  wv : ∀ k j, V c main_v51 (ix2 k j) = (W.wv k j : EReal)
  bq : ∀ j, V c main_v54 (ix2 0 j) = (W.bq j : EReal)
  bk : ∀ j, V c main_v57 (ix2 0 j) = (W.bk j : EReal)
  bv : ∀ j, V c main_v60 (ix2 0 j) = (W.bv j : EReal)

variable {V}

section
variable {c : Dev nD} {W : Spec.Weights} {X : Fin 2048 → Fin 1024 → ℝ} (h : Real3 V c W X) (t : Fin cfg3.N)
include h

set_option maxHeartbeats 2000000 in
theorem Real3.block (r : Fin 2048) (k : Fin 1024) : Att3.iblk V c 0 t (ix2 r k) = (X r k : EReal) := by
  refine Eq.trans ?_ (h.x _ _)
  blk_ext [Att3.iblk, index3 t]

set_option maxHeartbeats 2000000 in
theorem Real3.half1 (r : Fin 2048) (j : Fin 512) : Att3.half1 V c t (ix2 r j) = (32 * Spec.lin (X r) W.wq W.bq (col t.val j) : ℝ) := by
  refine half_real (col t.val) (h.block t) (fun k j => ?_) (fun j => ?_) r j
  · refine Eq.trans ?_ (h.wq _ _)
    blk_ext [Att3.iblk, index3 t, col]
  · refine Eq.trans ?_ (h.bq _)
    blk_ext [Att3.iblk, index3 t, col]

set_option maxHeartbeats 2000000 in
theorem Real3.half2 (r : Fin 2048) (j : Fin 512) : Att3.half2 V c t (ix2 r j) = (32 * Spec.lin (X r) W.wk W.bk (col t.val j) : ℝ) := by
  refine half_real (col t.val) (h.block t) (fun k j => ?_) (fun j => ?_) r j
  · refine Eq.trans ?_ (h.wk _ _)
    blk_ext [Att3.iblk, index3 t, col]
  · refine Eq.trans ?_ (h.bk _)
    blk_ext [Att3.iblk, index3 t, col]

set_option maxHeartbeats 2000000 in
theorem Real3.half3 (r : Fin 2048) (j : Fin 512) : Att3.half3 V c t (ix2 r j) = (32 * Spec.lin (X r) W.wv W.bv (col t.val j) : ℝ) := by
  refine half_real (col t.val) (h.block t) (fun k j => ?_) (fun j => ?_) r j
  · refine Eq.trans ?_ (h.wv _ _)
    blk_ext [Att3.iblk, index3 t, col]
  · refine Eq.trans ?_ (h.bv _)
    blk_ext [Att3.iblk, index3 t, col]

theorem Real3.stored (ht : t.val < 17) (h1 : 1 ≤ t.val) (r : Fin 2048) (e : Fin 64) :
    Att3.outAt V c t (ix3 0 r e) = attended W X (ix3 (head t.val ht h1) r e) := by
  unfold Att3.outAt
  rw [dif_pos ((Att3.hcond2 t).2 h1)]
  exact att_real (i := grid3.coords t) ((Att3.hcond2 t).2 h1) (reads3 t ht h1) ⟨h.half1 Att3.t0, h.half1 Att3.t1⟩ ⟨h.half2 Att3.t0, h.half2 Att3.t1⟩ ⟨h.half3 Att3.t0, h.half3 Att3.t1⟩ r e

end

theorem emb3 (t : Fin cfg3.N) (ht : t.val < 17) (h1 : 1 ≤ t.val) (r : Fin 2048) (d : Fin 64) :
    ((View.whole main_v61).slice (win3_7.rect t)).emb (ix3 0 r d) = ix3 (head t.val ht h1) r d := by
  blk_ext [index3 t, head]

set_option maxHeartbeats 400000 in
theorem out3 {c : Dev nD} {W : Spec.Weights} {X : Fin 2048 → Fin 1024 → ℝ} (h : Real3 V c W X) :
    (Att3.dat V D c : Dat τ (Elt Ideal) Ix ℕ U Lvl cfg3 c).arrAt 7 cfg3.N = attended W X := by
  refine (Att3.dat V D c).arrAt_eq_of_covers 7 (attended W X) (by decide +kernel) fun t hf y => ?_
  have ht : t.val < 17 := lt_of_lt_of_eq t.isLt N_3
  have h1 : 1 ≤ t.val := Nat.one_le_iff_ne_zero.2 fun h => absurd hf (by rw [Att3.flush_7 t h]; exact Bool.false_ne_true)
  blk_simp
  rw [Att3.after_7]
  idx_vars y
  obtain rfl : y0 = 0 := Subsingleton.elim _ _
  exact (h.stored t ht h1 y1 y2).trans (congrArg (attended W X) (emb3 t ht h1 y1 y2).symm)

end Cert.KernelIdeal.Blk

end
-- ==== Proof.Blk4.lean ====
/-
  What the second projection call leaves in its result array, of arrays that hold real numbers.
-/
module

public import proofs.«01_k».proof.Proof.PayProj
public import proofs.«01_k».proof.Proof.Rows
public import proofs.«01_k».proof.Proof.Gen.Own.KernelIdeal.K4.Frame
public import Idealize.ShloMosaic.Lib.Pipeline.ValueKit

@[expose] public section

set_option maxRecDepth 16384

noncomputable section

namespace Cert.KernelIdeal.Blk

open Idealize.ShloMosaic Idealize.ShloMosaic.TcCoe Cert.KernelIdeal Cert.KernelIdeal.Gen Cert.KernelIdeal.Facts Cert.KernelIdeal.Pay
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-! ## The second projection call -/

theorem index4 : ∀ t : Fin cfg4.N, win4_0.index t = ![0, t.val, 0] ∧ win4_1.index t = ![t.val, 0] ∧ win4_2.index t = ![0, 0] ∧ win4_3.index t = ![0, 0]
    ∧ win4_4.index t = ![0, 0] ∧ win4_5.index t = ![0, 0] ∧ win4_6.index t = ![t.val, 0] :=
  (by decide +kernel : ∀ t : Fin grid4.N, _)

/-- The arrays that the call reads hold real numbers. -/
structure Real4 (c : Dev nD) (W : Spec.Weights) (H X : Fin 2048 → Fin 1024 → ℝ) : Prop where
  a : ∀ h r d, V c main_v61 (ix3 h r d) = (H r (Spec.lane h d) : EReal)
  x : ∀ r k, V c main_v45 (ix2 r k) = (X r k : EReal)
  w : ∀ k c', V c main_v63 (ix2 k c') = (W.wo k c' : EReal)
  b : ∀ k, V c main_v66 (ix2 0 k) = (W.bo k : EReal)
  lw : ∀ k, V c main_v69 (ix2 0 k) = (W.l1w k : EReal)
  lb : ∀ k, V c main_v72 (ix2 0 k) = (W.l1b k : EReal)

variable {V}

set_option maxHeartbeats 2000000 in
theorem Real4.blocks {c : Dev nD} {W : Spec.Weights} {H X : Fin 2048 → Fin 1024 → ℝ} (h : Real4 V c W H X) (t : Fin cfg4.N) (ht : t.val < 4) :
    ProjReal W (fun r => H (row t ht r)) (fun r => X (row t ht r)) (Own.K4.iblk V c 0 t) (Own.K4.iblk V c 1 t) (Own.K4.iblk V c 2 t)
      (Own.K4.iblk V c 3 t) (Own.K4.iblk V c 4 t) (Own.K4.iblk V c 5 t) where
  a n r d := by
    refine Eq.trans ?_ (h.a _ _ _)
    blk_ext [Own.K4.iblk, index4 t, row]
  x r k := by
    refine Eq.trans ?_ (h.x _ _)
    blk_ext [Own.K4.iblk, index4 t, row]
  w k c' := by
    refine Eq.trans ?_ (h.w _ _)
    blk_ext [Own.K4.iblk, index4 t]
  b k := by
    refine Eq.trans ?_ (h.b _)
    blk_ext [Own.K4.iblk, index4 t]
  lw k := by
    refine Eq.trans ?_ (h.lw _)
    blk_ext [Own.K4.iblk, index4 t]
  lb k := by
    refine Eq.trans ?_ (h.lb _)
    blk_ext [Own.K4.iblk, index4 t]

set_option maxHeartbeats 2000000 in
theorem Real4.stored {c : Dev nD} {W : Spec.Weights} {H X : Fin 2048 → Fin 1024 → ℝ} (h : Real4 V c W H X) (t : Fin cfg4.N) (ht : t.val < 4)
    (r : Fin 512) (k : Fin 1024) :
    Own.K4.outsAt4 (Ix := Ix) (U := U) (Lvl := Lvl) 𝒱₀ V c t (ix2 r k) = ((Spec.proj W (H (row t ht r)) (X (row t ht r)) k : ℝ) : EReal) := by
  refine Eq.trans ?_ ((h.blocks t ht).out4 r k)
  unfold Own.K4.outsAt4
  frame_out
  rfl

theorem out4 {c : Dev nD} {W : Spec.Weights} {H X : Fin 2048 → Fin 1024 → ℝ} (h : Real4 V c W H X) (r : Fin 2048) (k : Fin 1024) :
    (Own.K4.dat 𝒱₀ V D c : Dat τ (Elt Ideal) Ix ℕ U Lvl cfg4 c).arrAt 6 cfg4.N (ix2 r k) = ((Spec.proj W (H r) (X r) k : ℝ) : EReal) := by
  let G : S2048x1024.Idx → EReal := fun i => ((Spec.proj W (H (i 0)) (X (i 0)) (i 1) : ℝ) : EReal)
  refine congrFun ((Own.K4.dat 𝒱₀ V D c).arrAt_eq_of_covers 6 G (by decide +kernel) fun t hf y => ?_) (ix2 r k)
  have ht : t.val < 4 := lt_of_lt_of_eq t.isLt N_4
  blk_simp
  rw [Own.K4.after4_6]
  idx_vars y
  refine (h.stored 𝒱₀ t ht y0 y1).trans (congrArg G (show ix2 (row t ht y0) y1 = _ from ?_))
  blk_ext [index4 t, row]

end Cert.KernelIdeal.Blk

end
-- ==== Proof.Blk5.lean ====
/-
  What the second feed-forward call leaves in its result array, of arrays that hold real numbers.
-/
module

public import proofs.«01_k».proof.Proof.Pay
public import proofs.«01_k».proof.Proof.Rows
public import proofs.«01_k».proof.Proof.Gen.Own.KernelIdeal.K5.Frame
public import Idealize.ShloMosaic.Lib.Pipeline.ValueKit

@[expose] public section

set_option maxRecDepth 16384

noncomputable section

namespace Cert.KernelIdeal.Blk

open Idealize.ShloMosaic Idealize.ShloMosaic.TcCoe Cert.KernelIdeal Cert.KernelIdeal.Gen Cert.KernelIdeal.Facts Cert.KernelIdeal.Pay
open Idealize.SL Idealize.SL.RA
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-! ## The second feed-forward call -/

theorem index5 : ∀ t : Fin cfg5.N, win5_0.index t = ![t.val, 0] ∧ win5_1.index t = ![0, 0] ∧ win5_2.index t = ![0, 0] ∧ win5_3.index t = ![0, 0]
    ∧ win5_4.index t = ![0, 0] ∧ win5_5.index t = ![0, 0] ∧ win5_6.index t = ![0, 0] ∧ win5_7.index t = ![0, 0] ∧ win5_8.index t = ![0, 0] ∧ win5_9.index t = ![t.val, 0] :=
  (by decide +kernel : ∀ t : Fin grid5.N, _)

/-- The arrays that the call reads hold real numbers. -/
structure Real5 (c : Dev nD) (W : Spec.Weights) (X : Fin 2048 → Fin 1024 → ℝ) (fw fb : Fin 1024 → EReal) : Prop where
  x : ∀ r k, V c main_v73 (ix2 r k) = (X r k : EReal)
  w1 : ∀ k f, V c main_v77 (ix2 k f) = (W.w1 k f : EReal)
  b1 : ∀ f, V c main_v80 (ix2 0 f) = (W.b1 f : EReal)
  w2 : ∀ f k, V c main_v82 (ix2 f k) = (W.w2 f k : EReal)
  b2 : ∀ k, V c main_v85 (ix2 0 k) = (W.b2 k : EReal)
  lw : ∀ k, V c main_v88 (ix2 0 k) = (W.l2w k : EReal)
  lb : ∀ k, V c main_v91 (ix2 0 k) = (W.l2b k : EReal)
  fw : ∀ k, V c main_v74 (ix2 0 k) = fw k
  fb : ∀ k, V c main_v75 (ix2 0 k) = fb k

variable {V}

set_option maxHeartbeats 2000000 in
theorem Real5.blocks {c : Dev nD} {W : Spec.Weights} {X : Fin 2048 → Fin 1024 → ℝ} {fw fb : Fin 1024 → EReal} (h : Real5 V c W X fw fb) (t : Fin cfg5.N) (ht : t.val < 4) :
    FfnReal W (fun r => X (row t ht r)) (Own.K5.iblk V c 0 t) (Own.K5.iblk V c 1 t) (Own.K5.iblk V c 2 t) (Own.K5.iblk V c 3 t)
      (Own.K5.iblk V c 4 t) (Own.K5.iblk V c 5 t) (Own.K5.iblk V c 6 t) where
  x r k := by
    refine Eq.trans ?_ (h.x _ _)
    blk_ext [Own.K5.iblk, index5 t, row]
  w1 k f := by
    refine Eq.trans ?_ (h.w1 _ _)
    blk_ext [Own.K5.iblk, index5 t]
  b1 f := by
    refine Eq.trans ?_ (h.b1 _)
    blk_ext [Own.K5.iblk, index5 t]
  w2 f k := by
    refine Eq.trans ?_ (h.w2 _ _)
    blk_ext [Own.K5.iblk, index5 t]
  b2 k := by
    refine Eq.trans ?_ (h.b2 _)
    blk_ext [Own.K5.iblk, index5 t]
  lw k := by
    refine Eq.trans ?_ (h.lw _)
    blk_ext [Own.K5.iblk, index5 t]
  lb k := by
    refine Eq.trans ?_ (h.lb _)
    blk_ext [Own.K5.iblk, index5 t]

/-- What the call leaves. -/
def finished (W : Spec.Weights) (X : Fin 2048 → Fin 1024 → ℝ) (fw fb : Fin 1024 → EReal) : S2048x1024.Idx → EReal := fun i =>
  ((Spec.normed (Spec.ffn W (X (i 0))) (i 1) : ℝ) : EReal) * fw (i 1) + fb (i 1)

theorem emb5 (t : Fin cfg5.N) (ht : t.val < 4) (r : Fin 512) (k : Fin 1024) :
    ((View.whole main_v92).slice (win5_9.rect t)).emb (ix2 r k) = ix2 (row t ht r) k := by
  blk_ext [index5 t, row]

set_option maxHeartbeats 2000000 in
theorem Real5.stored {c : Dev nD} {W : Spec.Weights} {X : Fin 2048 → Fin 1024 → ℝ} {fw fb : Fin 1024 → EReal} (h : Real5 V c W X fw fb) (t : Fin cfg5.N) (ht : t.val < 4)
    (r : Fin 512) (k : Fin 1024) :
    Own.K5.outsAt5 (Ix := Ix) (U := U) (Lvl := Lvl) 𝒱₀ V c t (ix2 r k) = finished W X fw fb (ix2 (row t ht r) k) := by
  have e7 : Own.K5.iblk V c 7 t (ix2 0 k) = fw k := by
    refine Eq.trans ?_ (h.fw _)
    blk_ext [Own.K5.iblk, index5 t]
  have e8 : Own.K5.iblk V c 8 t (ix2 0 k) = fb k := by
    refine Eq.trans ?_ (h.fb _)
    blk_ext [Own.K5.iblk, index5 t]
  refine Eq.trans ?_ (((h.blocks t ht).outf (Own.K5.iblk V c 7 t) (Own.K5.iblk V c 8 t) r k).trans
    (congrArg₂ (fun a b : EReal => ((Spec.normed (Spec.ffn W (X (row t ht r))) k : ℝ) : EReal) * a + b) e7 e8))
  unfold Own.K5.outsAt5
  frame_out

set_option maxHeartbeats 400000 in
theorem out5 {c : Dev nD} {W : Spec.Weights} {X : Fin 2048 → Fin 1024 → ℝ} {fw fb : Fin 1024 → EReal} (h : Real5 V c W X fw fb) :
    (Own.K5.dat 𝒱₀ V D c : Dat τ (Elt Ideal) Ix ℕ U Lvl cfg5 c).arrAt 9 cfg5.N = finished W X fw fb := by
  refine (Own.K5.dat 𝒱₀ V D c).arrAt_eq_of_covers 9 (finished W X fw fb) (by decide +kernel) fun t hf y => ?_
  have ht : t.val < 4 := lt_of_lt_of_eq t.isLt N_5
  blk_simp
  rw [Own.K5.after5_9]
  idx_vars y
  exact (h.stored 𝒱₀ t ht y0 y1).trans (congrArg (finished W X fw fb) (emb5 t ht y0 y1).symm)

end Cert.KernelIdeal.Blk

end
-- ==== Proof.Host.lean ====
/-
  The valuations of the run that the calls are entered at, and the result that the last of them holds.
-/
module

public import proofs.«01_k».proof.Proof.Run
public import proofs.«01_k».proof.Proof.Blk0
public import proofs.«01_k».proof.Proof.Blk1
public import proofs.«01_k».proof.Proof.Blk2
public import proofs.«01_k».proof.Proof.Blk3
public import proofs.«01_k».proof.Proof.Blk4
public import proofs.«01_k».proof.Proof.Blk5
public import Idealize.ShloMosaic.Lib.StableHlo.ReadAt

@[expose] public section

set_option maxRecDepth 16384

noncomputable section

namespace Cert.KernelIdeal.Run

open Idealize.ShloMosaic Idealize.ShloMosaic.TcCoe Cert.KernelIdeal Cert.KernelIdeal.Gen Cert.KernelIdeal.Blk

variable (m : (ℓ : Loc nD τ sig) → Buf (Elt Ideal) ℓ) (c : Dev nD)

/-- The arguments that the run is launched with. -/
def argsOf : Spec.Args where
  x := m ((c : Thread nD τ).loc main_arg0)
  mask := m ((c : Thread nD τ).loc main_arg1)
  wq := m ((c : Thread nD τ).loc main_arg2)
  bq := m ((c : Thread nD τ).loc main_arg3)
  wk := m ((c : Thread nD τ).loc main_arg4)
  bk := m ((c : Thread nD τ).loc main_arg5)
  wv := m ((c : Thread nD τ).loc main_arg6)
  bv := m ((c : Thread nD τ).loc main_arg7)
  wo := m ((c : Thread nD τ).loc main_arg8)
  bo := m ((c : Thread nD τ).loc main_arg9)
  l1w := m ((c : Thread nD τ).loc main_arg10)
  l1b := m ((c : Thread nD τ).loc main_arg11)
  w1 := m ((c : Thread nD τ).loc main_arg12)
  b1 := m ((c : Thread nD τ).loc main_arg13)
  w2 := m ((c : Thread nD τ).loc main_arg14)
  b2 := m ((c : Thread nD τ).loc main_arg15)
  l2w := m ((c : Thread nD τ).loc main_arg16)
  l2b := m ((c : Thread nD τ).loc main_arg17)
  fw := m ((c : Thread nD τ).loc main_arg18)
  fb := m ((c : Thread nD τ).loc main_arg19)

/-! ## The arguments at each stretch -/

theorem keep {r : Ref sig .tc} (h : r ∉ written) : U2 m c r = U0 m c r ∧ U4 m c r = U0 m c r ∧ U6 m c r = U0 m c r ∧ U8 m c r = U0 m c r ∧ U10 m c r = U0 m c r := by
  simp only [written, List.mem_append, List.mem_cons, List.not_mem_nil, or_false, not_or] at h
  obtain ⟨⟨⟨⟨⟨⟨⟨h0, h1⟩, h2⟩, h3⟩, h4⟩, h5⟩, h6⟩, r0, r1, r2, r3, r4, r5⟩ := h
  have k2 := (U2_of m c r r0).trans (U1_of m c r (by simpa using h0))
  have k4 := (U4_of m c r r1).trans ((U3_of m c r (by simpa using h1)).trans k2)
  have k6 := (U6_of m c r r2).trans ((U5_of m c r (by simpa using h2)).trans k4)
  have k8 := (U8_of m c r r3).trans ((U7_of m c r (by simpa using h3)).trans k6)
  have k10 := (U10_of m c r r4).trans ((U9_of m c r (by simpa using h4)).trans k8)
  exact ⟨k2, k4, k6, k8, k10⟩

/-! ## What each call is entered at -/

variable {m c}

section
variable (h : (argsOf m c).Real)
include h

theorem real0 : Real0 (fun c b => U1 m c b) c ((argsOf m c).weights 0) (argsOf m c).input where
  x r k := by
    refine Eq.trans ?_ (h.x (ix3 0 r k))
    show StableHlo.after hostOps0 (U0 m c) main_v0 (ix2 r k) = U0 m c main_arg0 (ix3 0 r k)
    after_reads_at
  wq k j := by
    refine Eq.trans ?_ (h.wq (ix3 0 k j))
    show StableHlo.after hostOps0 (U0 m c) main_v2 (ix2 k j) = U0 m c main_arg2 (ix3 0 k j)
    after_reads_at
  wk k j := by
    refine Eq.trans ?_ (h.wk (ix3 0 k j))
    show StableHlo.after hostOps0 (U0 m c) main_v4 (ix2 k j) = U0 m c main_arg4 (ix3 0 k j)
    after_reads_at
  wv k j := by
    refine Eq.trans ?_ (h.wv (ix3 0 k j))
    show StableHlo.after hostOps0 (U0 m c) main_v6 (ix2 k j) = U0 m c main_arg6 (ix3 0 k j)
    after_reads_at
  bq j := by
    refine Eq.trans ?_ (h.bq (ix2 0 j))
    show StableHlo.after hostOps0 (U0 m c) main_v9 (ix2 0 j) = U0 m c main_arg3 (ix2 0 j)
    after_reads_at
  bk j := by
    refine Eq.trans ?_ (h.bk (ix2 0 j))
    show StableHlo.after hostOps0 (U0 m c) main_v12 (ix2 0 j) = U0 m c main_arg5 (ix2 0 j)
    after_reads_at
  bv j := by
    refine Eq.trans ?_ (h.bv (ix2 0 j))
    show StableHlo.after hostOps0 (U0 m c) main_v15 (ix2 0 j) = U0 m c main_arg7 (ix2 0 j)
    after_reads_at

theorem real1 : Real1 (fun c b => U3 m c b) c ((argsOf m c).weights 0) (Spec.heads ((argsOf m c).weights 0) (argsOf m c).input) (argsOf m c).input where
  a n r d := (congrFun ((U3_of m c main_v16 (by decide)).trans ((U2_out m c).trans (Blk.out0 (fun _ => 0) (real0 h)))) (ix3 n r d)).trans (Pay.attended_apply _ _ n r d)
  x r k := (congrFun ((U3_of m c main_v0 (by decide)).trans (U2_of m c main_v0 (by decide))) (ix2 r k)).trans ((real0 h).x r k)
  w k j := by
    refine Eq.trans ?_ ((congrFun (keep m c (args_not_written main_arg8 (by decide)).1).1 (ix3 0 k j)).trans (h.wo _))
    show StableHlo.after hostOps1 (U2 m c) main_v18 (ix2 k j) = U2 m c main_arg8 (ix3 0 k j)
    after_reads_at
  b k := by
    refine Eq.trans ?_ ((congrFun (keep m c (args_not_written main_arg9 (by decide)).1).1 (ix2 0 k)).trans (h.bo _))
    show StableHlo.after hostOps1 (U2 m c) main_v21 (ix2 0 k) = U2 m c main_arg9 (ix2 0 k)
    after_reads_at
  lw k := by
    refine Eq.trans ?_ ((congrFun (keep m c (args_not_written main_arg10 (by decide)).1).1 (ix2 0 k)).trans (h.l1w _))
    show StableHlo.after hostOps1 (U2 m c) main_v24 (ix2 0 k) = U2 m c main_arg10 (ix2 0 k)
    after_reads_at
  lb k := by
    refine Eq.trans ?_ ((congrFun (keep m c (args_not_written main_arg11 (by decide)).1).1 (ix2 0 k)).trans (h.l1b _))
    show StableHlo.after hostOps1 (U2 m c) main_v27 (ix2 0 k) = U2 m c main_arg11 (ix2 0 k)
    after_reads_at

theorem real2 : Real2 (fun c b => U5 m c b) c ((argsOf m c).weights 0)
    (fun r => Spec.proj ((argsOf m c).weights 0) (Spec.heads ((argsOf m c).weights 0) (argsOf m c).input r) ((argsOf m c).input r)) where
  x r k := (congrFun ((U5_of m c main_v28 (by decide)).trans (U4_out m c)) (ix2 r k)).trans (Blk.out1 𝒱₀ (fun _ => 0) (real1 h) r k)
  w1 k f := by
    refine Eq.trans ?_ ((congrFun (keep m c (args_not_written main_arg12 (by decide)).1).2.1 (ix3 0 k f)).trans (h.w1 _))
    show StableHlo.after hostOps2 (U4 m c) main_v30 (ix2 k f) = U4 m c main_arg12 (ix3 0 k f)
    after_reads_at
  b1 f := by
    refine Eq.trans ?_ ((congrFun (keep m c (args_not_written main_arg13 (by decide)).1).2.1 (ix2 0 f)).trans (h.b1 _))
    show StableHlo.after hostOps2 (U4 m c) main_v33 (ix2 0 f) = U4 m c main_arg13 (ix2 0 f)
    after_reads_at
  w2 f k := by
    refine Eq.trans ?_ ((congrFun (keep m c (args_not_written main_arg14 (by decide)).1).2.1 (ix3 0 f k)).trans (h.w2 _))
    show StableHlo.after hostOps2 (U4 m c) main_v35 (ix2 f k) = U4 m c main_arg14 (ix3 0 f k)
    after_reads_at
  b2 k := by
    refine Eq.trans ?_ ((congrFun (keep m c (args_not_written main_arg15 (by decide)).1).2.1 (ix2 0 k)).trans (h.b2 _))
    show StableHlo.after hostOps2 (U4 m c) main_v38 (ix2 0 k) = U4 m c main_arg15 (ix2 0 k)
    after_reads_at
  lw k := by
    refine Eq.trans ?_ ((congrFun (keep m c (args_not_written main_arg16 (by decide)).1).2.1 (ix2 0 k)).trans (h.l2w _))
    show StableHlo.after hostOps2 (U4 m c) main_v41 (ix2 0 k) = U4 m c main_arg16 (ix2 0 k)
    after_reads_at
  lb k := by
    refine Eq.trans ?_ ((congrFun (keep m c (args_not_written main_arg17 (by decide)).1).2.1 (ix2 0 k)).trans (h.l2b _))
    show StableHlo.after hostOps2 (U4 m c) main_v44 (ix2 0 k) = U4 m c main_arg17 (ix2 0 k)
    after_reads_at

theorem real3 : Real3 (fun c b => U7 m c b) c ((argsOf m c).weights 1) (argsOf m c).mid where
  x r k := (congrFun ((U7_of m c main_v45 (by decide)).trans (U6_out m c)) (ix2 r k)).trans (Blk.out2 𝒱₀ (fun _ => 0) (real2 h) r k)
  wq k j := by
    refine Eq.trans ?_ ((congrFun (keep m c (args_not_written main_arg2 (by decide)).1).2.2.1 (ix3 1 k j)).trans (h.wq _))
    show StableHlo.after hostOps3 (U6 m c) main_v47 (ix2 k j) = U6 m c main_arg2 (ix3 1 k j)
    after_reads_at
  wk k j := by
    refine Eq.trans ?_ ((congrFun (keep m c (args_not_written main_arg4 (by decide)).1).2.2.1 (ix3 1 k j)).trans (h.wk _))
    show StableHlo.after hostOps3 (U6 m c) main_v49 (ix2 k j) = U6 m c main_arg4 (ix3 1 k j)
    after_reads_at
  wv k j := by
    refine Eq.trans ?_ ((congrFun (keep m c (args_not_written main_arg6 (by decide)).1).2.2.1 (ix3 1 k j)).trans (h.wv _))
    show StableHlo.after hostOps3 (U6 m c) main_v51 (ix2 k j) = U6 m c main_arg6 (ix3 1 k j)
    after_reads_at
  bq j := by
    refine Eq.trans ?_ ((congrFun (keep m c (args_not_written main_arg3 (by decide)).1).2.2.1 (ix2 1 j)).trans (h.bq _))
    show StableHlo.after hostOps3 (U6 m c) main_v54 (ix2 0 j) = U6 m c main_arg3 (ix2 1 j)
    after_reads_at
  bk j := by
    refine Eq.trans ?_ ((congrFun (keep m c (args_not_written main_arg5 (by decide)).1).2.2.1 (ix2 1 j)).trans (h.bk _))
    show StableHlo.after hostOps3 (U6 m c) main_v57 (ix2 0 j) = U6 m c main_arg5 (ix2 1 j)
    after_reads_at
  bv j := by
    refine Eq.trans ?_ ((congrFun (keep m c (args_not_written main_arg7 (by decide)).1).2.2.1 (ix2 1 j)).trans (h.bv _))
    show StableHlo.after hostOps3 (U6 m c) main_v60 (ix2 0 j) = U6 m c main_arg7 (ix2 1 j)
    after_reads_at

theorem real4 : Real4 (fun c b => U9 m c b) c ((argsOf m c).weights 1) (Spec.heads ((argsOf m c).weights 1) (argsOf m c).mid) (argsOf m c).mid where
  a n r d := (congrFun ((U9_of m c main_v61 (by decide)).trans ((U8_out m c).trans (Blk.out3 (fun _ => 0) (real3 h)))) (ix3 n r d)).trans (Pay.attended_apply _ _ n r d)
  x r k := (congrFun ((U9_of m c main_v45 (by decide)).trans (U8_of m c main_v45 (by decide))) (ix2 r k)).trans ((real3 h).x r k)
  w k j := by
    refine Eq.trans ?_ ((congrFun (keep m c (args_not_written main_arg8 (by decide)).1).2.2.2.1 (ix3 1 k j)).trans (h.wo _))
    show StableHlo.after hostOps4 (U8 m c) main_v63 (ix2 k j) = U8 m c main_arg8 (ix3 1 k j)
    after_reads_at
  b k := by
    refine Eq.trans ?_ ((congrFun (keep m c (args_not_written main_arg9 (by decide)).1).2.2.2.1 (ix2 1 k)).trans (h.bo _))
    show StableHlo.after hostOps4 (U8 m c) main_v66 (ix2 0 k) = U8 m c main_arg9 (ix2 1 k)
    after_reads_at
  lw k := by
    refine Eq.trans ?_ ((congrFun (keep m c (args_not_written main_arg10 (by decide)).1).2.2.2.1 (ix2 1 k)).trans (h.l1w _))
    show StableHlo.after hostOps4 (U8 m c) main_v69 (ix2 0 k) = U8 m c main_arg10 (ix2 1 k)
    after_reads_at
  lb k := by
    refine Eq.trans ?_ ((congrFun (keep m c (args_not_written main_arg11 (by decide)).1).2.2.2.1 (ix2 1 k)).trans (h.l1b _))
    show StableHlo.after hostOps4 (U8 m c) main_v72 (ix2 0 k) = U8 m c main_arg11 (ix2 1 k)
    after_reads_at

theorem real5 : Real5 (fun c b => U11 m c b) c ((argsOf m c).weights 1)
    (fun r => Spec.proj ((argsOf m c).weights 1) (Spec.heads ((argsOf m c).weights 1) (argsOf m c).mid r) ((argsOf m c).mid r))
    (fun k => (argsOf m c).fw (ix1 k)) (fun k => (argsOf m c).fb (ix1 k)) where
  x r k := (congrFun ((U11_of m c main_v73 (by decide)).trans (U10_out m c)) (ix2 r k)).trans (Blk.out4 𝒱₀ (fun _ => 0) (real4 h) r k)
  w1 k f := by
    refine Eq.trans ?_ ((congrFun (keep m c (args_not_written main_arg12 (by decide)).1).2.2.2.2 (ix3 1 k f)).trans (h.w1 _))
    show StableHlo.after hostOps5 (U10 m c) main_v77 (ix2 k f) = U10 m c main_arg12 (ix3 1 k f)
    after_reads_at
  b1 f := by
    refine Eq.trans ?_ ((congrFun (keep m c (args_not_written main_arg13 (by decide)).1).2.2.2.2 (ix2 1 f)).trans (h.b1 _))
    show StableHlo.after hostOps5 (U10 m c) main_v80 (ix2 0 f) = U10 m c main_arg13 (ix2 1 f)
    after_reads_at
  w2 f k := by
    refine Eq.trans ?_ ((congrFun (keep m c (args_not_written main_arg14 (by decide)).1).2.2.2.2 (ix3 1 f k)).trans (h.w2 _))
    show StableHlo.after hostOps5 (U10 m c) main_v82 (ix2 f k) = U10 m c main_arg14 (ix3 1 f k)
    after_reads_at
  b2 k := by
    refine Eq.trans ?_ ((congrFun (keep m c (args_not_written main_arg15 (by decide)).1).2.2.2.2 (ix2 1 k)).trans (h.b2 _))
    show StableHlo.after hostOps5 (U10 m c) main_v85 (ix2 0 k) = U10 m c main_arg15 (ix2 1 k)
    after_reads_at
  lw k := by
    refine Eq.trans ?_ ((congrFun (keep m c (args_not_written main_arg16 (by decide)).1).2.2.2.2 (ix2 1 k)).trans (h.l2w _))
    show StableHlo.after hostOps5 (U10 m c) main_v88 (ix2 0 k) = U10 m c main_arg16 (ix2 1 k)
    after_reads_at
  lb k := by
    refine Eq.trans ?_ ((congrFun (keep m c (args_not_written main_arg17 (by decide)).1).2.2.2.2 (ix2 1 k)).trans (h.l2b _))
    show StableHlo.after hostOps5 (U10 m c) main_v91 (ix2 0 k) = U10 m c main_arg17 (ix2 1 k)
    after_reads_at
  fw k := by
    refine Eq.trans ?_ (congrFun (keep m c (args_not_written main_arg18 (by decide)).1).2.2.2.2 (ix1 k))
    show StableHlo.after hostOps5 (U10 m c) main_v74 (ix2 0 k) = U10 m c main_arg18 (ix1 k)
    after_reads_at
  fb k := by
    refine Eq.trans ?_ (congrFun (keep m c (args_not_written main_arg19 (by decide)).1).2.2.2.2 (ix1 k))
    show StableHlo.after hostOps5 (U10 m c) main_v75 (ix2 0 k) = U10 m c main_arg19 (ix1 k)
    after_reads_at

/-- The run's result, of arguments that hold real numbers. -/
theorem result (r : Fin 2048) (k : Fin 1024) : U13 m c main_v93 (ix3 0 r k) = (argsOf m c).result r k := by
  refine Eq.trans ?_ (congrFun ((U12_out m c).trans (Blk.out5 𝒱₀ (fun _ => 0) (real5 h))) (ix2 r k))
  show StableHlo.after hostOps6 (U12 m c) main_v93 (ix3 0 r k) = U12 m c main_v92 (ix2 r k)
  after_reads_at

end

end Cert.KernelIdeal.Run

end
-- ==== Proof.Pre.lean ====
/-
  What the precondition says of the arguments: the mask is one everywhere and every array it names holds real numbers.
-/
module

public import proofs.«01_k».proof.Pre_unmasked_finite
public import proofs.«01_k».proof.Proof.Gen.Pre_unmasked_finite
public import proofs.«01_k».proof.Proof.Spec
public import Idealize.ShloMosaic.Lib.ReduceAll
public import Idealize.ShloMosaic.Lib.Affine

@[expose] public section

set_option maxRecDepth 16384

noncomputable section

namespace Cert.Pre_unmasked_finite

open Idealize.ShloMosaic Facts

instance : Subsingleton S_.Idx := ⟨fun _ _ => funext fun i => i.elim0⟩

theorem real_of_lt {x : EReal} (h : max x (-x) < ⊤) : x = ((x.toReal : ℝ) : EReal) := by
  refine (EReal.coe_toReal (fun e => ?_) fun e => ?_).symm
  · subst e; simp at h
  · subst e; simp at h

/-- All of an array's magnitudes below infinity: the array holds real numbers. -/
theorem isReal_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) : Spec.IsReal x := fun i => by
  have h := Host.reduce_andi_all _ _ hr hu j e i
  have h : Ideal.cmp .olt (max (x i) (-x i)) (Ideal.ofBits .f32 0x7F800000#32) = 1#1 := h
  rw [show Ideal.ofBits .f32 0x7F800000#32 = ⊤ by simp [Ideal.ofBits, Ideal.ieee]] at h
  refine real_of_lt (by_contra fun hn => ?_)
  simp only [Ideal.cmp, decide_eq_false hn] at h
  exact absurd h (by decide)

variable [Cert.Pre_unmasked_finite.Facts]

theorem real_of_pre {a : Spec.Args} (h : fn (F := Ideal) a.x a.mask a.wq a.bq a.wk a.bk a.wv a.bv a.wo a.bo a.l1w a.l1b a.w1 a.b1 a.w2 a.b2 a.l2w a.l2b a.fw a.fb
    = fun _ => 1#1) : a.Real := by
  have h := congrFun h (Shape.Idx.first h_S_)
  simp only [fn, fn_part1, fn_part2, fn_part3, fn_part4, fn_part5] at h
  obtain ⟨h, h17⟩ := IntOp.andi_eq_one.1 h
  obtain ⟨h, h16⟩ := IntOp.andi_eq_one.1 h
  obtain ⟨h, h15⟩ := IntOp.andi_eq_one.1 h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h1, h0⟩ := IntOp.andi_eq_one.1 h
  exact
    { mask := fun i => IntOp.cmpi_eq.1 (Host.reduce_andi_all _ _ _ _ _ h1 i)
      x := isReal_of_all _ _ _ _ _ h0, wq := isReal_of_all _ _ _ _ _ h2, bq := isReal_of_all _ _ _ _ _ h3, wk := isReal_of_all _ _ _ _ _ h4
      bk := isReal_of_all _ _ _ _ _ h5, wv := isReal_of_all _ _ _ _ _ h6, bv := isReal_of_all _ _ _ _ _ h7, wo := isReal_of_all _ _ _ _ _ h8
      bo := isReal_of_all _ _ _ _ _ h9, l1w := isReal_of_all _ _ _ _ _ h10, l1b := isReal_of_all _ _ _ _ _ h11, w1 := isReal_of_all _ _ _ _ _ h12
      b1 := isReal_of_all _ _ _ _ _ h13, w2 := isReal_of_all _ _ _ _ _ h14, b2 := isReal_of_all _ _ _ _ _ h15, l2w := isReal_of_all _ _ _ _ _ h16
      l2b := isReal_of_all _ _ _ _ _ h17 }

end Cert.Pre_unmasked_finite

end
-- ==== Proof.Ref.lean ====
/-
  The reference's stages as functions of their operands: one layer and the last layer norm are these, and so is each stage
  that the generated module names.
-/
module

public import proofs.«01_k».proof.Proof.Gen.ReferenceIdeal.Read
public import proofs.«01_k».proof.Proof.Spec

@[expose] public section

set_option maxRecDepth 16384

noncomputable section

namespace Cert.ReferenceIdeal.Stages

open Idealize.ShloMosaic Cert.ReferenceIdeal Cert.ReferenceIdeal.Gen Cert.ReferenceIdeal.Facts Cert.ReferenceIdeal.Read

/-! ## The stages -/

abbrev V (s : Shape) : Type := FVec Ideal s .f32

def row (b : V S1024) : V S1x2048x1024 :=
  broadcastInDim S1x2048x1024 ![0, 1, 2] bcast_S1x1x1024_S1x2048x1024_0_1_2 (broadcastInDim S1x1x1024 ![2] bcast_S1024_S1x1x1024_2 b)

def lin (x : V S1x2048x1024) (w : V S1024x1024) (b : V S1024) : V S1x2048x1024 :=
  addf (Host.dotGeneral dot_S1x2048x1024_S1024x1024_S1x2048x1024_2_0_01_1_n_n none x w) (row b)

def col (s : V S1x2048) : V S1x2048x1 := broadcastInDim S1x2048x1 ![0, 1] bcast_S1x2048_S1x2048x1_0_1 s
def across (s : V S1x2048x1) : V S1x2048x1024 := broadcastInDim S1x2048x1024 ![0, 1, 2] bcast_S1x2048x1_S1x2048x1024_0_1_2 s
def scalarCol (b : BitVec 32) : V S1x2048x1 := broadcastInDim S1x2048x1 ![] bcast_S_S1x2048x1 (constant S_ .f32 b)

def mean (u : V S1x2048x1024) : V S1x2048x1 :=
  Host.divf (col (Host.reduceAdd u (constant S_ .f32 0x00000000#32) reducesTo_S1x2048x1024_S1x2048_d2 h_S_)) (scalarCol 0x44800000#32)
def dev (u : V S1x2048x1024) : V S1x2048x1024 := subf u (across (mean u))
def root (u : V S1x2048x1024) : V S1x2048x1 := Host.sqrt (addf (mean (mulf (dev u) (dev u))) (scalarCol 0x3727C5AC#32))
def ln (u : V S1x2048x1024) (w b : V S1024) : V S1x2048x1024 :=
  addf (mulf (Host.divf (dev u) (across (root u))) (row w)) (row b)

def ffn (x : V S1x2048x1024) (w1 : V S1024x4096) (b1 : V S4096) (w2 : V S4096x1024) (b2 : V S1024) : V S1x2048x1024 :=
  addf x (addf (Host.dotGeneral dot_S1x2048x4096_S4096x1024_S1x2048x1024_2_0_01_1_n_n none
    (maximumf (addf (Host.dotGeneral dot_S1x2048x1024_S1024x4096_S1x2048x4096_2_0_01_1_n_n none x w1)
      (broadcastInDim S1x2048x4096 ![0, 1, 2] bcast_S1x1x4096_S1x2048x4096_0_1_2 (broadcastInDim S1x1x4096 ![2] bcast_S4096_S1x1x4096_2 b1)))
      (broadcastInDim S1x2048x4096 ![] bcast_S_S1x2048x4096 (constant S_ .f32 0x00000000#32))) w2) (row b2))

/-! ### Attention -/

def cut (x : V S1x2048x1024) : V S1x2048x16x64 := shapeCast _ x shapeCasts_S1x2048x1024_S1x2048x16x64

/-- Which keys are attended to: those whose number is below the sum of the mask. -/
def keys (x1 : IVec S1x2048 32) : IVec S1x2048 1 :=
  cmpi .slt (broadcastInDim S1x2048 ![1] bcast_S2048_S1x2048_1 (iotaInDim S2048 32 0))
    (broadcastInDim S1x2048 ![0, 1] bcast_S1x1_S1x2048_0_1 (broadcastInDim S1x1 ![0] bcast_S1_S1x1_0
      (Host.reduce IntOp.addi x1 (constantI S_ 32 0#32) reducesTo_S1x2048_S1_d1 h_S_)))

def scores (x1 : IVec S1x2048 32) (q k : V S1x2048x16x64) : V S1x16x2048x2048 :=
  select (broadcastInDim S1x16x2048x2048 ![0, 1, 2, 3] bcast_S1x1x1x2048_S1x16x2048x2048_0_1_2_3
      (broadcastInDim S1x1x1x2048 ![0, 3] bcast_S1x2048_S1x1x1x2048_0_3 (keys x1)))
    (mulf (Host.dotGeneral dot_S1x2048x16x64_S1x2048x16x64_S1x16x2048x2048_3_3_1_1_02_02 none q k)
      (broadcastInDim S1x16x2048x2048 ![] bcast_S_S1x16x2048x2048
        (Host.divf (constant S_ .f32 0x3F800000#32) (Host.sqrt (constant S_ .f32 0x42800000#32)))))
    (broadcastInDim S1x16x2048x2048 ![] bcast_S_S1x16x2048x2048 (constant S_ .f32 0xCE6E6B28#32))

def wide (m : V S1x16x2048) : V S1x16x2048x2048 :=
  broadcastInDim S1x16x2048x2048 ![0, 1, 2, 3] bcast_S1x16x2048x1_S1x16x2048x2048_0_1_2_3
    (broadcastInDim S1x16x2048x1 ![0, 1, 2] bcast_S1x16x2048_S1x16x2048x1_0_1_2 m)

def greatest (s : V S1x16x2048x2048) : V S1x16x2048 :=
  maximumf (broadcastInDim S1x16x2048 ![] bcast_S_S1x16x2048 (constant S_ .f32 0xFF800000#32))
    (Host.reduce FloatOps.maximumf s (constant S_ .f32 0xFF800000#32) reducesTo_S1x16x2048x2048_S1x16x2048_d3 h_S_)

def exps (s : V S1x16x2048x2048) : V S1x16x2048x2048 := Host.exp (subf s (wide (greatest s)))

def softmax (s : V S1x16x2048x2048) : V S1x16x2048x2048 :=
  Host.divf (exps s) (wide (Host.reduceAdd (exps s) (constant S_ .f32 0x00000000#32) reducesTo_S1x16x2048x2048_S1x16x2048_d3 h_S_))

def att (x1 : IVec S1x2048 32) (q k v : V S1x2048x1024) : V S1x2048x1024 :=
  shapeCast _ (transpose S1x2048x16x64 [0, 3, 1, 2]
    (Host.dotGeneral dot_S1x2048x16x64_S1x16x2048x2048_S1x16x64x2048_1_3_3_2_02_01 none (cut v) (softmax (scores x1 (cut q) (cut k))))
    transposes_S1x16x64x2048_S1x2048x16x64_0_3_1_2) shapeCasts_S1x2048x16x64_S1x2048x1024

/-! ## What they are at an index -/

theorem lin_apply (x : V S1x2048x1024) (w : V S1024x1024) (b : V S1024) (r : Fin 2048) (c : Fin 1024) :
    lin x w b (ix3 0 r c) = (∑ k : Fin 1024, x (ix3 0 r k) * w (ix2 k c)) + b (ix1 c) := by
  pointwise [lin, row]

theorem mean_apply (u : V S1x2048x1024) (r : Fin 2048) :
    mean u (ix3 0 r 0) = Ideal.div (∑ k : Fin 1024, u (ix3 0 r k)) (Ideal.ofBits .f32 0x44800000#32) := by
  pointwise [mean, col, scalarCol]

theorem dev_apply (u : V S1x2048x1024) (r : Fin 2048) (c : Fin 1024) :
    dev u (ix3 0 r c) = u (ix3 0 r c) - mean u (ix3 0 r 0) := by
  pointwise [dev, across]

theorem ln_apply (u : V S1x2048x1024) (w b : V S1024) (r : Fin 2048) (c : Fin 1024) :
    ln u w b (ix3 0 r c) = Ideal.div (dev u (ix3 0 r c))
      (Ideal.sqrt (Ideal.div (∑ k : Fin 1024, dev u (ix3 0 r k) * dev u (ix3 0 r k)) (Ideal.ofBits .f32 0x44800000#32)
        + Ideal.ofBits .f32 0x3727C5AC#32)) * w (ix1 c) + b (ix1 c) := by
  pointwise [ln, row, across, root, scalarCol, mean_apply]

theorem ffn_apply (x : V S1x2048x1024) (w1 : V S1024x4096) (b1 : V S4096) (w2 : V S4096x1024) (b2 : V S1024) (r : Fin 2048)
    (c : Fin 1024) :
    ffn x w1 b1 w2 b2 (ix3 0 r c) = x (ix3 0 r c) + ((∑ f : Fin 4096,
      max ((∑ k : Fin 1024, x (ix3 0 r k) * w1 (ix2 k f)) + b1 (ix1 f)) 0 * w2 (ix2 f c)) + b2 (ix1 c)) := by
  pointwise [ffn, row]

/-! ## Real operands -/

section
variable {x u : V S1x2048x1024} {w1 : V S1024x4096} {b1 : V S4096} {w2 : V S4096x1024} {w b2 b : V S1024} {wm : V S1024x1024}
  {X U : Fin 2048 → Fin 1024 → ℝ} {WM : Fin 1024 → Fin 1024 → ℝ} {W B : Fin 1024 → ℝ}

theorem lin_real (hx : ∀ r c, x (ix3 0 r c) = (X r c : EReal)) (hw : ∀ k c, wm (ix2 k c) = (WM k c : EReal))
    (hb : ∀ c, b (ix1 c) = (B c : EReal)) (r : Fin 2048) (c : Fin 1024) : lin x wm b (ix3 0 r c) = (Spec.lin (X r) WM B c : ℝ) := by
  rw [lin_apply]
  exact Spec.lin_coe (hx r) (fun k => hw k c) (hb c)

theorem dev_real (hu : ∀ r c, u (ix3 0 r c) = (U r c : EReal)) (r : Fin 2048) (c : Fin 1024) :
    dev u (ix3 0 r c) = (Spec.dev (U r) c : ℝ) := by
  rw [dev_apply, mean_apply]
  exact Spec.dev_coe (u := fun c => u (ix3 0 r c)) (hu r) c

/-- The weights may be any extended reals. -/
theorem ln_normed (hu : ∀ r c, u (ix3 0 r c) = (U r c : EReal)) (w b : V S1024) (r : Fin 2048) (c : Fin 1024) :
    ln u w b (ix3 0 r c) = (Spec.normed (U r) c : ℝ) * w (ix1 c) + b (ix1 c) := by
  rw [ln_apply, Spec.normed_div (d := fun k => dev u (ix3 0 r k)) (dev_real hu r) c]

theorem ln_real (hu : ∀ r c, u (ix3 0 r c) = (U r c : EReal)) (hw : ∀ c, w (ix1 c) = (W c : EReal)) (hb : ∀ c, b (ix1 c) = (B c : EReal))
    (r : Fin 2048) (c : Fin 1024) : ln u w b (ix3 0 r c) = (Spec.ln W B (U r) c : ℝ) := by
  rw [ln_normed hu]
  exact Spec.affine_coe rfl (hw c) (hb c)

theorem ffn_real {WW : Spec.Weights} (hx : ∀ r c, x (ix3 0 r c) = (X r c : EReal)) (h1 : ∀ k f, w1 (ix2 k f) = (WW.w1 k f : EReal))
    (hb1 : ∀ f, b1 (ix1 f) = (WW.b1 f : EReal)) (h2 : ∀ f c, w2 (ix2 f c) = (WW.w2 f c : EReal)) (hb2 : ∀ c, b2 (ix1 c) = (WW.b2 c : EReal))
    (r : Fin 2048) (c : Fin 1024) : ffn x w1 b1 w2 b2 (ix3 0 r c) = (Spec.ffnSum WW (X r) c : ℝ) := by
  rw [ffn_apply, Spec.lin_coe (c := c) (fun f => Spec.max_coe (Spec.lin_coe (hx r) (fun k => h1 k f) (hb1 f))) (fun f => h2 f c) (hb2 c), hx,
    ← EReal.coe_add, Spec.ffnSum]

end

end Cert.ReferenceIdeal.Stages

end
-- ==== Proof.RefAtt.lean ====
/-
  The reference's attention, of operands that hold real numbers.
-/
module

public import proofs.«01_k».proof.Proof.Ref

@[expose] public section

set_option maxRecDepth 16384

noncomputable section

namespace Cert.ReferenceIdeal.Stages

open Idealize.ShloMosaic Cert.ReferenceIdeal Cert.ReferenceIdeal.Gen Cert.ReferenceIdeal.Facts Cert.ReferenceIdeal.Read

theorem cut_apply (x : V S1x2048x1024) (r : Fin 2048) (h : Fin 16) (d : Fin 64) : cut x (ix4 0 r h d) = x (ix3 0 r (Spec.lane h d)) := by
  pointwise [cut]
  rfl

theorem keys_apply (x1 : IVec S1x2048 32) (t : Fin 2048) :
    keys x1 (ix2 0 t) = IntOp.cmpi .slt (BitVec.ofNat 32 t) (Finset.univ.fold IntOp.addi (0#32) fun k : Fin 2048 => x1 (ix2 0 k)) := by
  pointwise [keys]

theorem scores_apply (x1 : IVec S1x2048 32) (q k : V S1x2048x16x64) (h : Fin 16) (r t : Fin 2048) :
    scores x1 q k (ix4 0 h r t) = Scalar.select (keys x1 (ix2 0 t)) ((∑ d : Fin 64, q (ix4 0 r h d) * k (ix4 0 t h d)) *
      Ideal.div (Ideal.ofBits .f32 0x3F800000#32) (Ideal.sqrt (Ideal.ofBits .f32 0x42800000#32))) (Ideal.ofBits .f32 0xCE6E6B28#32) := by
  pointwise [scores]

/-- A maximum of real numbers along an axis, from the least extended real. -/
theorem reduce_max_real {s t u : Shape} {a : Fin s.rank} (x : FVec Ideal s .f32) (init : FVec Ideal u .f32) (h' : s.ReducesTo [a] t)
    (h : s.Reduces [a] t) (hu : 0 < u.numel) [Nonempty (Fin (s.size a))] (hi : init (Shape.Idx.first hu) = (⊥ : EReal))
    (hx : ∀ i, ∃ r : ℝ, x i = (r : EReal)) (j : t.Idx) : ∃ M : ℝ, Host.reduce FloatOps.maximumf x init h' hu j = (M : EReal) := by
  rw [Host.reduce_eq_fold_single _ _ _ _ h, hi]
  exact Spec.exists_max fun k => hx _

/-- Real scores have a real maximum. -/
theorem greatest_real (s : V S1x16x2048x2048) (hs : ∀ i, ∃ x : ℝ, s i = (x : EReal)) (j : S1x16x2048.Idx) :
    ∃ M : ℝ, greatest s j = (M : EReal) := by
  haveI : Nonempty (Fin (S1x16x2048x2048.size 3)) := ⟨⟨0, by decide⟩⟩
  obtain ⟨M, hM⟩ := reduce_max_real s (constant S_ .f32 0xFF800000#32) reducesTo_S1x16x2048x2048_S1x16x2048_d3 (by decide) h_S_
    Spec.word_bot hs j
  refine ⟨M, ?_⟩
  unfold greatest
  rw [maximumf_apply, hM]
  exact (congrArg (max · _) Spec.word_bot).trans (max_bot_left _)

theorem exps_apply (s : V S1x16x2048x2048) (h : Fin 16) (r t : Fin 2048) :
    exps s (ix4 0 h r t) = Ideal.exp (s (ix4 0 h r t) - greatest s (ix3 0 h r)) := by
  pointwise [exps, wide]

theorem softmax_apply (s : V S1x16x2048x2048) (h : Fin 16) (r t : Fin 2048) :
    softmax s (ix4 0 h r t) = Ideal.div (exps s (ix4 0 h r t)) (∑ t' : Fin 2048, exps s (ix4 0 h r t')) := by
  pointwise [softmax, wide]

theorem att_apply (x1 : IVec S1x2048 32) (q k v : V S1x2048x1024) (r : Fin 2048) (c : Fin 1024) :
    att x1 q k v (ix3 0 r c) = ∑ t : Fin 2048, cut v (ix4 0 t ⟨c / 64, by omega⟩ ⟨c % 64, by omega⟩) *
      softmax (scores x1 (cut q) (cut k)) (ix4 0 ⟨c / 64, by omega⟩ r t) := by
  pointwise [att]

/-! ## Real operands -/

theorem fold_ones {α : Type} (s : Finset α) : s.fold IntOp.addi (0#32) (fun _ => 1#32) = BitVec.ofNat 32 s.card := by
  classical
  induction s using Finset.induction_on with
  | empty => rfl
  | insert a s ha ih =>
    rw [Finset.fold_insert ha, ih, Finset.card_insert_of_notMem ha, Nat.add_comm, BitVec.ofNat_add]
    rfl

/-- A mask of ones attends to every key. -/
theorem keys_ones (x1 : IVec S1x2048 32) (h : ∀ t, x1 (ix2 0 t) = 1#32) (t : Fin 2048) : keys x1 (ix2 0 t) = 1#1 := by
  rw [keys_apply]
  simp only [h]
  rw [fold_ones, Finset.card_univ, Fintype.card_fin]
  have ht := t.isLt
  have : (BitVec.ofNat 32 (t : ℕ)).slt (BitVec.ofNat 32 2048) = true := by
    rw [BitVec.slt, decide_eq_true_eq, BitVec.toInt_eq_toNat_of_lt (by rw [BitVec.toNat_ofNat]; omega), BitVec.toNat_ofNat,
      show (BitVec.ofNat 32 2048).toInt = 2048 from by decide]
    omega
  show BitVec.ofBool ((BitVec.ofNat 32 (t : ℕ)).slt (BitVec.ofNat 32 2048)) = 1#1
  rw [this]
  rfl

section
variable {x1 : IVec S1x2048 32} {q k v : V S1x2048x1024} {Q K U : Fin 2048 → Fin 1024 → ℝ}

theorem scores_real (h1 : ∀ t, x1 (ix2 0 t) = 1#32) (hq : ∀ r c, q (ix3 0 r c) = (Q r c : EReal)) (hk : ∀ r c, k (ix3 0 r c) = (K r c : EReal))
    (h : Fin 16) (r t : Fin 2048) :
    scores x1 (cut q) (cut k) (ix4 0 h r t) = (((∑ d, Q r (Spec.lane h d) * K t (Spec.lane h d)) / 8 : ℝ) : EReal) := by
  have e : Real.sqrt 64 = 8 := by rw [show (64 : ℝ) = 8 ^ 2 by norm_num]; exact Real.sqrt_sq (by norm_num)
  rw [scores_apply, keys_ones x1 h1, Ideal.ofBits_one_f32, Spec.word_64, Spec.sqrt_coe (by norm_num), e]
  simp only [cut_apply, hq, hk, ← EReal.coe_mul, Spec.coe_sum]
  rw [← EReal.coe_one, Spec.coe_div (by norm_num), ← EReal.coe_mul, mul_one_div]
  rfl

theorem att_real (h1 : ∀ t, x1 (ix2 0 t) = 1#32) (hq : ∀ r c, q (ix3 0 r c) = (Q r c : EReal)) (hk : ∀ r c, k (ix3 0 r c) = (K r c : EReal))
    (hv : ∀ r c, v (ix3 0 r c) = (U r c : EReal)) (r : Fin 2048) (c : Fin 1024) :
    att x1 q k v (ix3 0 r c) = (Spec.att Q K U ⟨c / 64, by omega⟩ r ⟨c % 64, by omega⟩ : ℝ) := by
  rw [att_apply]
  generalize (⟨c / 64, _⟩ : Fin 16) = h
  generalize (⟨c % 64, _⟩ : Fin 64) = e
  obtain ⟨M, hM⟩ := greatest_real (scores x1 (cut q) (cut k)) (fun i => by
    idx_vars i
    obtain rfl : i0 = 0 := Subsingleton.elim _ _
    exact ⟨_, scores_real h1 hq hk _ _ _⟩) (ix3 0 h r)
  simp only [softmax_apply, exps_apply, hM, scores_real h1 hq hk, cut_apply, hv, ← EReal.coe_sub, Ideal.exp_coe, Spec.coe_sum,
    Spec.coe_div (Spec.sum_exp_pos _).ne', ← EReal.coe_mul, Spec.softmax_shift]
  rfl

end

end Cert.ReferenceIdeal.Stages

end
-- ==== Proof.RefLayer.lean ====
/-
  The reference's result: its two layers are one function of their operands, and of real operands it is the layer over the reals.
-/
module

public import proofs.«01_k».proof.Proof.RefAtt

@[expose] public section

set_option maxRecDepth 16384

noncomputable section

namespace Cert.ReferenceIdeal.Stages

open Idealize.ShloMosaic Cert.ReferenceIdeal Cert.ReferenceIdeal.Gen Cert.ReferenceIdeal.Facts Cert.ReferenceIdeal.Read

/-- A layer's operands. -/
structure Ops where
  (wq wk wv wo : V S1024x1024)
  (bq bk bv bo l1w l1b : V S1024)
  (w1 : V S1024x4096) (b1 : V S4096)
  (w2 : V S4096x1024) (b2 l2w l2b : V S1024)

def heads (o : Ops) (x1 : IVec S1x2048 32) (x : V S1x2048x1024) : V S1x2048x1024 :=
  att x1 (lin x o.wq o.bq) (lin x o.wk o.bk) (lin x o.wv o.bv)
def proj (o : Ops) (a x : V S1x2048x1024) : V S1x2048x1024 := ln (addf x (lin a o.wo o.bo)) o.l1w o.l1b
def feed (o : Ops) (x : V S1x2048x1024) : V S1x2048x1024 := ln (ffn x o.w1 o.b1 o.w2 o.b2) o.l2w o.l2b
def layer (o : Ops) (x1 : IVec S1x2048 32) (x : V S1x2048x1024) : V S1x2048x1024 := feed o (proj o (heads o x1 x) x)

def ops0 (a : Spec.Args) : Ops where
  wq := val_main_v9 (F := Ideal) a.wq
  wk := val_main_v9 (F := Ideal) a.wk
  wv := val_main_v9 (F := Ideal) a.wv
  wo := val_main_v9 (F := Ideal) a.wo
  bq := val_main_v12 (F := Ideal) a.bq
  bk := val_main_v12 (F := Ideal) a.bk
  bv := val_main_v12 (F := Ideal) a.bv
  bo := val_main_v12 (F := Ideal) a.bo
  l1w := val_main_v12 (F := Ideal) a.l1w
  l1b := val_main_v12 (F := Ideal) a.l1b
  w1 := val_main_v92 (F := Ideal) a.w1
  b1 := val_main_v95 (F := Ideal) a.b1
  w2 := val_main_v101 (F := Ideal) a.w2
  b2 := val_main_v12 (F := Ideal) a.b2
  l2w := val_main_v12 (F := Ideal) a.l2w
  l2b := val_main_v12 (F := Ideal) a.l2b

def ops1 (a : Spec.Args) : Ops where
  wq := val_main_v138 (F := Ideal) a.wq
  wk := val_main_v138 (F := Ideal) a.wk
  wv := val_main_v138 (F := Ideal) a.wv
  wo := val_main_v138 (F := Ideal) a.wo
  bq := val_main_v141 (F := Ideal) a.bq
  bk := val_main_v141 (F := Ideal) a.bk
  bv := val_main_v141 (F := Ideal) a.bv
  bo := val_main_v141 (F := Ideal) a.bo
  l1w := val_main_v141 (F := Ideal) a.l1w
  l1b := val_main_v141 (F := Ideal) a.l1b
  w1 := val_main_v221 (F := Ideal) a.w1
  b1 := val_main_v224 (F := Ideal) a.b1
  w2 := val_main_v230 (F := Ideal) a.w2
  b2 := val_main_v141 (F := Ideal) a.b2
  l2w := val_main_v141 (F := Ideal) a.l2w
  l2b := val_main_v141 (F := Ideal) a.l2b

/-! ## The generated module's terms are these -/

section
variable (a : Spec.Args)

theorem heads0 : val_main_v53 (F := Ideal) a.x a.mask a.wq a.bq a.wk a.bk a.wv a.bv
    = heads (ops0 a) a.mask a.x := by
  unfold val_main_v53 val_main_v52 val_main_v51 val_main_v50 val_main_v49 val_main_v48 val_main_v47 val_main_cst_4 val_main_v46 val_main_v45
    val_main_v44 val_main_v43 val_main_v42 val_main_v41 val_main_cst_3 val_main_v40 val_main_cst_2 val_main_v39 val_main_call0_v1
    val_main_call0_v0 val_main_cst_1 val_main_v38 val_main_v37 val_main_v36 val_main_v35 val_main_v34 val_main_v33 val_main_v32 val_main_v31
    val_main_v30 val_main_v29 val_main_v28 val_main_v27 val_main_v26 val_main_v25 val_main_v24 val_main_v23 val_main_v22 val_main_v21
    val_main_v20 val_main_v19 val_main_v18 val_main_v17 val_main_v16 val_main_v15 val_main_v14 val_main_v13 val_main_v12 val_main_v11
    val_main_v10 val_main_v9 val_main_v8 val_main_v7 val_main_cst_0 val_main_v6 val_main_cst val_main_v5 val_main_v4 val_main_v3 val_main_v2
    val_main_v1 val_main_v0 val_main_c
  unfold heads att softmax exps greatest wide scores keys cut lin row
  rfl

theorem proj0 : val_main_v90 (F := Ideal) a.x a.mask a.wq a.bq a.wk a.bk a.wv a.bv a.wo a.bo a.l1w a.l1b
    = proj (ops0 a) (val_main_v53 (F := Ideal) a.x a.mask a.wq a.bq a.wk a.bk a.wv a.bv) a.x := by
  unfold val_main_v90 val_main_v89 val_main_v88 val_main_v87 val_main_v86 val_main_v85 val_main_v84 val_main_v83 val_main_v82 val_main_v81
    val_main_v80 val_main_cst_9 val_main_v79 val_main_v78 val_main_v77 val_main_v76 val_main_cst_8 val_main_v75 val_main_v74 val_main_cst_7
    val_main_v73 val_main_v72 val_main_v71 val_main_v70 val_main_v69 val_main_cst_6 val_main_v68 val_main_v67 val_main_cst_5 val_main_v66
    val_main_v65 val_main_v64 val_main_v63 val_main_v62 val_main_v61 val_main_v60 val_main_v59 val_main_v58 val_main_v57 val_main_v56
    val_main_v55 val_main_v54
  generalize val_main_v53 (F := Ideal) a.x a.mask a.wq a.bq a.wk a.bk a.wv a.bv = u0
  unfold proj ln dev root mean across col scalarCol lin row
  rfl

theorem feed0 : val_main_v136 (F := Ideal) a.x a.mask a.wq a.bq a.wk a.bk a.wv a.bv a.wo a.bo a.l1w a.l1b a.w1 a.b1 a.w2 a.b2 a.l2w a.l2b
    = feed (ops0 a) (val_main_v90 (F := Ideal) a.x a.mask a.wq a.bq a.wk a.bk a.wv a.bv a.wo a.bo a.l1w a.l1b) := by
  unfold val_main_v136 val_main_v135 val_main_v134 val_main_v133 val_main_v132 val_main_v131 val_main_v130 val_main_v129 val_main_v128
    val_main_v127 val_main_v126 val_main_cst_14 val_main_v125 val_main_v124 val_main_v123 val_main_v122 val_main_cst_13 val_main_v121
    val_main_v120 val_main_cst_12 val_main_v119 val_main_v118 val_main_v117 val_main_v116 val_main_v115 val_main_cst_11 val_main_v114
    val_main_v113 val_main_cst_10 val_main_v112 val_main_v111 val_main_v110 val_main_v109 val_main_v108 val_main_v107 val_main_v106
    val_main_v105 val_main_v104 val_main_v103 val_main_v102 val_main_v101 val_main_v100 val_main_v99 val_main_call1_v0 val_main_call1_cst
    val_main_v98 val_main_v97 val_main_v96 val_main_v95 val_main_v94 val_main_v93 val_main_v92 val_main_v91
  generalize val_main_v90 (F := Ideal) a.x a.mask a.wq a.bq a.wk a.bk a.wv a.bv a.wo a.bo a.l1w a.l1b = u0
  unfold feed ffn ln dev root mean across col scalarCol row
  rfl

theorem heads1 : val_main_v182 (F := Ideal) a.x a.mask a.wq a.bq a.wk a.bk a.wv a.bv a.wo a.bo a.l1w a.l1b a.w1 a.b1 a.w2 a.b2 a.l2w a.l2b
    = heads (ops1 a) a.mask
      (val_main_v136 (F := Ideal) a.x a.mask a.wq a.bq a.wk a.bk a.wv a.bv a.wo a.bo a.l1w a.l1b a.w1 a.b1 a.w2 a.b2 a.l2w a.l2b) := by
  unfold val_main_v182 val_main_v181 val_main_v180 val_main_v179 val_main_v178 val_main_v177 val_main_v176 val_main_cst_18 val_main_v175
    val_main_v174 val_main_v173 val_main_v172 val_main_v171 val_main_v170 val_main_cst_17 val_main_v169 val_main_cst_16 val_main_v168
    val_main_call2_v1 val_main_call2_v0 val_main_cst_15 val_main_v167 val_main_v166 val_main_v165 val_main_v164 val_main_v163 val_main_v162
    val_main_v161 val_main_v160 val_main_v159 val_main_v158 val_main_v157 val_main_v156 val_main_v155 val_main_v154 val_main_v153
    val_main_v152 val_main_v151 val_main_v150 val_main_v149 val_main_v148 val_main_v147 val_main_v146 val_main_v145 val_main_v144
    val_main_v143 val_main_v142 val_main_v141 val_main_v140 val_main_v139 val_main_v138 val_main_v137
  generalize val_main_v136 (F := Ideal) a.x a.mask a.wq a.bq a.wk a.bk a.wv a.bv a.wo a.bo a.l1w a.l1b a.w1 a.b1 a.w2 a.b2 a.l2w a.l2b = u0
  unfold heads att softmax exps greatest wide scores cut lin row
  rfl

theorem proj1 : val_main_v219 (F := Ideal) a.x a.mask a.wq a.bq a.wk a.bk a.wv a.bv a.wo a.bo a.l1w a.l1b a.w1 a.b1 a.w2 a.b2 a.l2w a.l2b
    = proj (ops1 a)
      (val_main_v182 (F := Ideal) a.x a.mask a.wq a.bq a.wk a.bk a.wv a.bv a.wo a.bo a.l1w a.l1b a.w1 a.b1 a.w2 a.b2 a.l2w a.l2b)
      (val_main_v136 (F := Ideal) a.x a.mask a.wq a.bq a.wk a.bk a.wv a.bv a.wo a.bo a.l1w a.l1b a.w1 a.b1 a.w2 a.b2 a.l2w a.l2b) := by
  unfold val_main_v219 val_main_v218 val_main_v217 val_main_v216 val_main_v215 val_main_v214 val_main_v213 val_main_v212 val_main_v211
    val_main_v210 val_main_v209 val_main_cst_23 val_main_v208 val_main_v207 val_main_v206 val_main_v205 val_main_cst_22 val_main_v204
    val_main_v203 val_main_cst_21 val_main_v202 val_main_v201 val_main_v200 val_main_v199 val_main_v198 val_main_cst_20 val_main_v197
    val_main_v196 val_main_cst_19 val_main_v195 val_main_v194 val_main_v193 val_main_v192 val_main_v191 val_main_v190 val_main_v189
    val_main_v188 val_main_v187 val_main_v186 val_main_v185 val_main_v184 val_main_v183
  generalize val_main_v182 (F := Ideal) a.x a.mask a.wq a.bq a.wk a.bk a.wv a.bv a.wo a.bo a.l1w a.l1b a.w1 a.b1 a.w2 a.b2 a.l2w a.l2b = u0
  generalize val_main_v136 (F := Ideal) a.x a.mask a.wq a.bq a.wk a.bk a.wv a.bv a.wo a.bo a.l1w a.l1b a.w1 a.b1 a.w2 a.b2 a.l2w a.l2b = u1
  unfold proj ln dev root mean across col scalarCol lin row
  rfl

theorem feed1 : val_main_v265 (F := Ideal) a.x a.mask a.wq a.bq a.wk a.bk a.wv a.bv a.wo a.bo a.l1w a.l1b a.w1 a.b1 a.w2 a.b2 a.l2w a.l2b
    = feed (ops1 a)
      (val_main_v219 (F := Ideal) a.x a.mask a.wq a.bq a.wk a.bk a.wv a.bv a.wo a.bo a.l1w a.l1b a.w1 a.b1 a.w2 a.b2 a.l2w a.l2b) := by
  unfold val_main_v265 val_main_v264 val_main_v263 val_main_v262 val_main_v261 val_main_v260 val_main_v259 val_main_v258 val_main_v257
    val_main_v256 val_main_v255 val_main_cst_28 val_main_v254 val_main_v253 val_main_v252 val_main_v251 val_main_cst_27 val_main_v250
    val_main_v249 val_main_cst_26 val_main_v248 val_main_v247 val_main_v246 val_main_v245 val_main_v244 val_main_cst_25 val_main_v243
    val_main_v242 val_main_cst_24 val_main_v241 val_main_v240 val_main_v239 val_main_v238 val_main_v237 val_main_v236 val_main_v235
    val_main_v234 val_main_v233 val_main_v232 val_main_v231 val_main_v230 val_main_v229 val_main_v228 val_main_call3_v0 val_main_call3_cst
    val_main_v227 val_main_v226 val_main_v225 val_main_v224 val_main_v223 val_main_v222 val_main_v221 val_main_v220
  generalize val_main_v219 (F := Ideal) a.x a.mask a.wq a.bq a.wk a.bk a.wv a.bv a.wo a.bo a.l1w a.l1b a.w1 a.b1 a.w2 a.b2 a.l2w a.l2b = u0
  unfold feed ffn ln dev root mean across col scalarCol row
  rfl

theorem last : val_main_v289 (F := Ideal) a.x a.mask a.wq a.bq a.wk a.bk a.wv a.bv a.wo a.bo a.l1w a.l1b a.w1 a.b1 a.w2 a.b2 a.l2w a.l2b a.fw a.fb
    = ln
      (val_main_v265 (F := Ideal) a.x a.mask a.wq a.bq a.wk a.bk a.wv a.bv a.wo a.bo a.l1w a.l1b a.w1 a.b1 a.w2 a.b2 a.l2w a.l2b)
      a.fw a.fb := by
  unfold val_main_v289 val_main_v288 val_main_v287 val_main_v286 val_main_v285 val_main_v284 val_main_v283 val_main_v282 val_main_v281
    val_main_v280 val_main_v279 val_main_cst_33 val_main_v278 val_main_v277 val_main_v276 val_main_v275 val_main_cst_32 val_main_v274
    val_main_v273 val_main_cst_31 val_main_v272 val_main_v271 val_main_v270 val_main_v269 val_main_v268 val_main_cst_30 val_main_v267
    val_main_v266 val_main_cst_29
  generalize val_main_v265 (F := Ideal) a.x a.mask a.wq a.bq a.wk a.bk a.wv a.bv a.wo a.bo a.l1w a.l1b a.w1 a.b1 a.w2 a.b2 a.l2w a.l2b = u0
  unfold ln dev root mean across col scalarCol row
  rfl

end

/-! ## Of real numbers -/

/-- The operands hold the weights. -/
structure Ops.Real (o : Ops) (W : Spec.Weights) : Prop where
  wq : ∀ k c, o.wq (ix2 k c) = (W.wq k c : EReal)
  wk : ∀ k c, o.wk (ix2 k c) = (W.wk k c : EReal)
  wv : ∀ k c, o.wv (ix2 k c) = (W.wv k c : EReal)
  wo : ∀ k c, o.wo (ix2 k c) = (W.wo k c : EReal)
  bq : ∀ c, o.bq (ix1 c) = (W.bq c : EReal)
  bk : ∀ c, o.bk (ix1 c) = (W.bk c : EReal)
  bv : ∀ c, o.bv (ix1 c) = (W.bv c : EReal)
  bo : ∀ c, o.bo (ix1 c) = (W.bo c : EReal)
  l1w : ∀ c, o.l1w (ix1 c) = (W.l1w c : EReal)
  l1b : ∀ c, o.l1b (ix1 c) = (W.l1b c : EReal)
  w1 : ∀ k c, o.w1 (ix2 k c) = (W.w1 k c : EReal)
  b1 : ∀ c, o.b1 (ix1 c) = (W.b1 c : EReal)
  w2 : ∀ k c, o.w2 (ix2 k c) = (W.w2 k c : EReal)
  b2 : ∀ c, o.b2 (ix1 c) = (W.b2 c : EReal)
  l2w : ∀ c, o.l2w (ix1 c) = (W.l2w c : EReal)
  l2b : ∀ c, o.l2b (ix1 c) = (W.l2b c : EReal)

theorem layer_real {o : Ops} {W : Spec.Weights} (ho : o.Real W) {x1 : IVec S1x2048 32} (h1 : ∀ t, x1 (ix2 0 t) = 1#32)
    {x : V S1x2048x1024} {X : Fin 2048 → Fin 1024 → ℝ} (hx : ∀ r c, x (ix3 0 r c) = (X r c : EReal)) (r : Fin 2048) (c : Fin 1024) :
    layer o x1 x (ix3 0 r c) = (Spec.layer W X r c : ℝ) := by
  have hh (r : Fin 2048) (c : Fin 1024) : heads o x1 x (ix3 0 r c) = (Spec.heads W X r c : ℝ) :=
    att_real h1 (lin_real hx ho.wq ho.bq) (lin_real hx ho.wk ho.bk) (lin_real hx ho.wv ho.bv) r c
  have hs (r : Fin 2048) (c : Fin 1024) : addf x (lin (heads o x1 x) o.wo o.bo) (ix3 0 r c)
      = ((X r c + Spec.lin (Spec.heads W X r) W.wo W.bo c : ℝ) : EReal) := by
    rw [addf_apply, lin_real hh ho.wo ho.bo, hx]
    exact (EReal.coe_add _ _).symm
  have hp (r : Fin 2048) (c : Fin 1024) : proj o (heads o x1 x) x (ix3 0 r c) = (Spec.proj W (Spec.heads W X r) (X r) c : ℝ) :=
    ln_real hs ho.l1w ho.l1b r c
  exact ln_real (ffn_real hp ho.w1 ho.b1 ho.w2 ho.b2) ho.l2w ho.l2b r c

section
variable (x : FVec Ideal S2x1024x1024 .f32) (b : FVec Ideal S2x1024 .f32) (f : FVec Ideal S2x1024x4096 .f32) (fb : FVec Ideal S2x4096 .f32)
  (g : FVec Ideal S2x4096x1024 .f32)

theorem sq0 (k c : Fin 1024) : val_main_v9 (F := Ideal) x (ix2 k c) = x (ix3 0 k c) := by pointwise [val_main_v9, val_main_v8]
theorem sq1 (k c : Fin 1024) : val_main_v138 (F := Ideal) x (ix2 k c) = x (ix3 1 k c) := by pointwise [val_main_v138, val_main_v137]
theorem row0 (c : Fin 1024) : val_main_v12 (F := Ideal) b (ix1 c) = b (ix2 0 c) := by pointwise [val_main_v12, val_main_v11]
theorem row1 (c : Fin 1024) : val_main_v141 (F := Ideal) b (ix1 c) = b (ix2 1 c) := by pointwise [val_main_v141, val_main_v140]
theorem up0 (k : Fin 1024) (c : Fin 4096) : val_main_v92 (F := Ideal) f (ix2 k c) = f (ix3 0 k c) := by pointwise [val_main_v92, val_main_v91]
theorem up1 (k : Fin 1024) (c : Fin 4096) : val_main_v221 (F := Ideal) f (ix2 k c) = f (ix3 1 k c) := by pointwise [val_main_v221, val_main_v220]
theorem long0 (c : Fin 4096) : val_main_v95 (F := Ideal) fb (ix1 c) = fb (ix2 0 c) := by pointwise [val_main_v95, val_main_v94]
theorem long1 (c : Fin 4096) : val_main_v224 (F := Ideal) fb (ix1 c) = fb (ix2 1 c) := by pointwise [val_main_v224, val_main_v223]
theorem down0 (k : Fin 4096) (c : Fin 1024) : val_main_v101 (F := Ideal) g (ix2 k c) = g (ix3 0 k c) := by pointwise [val_main_v101, val_main_v100]
theorem down1 (k : Fin 4096) (c : Fin 1024) : val_main_v230 (F := Ideal) g (ix2 k c) = g (ix3 1 k c) := by pointwise [val_main_v230, val_main_v229]

end

section
variable {a : Spec.Args} (h : a.Real)
include h

theorem ops0_real : (ops0 a).Real (a.weights 0) where
  wq k c := (sq0 _ k c).trans (h.wq _)
  wk k c := (sq0 _ k c).trans (h.wk _)
  wv k c := (sq0 _ k c).trans (h.wv _)
  wo k c := (sq0 _ k c).trans (h.wo _)
  bq c := (row0 _ c).trans (h.bq _)
  bk c := (row0 _ c).trans (h.bk _)
  bv c := (row0 _ c).trans (h.bv _)
  bo c := (row0 _ c).trans (h.bo _)
  l1w c := (row0 _ c).trans (h.l1w _)
  l1b c := (row0 _ c).trans (h.l1b _)
  w1 k c := (up0 _ k c).trans (h.w1 _)
  b1 c := (long0 _ c).trans (h.b1 _)
  w2 k c := (down0 _ k c).trans (h.w2 _)
  b2 c := (row0 _ c).trans (h.b2 _)
  l2w c := (row0 _ c).trans (h.l2w _)
  l2b c := (row0 _ c).trans (h.l2b _)

theorem ops1_real : (ops1 a).Real (a.weights 1) where
  wq k c := (sq1 _ k c).trans (h.wq _)
  wk k c := (sq1 _ k c).trans (h.wk _)
  wv k c := (sq1 _ k c).trans (h.wv _)
  wo k c := (sq1 _ k c).trans (h.wo _)
  bq c := (row1 _ c).trans (h.bq _)
  bk c := (row1 _ c).trans (h.bk _)
  bv c := (row1 _ c).trans (h.bv _)
  bo c := (row1 _ c).trans (h.bo _)
  l1w c := (row1 _ c).trans (h.l1w _)
  l1b c := (row1 _ c).trans (h.l1b _)
  w1 k c := (up1 _ k c).trans (h.w1 _)
  b1 c := (long1 _ c).trans (h.b1 _)
  w2 k c := (down1 _ k c).trans (h.w2 _)
  b2 c := (row1 _ c).trans (h.b2 _)
  l2w c := (row1 _ c).trans (h.l2w _)
  l2b c := (row1 _ c).trans (h.l2b _)

/-- The reference's result. -/
theorem result_apply (r : Fin 2048) (c : Fin 1024) :
    val_main_v289 (F := Ideal) a.x a.mask a.wq a.bq a.wk a.bk a.wv a.bv a.wo a.bo a.l1w a.l1b a.w1 a.b1 a.w2 a.b2 a.l2w a.l2b a.fw a.fb
      (ix3 0 r c) = a.result r c := by
  rw [last, feed1, proj1, heads1, feed0, proj0, heads0]
  exact ln_normed (layer_real (ops1_real h) (fun t => h.mask _) (layer_real (ops0_real h) (fun t => h.mask _) fun r c => h.x _)) a.fw a.fb r c

end

end Cert.ReferenceIdeal.Stages

end
-- ==== Proof.lean ====
/- The claims of the certificate, each from the module that proves it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_unmasked_finite
public import proofs.«01_k».proof.Proof.Run
public import proofs.«01_k».proof.Proof.Words
public import proofs.«01_k».proof.Proof.Gen.Own.KernelIdeal.K1.Frame
public import proofs.«01_k».proof.Proof.Gen.Own.KernelIdeal.K2.Frame
public import proofs.«01_k».proof.Proof.Gen.Own.KernelIdeal.K4.Frame
public import proofs.«01_k».proof.Proof.Gen.Own.KernelIdeal.K5.Frame
public import proofs.«01_k».proof.Proof.Host
public import proofs.«01_k».proof.Proof.Pre
public import proofs.«01_k».proof.Proof.RefLayer

@[expose] public section

set_option maxRecDepth 16384

noncomputable section

namespace Cert.Proof

open Idealize.ShloMosaic Idealize.ShloMosaic.TcCoe Idealize.SL.Sem Idealize.ShloMosaic.StableHlo

/-- The idealized kernel ends with its arguments unchanged and every counter at zero. -/
theorem frame_KernelIdeal : Cert.quiescent_KernelIdeal := fun m ρ _ => Words.ends m ρ

/-- The reference's generated run read at its arguments; it declares no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values -/

/-- The arguments that the reference is launched with. -/
def refArgs (m : (ℓ : Loc Cert.ReferenceIdeal.nD Cert.ReferenceIdeal.τ Cert.ReferenceIdeal.sig) → Buf (Elt Ideal) ℓ) (c : Dev Cert.ReferenceIdeal.nD) : Spec.Args where
  x := m ((c : Thread Cert.ReferenceIdeal.nD Cert.ReferenceIdeal.τ).loc Cert.ReferenceIdeal.main_arg0)
  mask := m ((c : Thread Cert.ReferenceIdeal.nD Cert.ReferenceIdeal.τ).loc Cert.ReferenceIdeal.main_arg1)
  wq := m ((c : Thread Cert.ReferenceIdeal.nD Cert.ReferenceIdeal.τ).loc Cert.ReferenceIdeal.main_arg2)
  bq := m ((c : Thread Cert.ReferenceIdeal.nD Cert.ReferenceIdeal.τ).loc Cert.ReferenceIdeal.main_arg3)
  wk := m ((c : Thread Cert.ReferenceIdeal.nD Cert.ReferenceIdeal.τ).loc Cert.ReferenceIdeal.main_arg4)
  bk := m ((c : Thread Cert.ReferenceIdeal.nD Cert.ReferenceIdeal.τ).loc Cert.ReferenceIdeal.main_arg5)
  wv := m ((c : Thread Cert.ReferenceIdeal.nD Cert.ReferenceIdeal.τ).loc Cert.ReferenceIdeal.main_arg6)
  bv := m ((c : Thread Cert.ReferenceIdeal.nD Cert.ReferenceIdeal.τ).loc Cert.ReferenceIdeal.main_arg7)
  wo := m ((c : Thread Cert.ReferenceIdeal.nD Cert.ReferenceIdeal.τ).loc Cert.ReferenceIdeal.main_arg8)
  bo := m ((c : Thread Cert.ReferenceIdeal.nD Cert.ReferenceIdeal.τ).loc Cert.ReferenceIdeal.main_arg9)
  l1w := m ((c : Thread Cert.ReferenceIdeal.nD Cert.ReferenceIdeal.τ).loc Cert.ReferenceIdeal.main_arg10)
  l1b := m ((c : Thread Cert.ReferenceIdeal.nD Cert.ReferenceIdeal.τ).loc Cert.ReferenceIdeal.main_arg11)
  w1 := m ((c : Thread Cert.ReferenceIdeal.nD Cert.ReferenceIdeal.τ).loc Cert.ReferenceIdeal.main_arg12)
  b1 := m ((c : Thread Cert.ReferenceIdeal.nD Cert.ReferenceIdeal.τ).loc Cert.ReferenceIdeal.main_arg13)
  w2 := m ((c : Thread Cert.ReferenceIdeal.nD Cert.ReferenceIdeal.τ).loc Cert.ReferenceIdeal.main_arg14)
  b2 := m ((c : Thread Cert.ReferenceIdeal.nD Cert.ReferenceIdeal.τ).loc Cert.ReferenceIdeal.main_arg15)
  l2w := m ((c : Thread Cert.ReferenceIdeal.nD Cert.ReferenceIdeal.τ).loc Cert.ReferenceIdeal.main_arg16)
  l2b := m ((c : Thread Cert.ReferenceIdeal.nD Cert.ReferenceIdeal.τ).loc Cert.ReferenceIdeal.main_arg17)
  fw := m ((c : Thread Cert.ReferenceIdeal.nD Cert.ReferenceIdeal.τ).loc Cert.ReferenceIdeal.main_arg18)
  fb := m ((c : Thread Cert.ReferenceIdeal.nD Cert.ReferenceIdeal.τ).loc Cert.ReferenceIdeal.main_arg19)

/-- The reference's result is the kernel's, of arguments that the precondition holds of. -/
theorem same_result (m : (ℓ : Loc Cert.KernelIdeal.nD Cert.KernelIdeal.τ Cert.KernelIdeal.sig) → Buf (Elt Ideal) ℓ) (c : Dev Cert.KernelIdeal.nD)
    (h : (Cert.KernelIdeal.Run.argsOf m c).Real) (a : Spec.Args) (ha : a = Cert.KernelIdeal.Run.argsOf m c) :
    Cert.ReferenceIdeal.Read.val_main_v289 (F := Ideal) a.x a.mask a.wq a.bq a.wk a.bk a.wv a.bv a.wo a.bo a.l1w a.l1b a.w1 a.b1 a.w2 a.b2 a.l2w a.l2b a.fw a.fb
      = Cert.KernelIdeal.Run.U13 m c Cert.KernelIdeal.main_v93 := by
  subst ha
  funext i
  idx_vars i
  obtain rfl : i0 = 0 := Subsingleton.elim _ _
  exact (Cert.ReferenceIdeal.Stages.result_apply h i1 i2).trans (Cert.KernelIdeal.Run.result h i1 i2).symm

theorem values : Cert.algebraic_KernelIdeal_ReferenceIdeal_pre_unmasked_finite := fun m g m' g' hpre hargs => by
  have hreal (c) : (Cert.KernelIdeal.Run.argsOf m c).Real := Cert.Pre_unmasked_finite.real_of_pre (hpre c)
  have hsame (c) : refArgs m' c = Cert.KernelIdeal.Run.argsOf m c := by
    unfold refArgs Cert.KernelIdeal.Run.argsOf
    rw [Spec.Args.mk.injEq]
    exact hargs c
  refine ⟨fun c => Cert.KernelIdeal.Run.U13 m c Cert.KernelIdeal.main_v93, ?_, ?_⟩
  · refine (θ_run Cert.KernelIdeal.defs _ _).mono (fun r h c => ⟨(h.1 c).2, ?_⟩) (Cert.KernelIdeal.Run.run (F := Ideal) m g)
    have h := (h.1 c).1
    repeat' apply And.intro
    all_goals exact h _ (by decide)
  · exact (θ_run Cert.ReferenceIdeal.defs _ _).mono (fun r h c => ⟨(h c).1.trans ((Cert.ReferenceIdeal.Read.val_main_v289_eq (launchContents m' c)).trans
      (same_result m c (hreal c) (refArgs m' c) (hsame c))), (h c).2⟩) (Cert.ReferenceIdeal.Value.run (F := Ideal) m' g')

theorem claim : Cert.Claim :=
  ⟨Cert.Kernel.Gen.facts, Cert.KernelIdeal.Gen.facts, Cert.ReferenceIdeal.Gen.facts, Cert.Pre_unmasked_finite.Gen.facts, Words.frame_Kernel,
    frame_KernelIdeal, fun m g _ => frame_KernelIdeal m g trivial, frame_ReferenceIdeal, fun m g _ => frame_ReferenceIdeal m g trivial, trivial, values⟩

end Cert.Proof

end
